-- ==== Defs.lean ====
def Pre_StageOne (m : (ℓ : Loc Cert.StageOne.nD Cert.StageOne.τ Cert.StageOne.sig) → Buf (Elt Bits) ℓ) : Prop :=
  True

def Pre_StageTwo [hPre_in_range : Cert.Pre_in_range.Facts] (m : (ℓ : Loc Cert.StageTwo.nD Cert.StageTwo.τ Cert.StageTwo.sig) → Buf (Elt Bits) ℓ) : Prop :=
  ∀ c : Dev Cert.StageTwo.nD,
    (Cert.Pre_in_range.fn (F := Bits) (m ((c.tc : Thread Cert.StageTwo.nD Cert.StageTwo.τ).loc Cert.StageTwo.main_arg0)) (m ((c.tc : Thread Cert.StageTwo.nD Cert.StageTwo.τ).loc Cert.StageTwo.main_arg1)) (m ((c.tc : Thread Cert.StageTwo.nD Cert.StageTwo.τ).loc Cert.StageTwo.main_arg2)) (m ((c.tc : Thread Cert.StageTwo.nD Cert.StageTwo.τ).loc Cert.StageTwo.main_arg3)) (m ((c.tc : Thread Cert.StageTwo.nD Cert.StageTwo.τ).loc Cert.StageTwo.main_arg4)) (m ((c.tc : Thread Cert.StageTwo.nD Cert.StageTwo.τ).loc Cert.StageTwo.main_arg5)) (m ((c.tc : Thread Cert.StageTwo.nD Cert.StageTwo.τ).loc Cert.StageTwo.main_arg6)) (m ((c.tc : Thread Cert.StageTwo.nD Cert.StageTwo.τ).loc Cert.StageTwo.main_arg7))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_StageOneIdeal (m : (ℓ : Loc Cert.StageOneIdeal.nD Cert.StageOneIdeal.τ Cert.StageOneIdeal.sig) → Buf (Elt Ideal) ℓ) : Prop :=
  True

def Pre_StageTwoIdeal [hPre_in_range : Cert.Pre_in_range.Facts] (m : (ℓ : Loc Cert.StageTwoIdeal.nD Cert.StageTwoIdeal.τ Cert.StageTwoIdeal.sig) → Buf (Elt Ideal) ℓ) : Prop :=
  ∀ c : Dev Cert.StageTwoIdeal.nD,
    (Cert.Pre_in_range.fn (F := Ideal) (m ((c.tc : Thread Cert.StageTwoIdeal.nD Cert.StageTwoIdeal.τ).loc Cert.StageTwoIdeal.main_arg0)) (m ((c.tc : Thread Cert.StageTwoIdeal.nD Cert.StageTwoIdeal.τ).loc Cert.StageTwoIdeal.main_arg1)) (m ((c.tc : Thread Cert.StageTwoIdeal.nD Cert.StageTwoIdeal.τ).loc Cert.StageTwoIdeal.main_arg2)) (m ((c.tc : Thread Cert.StageTwoIdeal.nD Cert.StageTwoIdeal.τ).loc Cert.StageTwoIdeal.main_arg3)) (m ((c.tc : Thread Cert.StageTwoIdeal.nD Cert.StageTwoIdeal.τ).loc Cert.StageTwoIdeal.main_arg4)) (m ((c.tc : Thread Cert.StageTwoIdeal.nD Cert.StageTwoIdeal.τ).loc Cert.StageTwoIdeal.main_arg5)) (m ((c.tc : Thread Cert.StageTwoIdeal.nD Cert.StageTwoIdeal.τ).loc Cert.StageTwoIdeal.main_arg6)) (m ((c.tc : Thread Cert.StageTwoIdeal.nD Cert.StageTwoIdeal.τ).loc Cert.StageTwoIdeal.main_arg7))) = (fun _ => 1#1)

def quiescent_StageOne [hStageOne : Cert.StageOne.Facts] : Prop :=
  ∀ (m : (ℓ : Loc Cert.StageOne.nD Cert.StageOne.τ Cert.StageOne.sig) → Buf (Elt Bits) ℓ) (g : Dev Cert.StageOne.nD → PrngReg), Pre_StageOne m →
    θ_run (Cert.StageOne.defs (F := Bits)) (onTc (τ := Cert.StageOne.τ) (Cert.StageOne.main (F := Bits))) ⟨m, fun _ => 0, g⟩ (fun r => (∀ c : Dev Cert.StageOne.nD,
      r.2.mem ((c.tc : Thread Cert.StageOne.nD Cert.StageOne.τ).loc Cert.StageOne.main_arg0) = m ((c.tc : Thread Cert.StageOne.nD Cert.StageOne.τ).loc Cert.StageOne.main_arg0)
      ∧ r.2.mem ((c.tc : Thread Cert.StageOne.nD Cert.StageOne.τ).loc Cert.StageOne.main_arg1) = m ((c.tc : Thread Cert.StageOne.nD Cert.StageOne.τ).loc Cert.StageOne.main_arg1)
      ∧ r.2.mem ((c.tc : Thread Cert.StageOne.nD Cert.StageOne.τ).loc Cert.StageOne.main_arg2) = m ((c.tc : Thread Cert.StageOne.nD Cert.StageOne.τ).loc Cert.StageOne.main_arg2)
      ∧ r.2.mem ((c.tc : Thread Cert.StageOne.nD Cert.StageOne.τ).loc Cert.StageOne.main_arg3) = m ((c.tc : Thread Cert.StageOne.nD Cert.StageOne.τ).loc Cert.StageOne.main_arg3)
      ∧ r.2.mem ((c.tc : Thread Cert.StageOne.nD Cert.StageOne.τ).loc Cert.StageOne.main_arg4) = m ((c.tc : Thread Cert.StageOne.nD Cert.StageOne.τ).loc Cert.StageOne.main_arg4)
      ∧ r.2.mem ((c.tc : Thread Cert.StageOne.nD Cert.StageOne.τ).loc Cert.StageOne.main_arg5) = m ((c.tc : Thread Cert.StageOne.nD Cert.StageOne.τ).loc Cert.StageOne.main_arg5)
      ∧ r.2.mem ((c.tc : Thread Cert.StageOne.nD Cert.StageOne.τ).loc Cert.StageOne.main_arg6) = m ((c.tc : Thread Cert.StageOne.nD Cert.StageOne.τ).loc Cert.StageOne.main_arg6))
      ∧ r.2.sem = fun _ => 0)

def quiescent_StageTwo [hStageTwo : Cert.StageTwo.Facts] [hPre_in_range : Cert.Pre_in_range.Facts] : Prop :=
  ∀ (m : (ℓ : Loc Cert.StageTwo.nD Cert.StageTwo.τ Cert.StageTwo.sig) → Buf (Elt Bits) ℓ) (g : Dev Cert.StageTwo.nD → PrngReg), Pre_StageTwo m →
    θ_run (Cert.StageTwo.defs (F := Bits)) (onTc (τ := Cert.StageTwo.τ) (Cert.StageTwo.main (F := Bits))) ⟨m, fun _ => 0, g⟩ (fun r => (∀ c : Dev Cert.StageTwo.nD,
      r.2.mem ((c.tc : Thread Cert.StageTwo.nD Cert.StageTwo.τ).loc Cert.StageTwo.main_arg0) = m ((c.tc : Thread Cert.StageTwo.nD Cert.StageTwo.τ).loc Cert.StageTwo.main_arg0)
      ∧ r.2.mem ((c.tc : Thread Cert.StageTwo.nD Cert.StageTwo.τ).loc Cert.StageTwo.main_arg1) = m ((c.tc : Thread Cert.StageTwo.nD Cert.StageTwo.τ).loc Cert.StageTwo.main_arg1)
      ∧ r.2.mem ((c.tc : Thread Cert.StageTwo.nD Cert.StageTwo.τ).loc Cert.StageTwo.main_arg2) = m ((c.tc : Thread Cert.StageTwo.nD Cert.StageTwo.τ).loc Cert.StageTwo.main_arg2)
      ∧ r.2.mem ((c.tc : Thread Cert.StageTwo.nD Cert.StageTwo.τ).loc Cert.StageTwo.main_arg3) = m ((c.tc : Thread Cert.StageTwo.nD Cert.StageTwo.τ).loc Cert.StageTwo.main_arg3)
      ∧ r.2.mem ((c.tc : Thread Cert.StageTwo.nD Cert.StageTwo.τ).loc Cert.StageTwo.main_arg4) = m ((c.tc : Thread Cert.StageTwo.nD Cert.StageTwo.τ).loc Cert.StageTwo.main_arg4)
      ∧ r.2.mem ((c.tc : Thread Cert.StageTwo.nD Cert.StageTwo.τ).loc Cert.StageTwo.main_arg5) = m ((c.tc : Thread Cert.StageTwo.nD Cert.StageTwo.τ).loc Cert.StageTwo.main_arg5)
      ∧ r.2.mem ((c.tc : Thread Cert.StageTwo.nD Cert.StageTwo.τ).loc Cert.StageTwo.main_arg6) = m ((c.tc : Thread Cert.StageTwo.nD Cert.StageTwo.τ).loc Cert.StageTwo.main_arg6)
      ∧ r.2.mem ((c.tc : Thread Cert.StageTwo.nD Cert.StageTwo.τ).loc Cert.StageTwo.main_arg7) = m ((c.tc : Thread Cert.StageTwo.nD Cert.StageTwo.τ).loc Cert.StageTwo.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_StageOneIdeal [hStageOneIdeal : Cert.StageOneIdeal.Facts] : Prop :=
  ∀ (m : (ℓ : Loc Cert.StageOneIdeal.nD Cert.StageOneIdeal.τ Cert.StageOneIdeal.sig) → Buf (Elt Ideal) ℓ) (g : Dev Cert.StageOneIdeal.nD → PrngReg), Pre_StageOneIdeal m →
    θ_run (Cert.StageOneIdeal.defs (F := Ideal)) (onTc (τ := Cert.StageOneIdeal.τ) (Cert.StageOneIdeal.main (F := Ideal))) ⟨m, fun _ => 0, g⟩ (fun r => (∀ c : Dev Cert.StageOneIdeal.nD,
      r.2.mem ((c.tc : Thread Cert.StageOneIdeal.nD Cert.StageOneIdeal.τ).loc Cert.StageOneIdeal.main_arg0) = m ((c.tc : Thread Cert.StageOneIdeal.nD Cert.StageOneIdeal.τ).loc Cert.StageOneIdeal.main_arg0)
      ∧ r.2.mem ((c.tc : Thread Cert.StageOneIdeal.nD Cert.StageOneIdeal.τ).loc Cert.StageOneIdeal.main_arg1) = m ((c.tc : Thread Cert.StageOneIdeal.nD Cert.StageOneIdeal.τ).loc Cert.StageOneIdeal.main_arg1)
      ∧ r.2.mem ((c.tc : Thread Cert.StageOneIdeal.nD Cert.StageOneIdeal.τ).loc Cert.StageOneIdeal.main_arg2) = m ((c.tc : Thread Cert.StageOneIdeal.nD Cert.StageOneIdeal.τ).loc Cert.StageOneIdeal.main_arg2)
      ∧ r.2.mem ((c.tc : Thread Cert.StageOneIdeal.nD Cert.StageOneIdeal.τ).loc Cert.StageOneIdeal.main_arg3) = m ((c.tc : Thread Cert.StageOneIdeal.nD Cert.StageOneIdeal.τ).loc Cert.StageOneIdeal.main_arg3)
      ∧ r.2.mem ((c.tc : Thread Cert.StageOneIdeal.nD Cert.StageOneIdeal.τ).loc Cert.StageOneIdeal.main_arg4) = m ((c.tc : Thread Cert.StageOneIdeal.nD Cert.StageOneIdeal.τ).loc Cert.StageOneIdeal.main_arg4)
      ∧ r.2.mem ((c.tc : Thread Cert.StageOneIdeal.nD Cert.StageOneIdeal.τ).loc Cert.StageOneIdeal.main_arg5) = m ((c.tc : Thread Cert.StageOneIdeal.nD Cert.StageOneIdeal.τ).loc Cert.StageOneIdeal.main_arg5)
      ∧ r.2.mem ((c.tc : Thread Cert.StageOneIdeal.nD Cert.StageOneIdeal.τ).loc Cert.StageOneIdeal.main_arg6) = m ((c.tc : Thread Cert.StageOneIdeal.nD Cert.StageOneIdeal.τ).loc Cert.StageOneIdeal.main_arg6))
      ∧ r.2.sem = fun _ => 0)

def quiescent_StageTwoIdeal [hStageTwoIdeal : Cert.StageTwoIdeal.Facts] [hPre_in_range : Cert.Pre_in_range.Facts] : Prop :=
  ∀ (m : (ℓ : Loc Cert.StageTwoIdeal.nD Cert.StageTwoIdeal.τ Cert.StageTwoIdeal.sig) → Buf (Elt Ideal) ℓ) (g : Dev Cert.StageTwoIdeal.nD → PrngReg), Pre_StageTwoIdeal m →
    θ_run (Cert.StageTwoIdeal.defs (F := Ideal)) (onTc (τ := Cert.StageTwoIdeal.τ) (Cert.StageTwoIdeal.main (F := Ideal))) ⟨m, fun _ => 0, g⟩ (fun r => (∀ c : Dev Cert.StageTwoIdeal.nD,
      r.2.mem ((c.tc : Thread Cert.StageTwoIdeal.nD Cert.StageTwoIdeal.τ).loc Cert.StageTwoIdeal.main_arg0) = m ((c.tc : Thread Cert.StageTwoIdeal.nD Cert.StageTwoIdeal.τ).loc Cert.StageTwoIdeal.main_arg0)
      ∧ r.2.mem ((c.tc : Thread Cert.StageTwoIdeal.nD Cert.StageTwoIdeal.τ).loc Cert.StageTwoIdeal.main_arg1) = m ((c.tc : Thread Cert.StageTwoIdeal.nD Cert.StageTwoIdeal.τ).loc Cert.StageTwoIdeal.main_arg1)
      ∧ r.2.mem ((c.tc : Thread Cert.StageTwoIdeal.nD Cert.StageTwoIdeal.τ).loc Cert.StageTwoIdeal.main_arg2) = m ((c.tc : Thread Cert.StageTwoIdeal.nD Cert.StageTwoIdeal.τ).loc Cert.StageTwoIdeal.main_arg2)
      ∧ r.2.mem ((c.tc : Thread Cert.StageTwoIdeal.nD Cert.StageTwoIdeal.τ).loc Cert.StageTwoIdeal.main_arg3) = m ((c.tc : Thread Cert.StageTwoIdeal.nD Cert.StageTwoIdeal.τ).loc Cert.StageTwoIdeal.main_arg3)
      ∧ r.2.mem ((c.tc : Thread Cert.StageTwoIdeal.nD Cert.StageTwoIdeal.τ).loc Cert.StageTwoIdeal.main_arg4) = m ((c.tc : Thread Cert.StageTwoIdeal.nD Cert.StageTwoIdeal.τ).loc Cert.StageTwoIdeal.main_arg4)
      ∧ r.2.mem ((c.tc : Thread Cert.StageTwoIdeal.nD Cert.StageTwoIdeal.τ).loc Cert.StageTwoIdeal.main_arg5) = m ((c.tc : Thread Cert.StageTwoIdeal.nD Cert.StageTwoIdeal.τ).loc Cert.StageTwoIdeal.main_arg5)
      ∧ r.2.mem ((c.tc : Thread Cert.StageTwoIdeal.nD Cert.StageTwoIdeal.τ).loc Cert.StageTwoIdeal.main_arg6) = m ((c.tc : Thread Cert.StageTwoIdeal.nD Cert.StageTwoIdeal.τ).loc Cert.StageTwoIdeal.main_arg6)
      ∧ r.2.mem ((c.tc : Thread Cert.StageTwoIdeal.nD Cert.StageTwoIdeal.τ).loc Cert.StageTwoIdeal.main_arg7) = m ((c.tc : Thread Cert.StageTwoIdeal.nD Cert.StageTwoIdeal.τ).loc Cert.StageTwoIdeal.main_arg7))
      ∧ r.2.sem = fun _ => 0)

def preserves_StageOne_StageOneIdeal : Prop :=
  True

def preserves_StageTwo_StageTwoIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hStageOne : Cert.StageOne.Facts) (hStageTwo : Cert.StageTwo.Facts) (hKernelIdeal : Cert.KernelIdeal.Facts) (hReferenceIdeal : Cert.ReferenceIdeal.Facts) (hStageOneIdeal : Cert.StageOneIdeal.Facts) (hStageTwoIdeal : Cert.StageTwoIdeal.Facts) (hPre_in_range : Cert.Pre_in_range.Facts) (hPre_finite : Cert.Pre_finite.Facts),
    quiescent_StageOne (hStageOne := hStageOne)
    ∧ quiescent_StageTwo (hStageTwo := hStageTwo) (hPre_in_range := hPre_in_range)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_StageOneIdeal (hStageOneIdeal := hStageOneIdeal)
    ∧ quiescent_StageTwoIdeal (hStageTwoIdeal := hStageTwoIdeal) (hPre_in_range := hPre_in_range)
    ∧ preserves_StageOne_StageOneIdeal
    ∧ preserves_StageTwo_StageTwoIdeal
    ∧ algebraic_KernelIdeal_ReferenceIdeal_pre_finite (hKernelIdeal := hKernelIdeal) (hReferenceIdeal := hReferenceIdeal) (hPre_finite := hPre_finite)
-- ==== Pre_finite.lean ====
abbrev S512x64 : Shape := ⟨2, ![512, 64]⟩
abbrev S71x256x64 : Shape := ⟨3, ![71, 256, 64]⟩
abbrev S64x64 : Shape := ⟨2, ![64, 64]⟩
abbrev S64 : Shape := ⟨1, ![64]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S71x256x64 : S_.BroadcastsInDim S71x256x64 (![] : Fin 0 → Fin S71x256x64.rank)
  reducesTo_S71x256x64_S_d0_1_2 : S71x256x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64x64 .f32) (main_arg11 : FVec F S64x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg11
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S512x64 .f32) (main_arg1 : FVec F S71x256x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S71x256x64 .f32 := Host.absf main_arg1
  let main_cst_0 : FVec F S_ .f32 := constant S_ .f32 0x7F800000#32
  let main_v5 : FVec F S71x256x64 .f32 := broadcastInDim S71x256x64 ![] bcast_S_S71x256x64 main_cst_0
  let main_v6 : IVec S71x256x64 1 := cmpf .olt main_v4 main_v5
  let main_c_1 : IVec S_ 1 := constantI S_ 1 1#1
  let main_v7 : IVec S_ 1 := (fun x v => Host.reduce IntOp.andi x v reducesTo_S71x256x64_S_d0_1_2 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg11 main_v13 main_v16
-- ==== Pre_in_range.lean ====
abbrev S512x4 : Shape := ⟨2, ![512, 4]⟩
abbrev S2048x64 : Shape := ⟨2, ![2048, 64]⟩
abbrev S18176x64 : Shape := ⟨2, ![18176, 64]⟩
abbrev S64x64 : Shape := ⟨2, ![64, 64]⟩
abbrev S64 : Shape := ⟨1, ![64]⟩
abbrev S_ : Shape := ⟨0, ![]⟩

class Facts : Prop where
  bcast_S_S512x4 : S_.BroadcastsInDim S512x4 (![] : Fin 0 → Fin S512x4.rank)

variable [Facts]

def fn {F : FTy → Type} [FloatOps F] (main_arg0 : IVec S512x4 32) (main_arg1 : FVec F S2048x64 .f32) (main_arg2 : FVec F S18176x64 .f32) (main_arg3 : FVec F S64x64 .f32) (main_arg4 : FVec F S64 .f32) (main_arg5 : FVec F S64x64 .f32) (main_arg6 : FVec F S64 .f32) (main_arg7 : FVec F S64x64 .f32) : IVec S512x4 1 :=
  let main_c : IVec S_ 32 := constantI S_ 32 0#32
  let main_v0 : IVec S512x4 32 := broadcastInDim S512x4 ![] bcast_S_S512x4 main_c
  let main_v1 : IVec S512x4 1 := cmpi .sge main_arg0 main_v0
  let main_c_0 : IVec S_ 32 := constantI S_ 32 71#32
  let main_v2 : IVec S512x4 32 := broadcastInDim S512x4 ![] bcast_S_S512x4 main_c_0
  let main_v3 : IVec S512x4 1 := cmpi .slt main_arg0 main_v2
  let main_v4 : IVec S512x4 1 := andi main_v1 main_v3
  main_v4
-- ==== StageOne.lean ====
abbrev S512x64 : Shape := ⟨2, ![512, 64]⟩
abbrev S71x256x64 : Shape := ⟨3, ![71, 256, 64]⟩
abbrev S64x64 : Shape := ⟨2, ![64, 64]⟩
abbrev S64 : Shape := ⟨1, ![64]⟩
abbrev S1x64 : Shape := ⟨2, ![1, 64]⟩
abbrev S512x4 : Shape := ⟨2, ![512, 4]⟩
abbrev S71x64 : Shape := ⟨2, ![71, 64]⟩
abbrev S512 : Shape := ⟨1, ![512]⟩
abbrev S512x1 : Shape := ⟨2, ![512, 1]⟩
abbrev S71 : Shape := ⟨1, ![71]⟩
abbrev S512x71 : Shape := ⟨2, ![512, 71]⟩
abbrev S1x71 : Shape := ⟨2, ![1, 71]⟩

abbrev nBuf : Space → Nat
  | .hbm => 14
  | .vmem => 12
  | .smem => 0
  | _ => 0

abbrev bufTy : (tb : Table) → Fin (tcTables nBuf tb) → BufTy
  | .hbm, ⟨0, _⟩ => ⟨S512x64, .f32⟩
  | .hbm, ⟨1, _⟩ => ⟨S71x256x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S1x64, .f32⟩
  | .hbm, ⟨8, _⟩ => ⟨S1x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x4, .i32⟩
  | .local _ .vmem, ⟨0, _⟩ => ⟨S512x64, .f32⟩
  | .local _ .vmem, ⟨1, _⟩ => ⟨S71x256x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x4, .i32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S71x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x4 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== StageTwo.lean ====
abbrev S512x4 : Shape := ⟨2, ![512, 4]⟩
abbrev S2048x64 : Shape := ⟨2, ![2048, 64]⟩
abbrev S18176x64 : Shape := ⟨2, ![18176, 64]⟩
abbrev S64x64 : Shape := ⟨2, ![64, 64]⟩
abbrev S64 : Shape := ⟨1, ![64]⟩
abbrev S1x64 : Shape := ⟨2, ![1, 64]⟩
abbrev S4x64 : Shape := ⟨2, ![4, 64]⟩
abbrev S1x1 : Shape := ⟨2, ![1, 1]⟩
abbrev S256x64 : Shape := ⟨2, ![256, 64]⟩
abbrev S8192x64 : Shape := ⟨2, ![8192, 64]⟩
abbrev S32x64 : Shape := ⟨2, ![32, 64]⟩
abbrev S32x256x64 : Shape := ⟨3, ![32, 256, 64]⟩
abbrev S32x1x64 : Shape := ⟨3, ![32, 1, 64]⟩
abbrev S32x128x64 : Shape := ⟨3, ![32, 128, 64]⟩
abbrev S32x64x64 : Shape := ⟨3, ![32, 64, 64]⟩
abbrev S32x32x64 : Shape := ⟨3, ![32, 32, 64]⟩
abbrev S32x16x64 : Shape := ⟨3, ![32, 16, 64]⟩
abbrev S32x8x64 : Shape := ⟨3, ![32, 8, 64]⟩
abbrev S32x4x64 : Shape := ⟨3, ![32, 4, 64]⟩
abbrev S32x2x64 : Shape := ⟨3, ![32, 2, 64]⟩

abbrev nBuf : Space → Nat
  | .hbm => 11
  | .vmem => 9
  | .smem => 1
  | _ => 0

abbrev bufTy : (tb : Table) → Fin (tcTables nBuf tb) → BufTy
  | .hbm, ⟨0, _⟩ => ⟨S512x4, .i32⟩
  | .hbm, ⟨1, _⟩ => ⟨S2048x64, .f32⟩
  | .hbm, ⟨2, _⟩ => ⟨S18176x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1x64, .f32⟩
  | .hbm, ⟨10, _⟩ => ⟨S2048x64, .f32⟩
  | .local _ .vmem, ⟨0, _⟩ => ⟨S2048x64, .f32⟩
  | .local _ .vmem, ⟨1, _⟩ => ⟨S18176x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S2048x64, .f32⟩
  | .local _ .vmem, ⟨8, _⟩ => ⟨S18176x64, .f32⟩
  | .local _ .smem, ⟨0, _⟩ => ⟨S512x4, .i32⟩
  | _, _ => ⟨S512x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v14 : BitVec 32 := Scalar.addi c0_i32 c64_i32
  let c1_i32 : BitVec 32 := 1#32
  ⟨c0_i32, v14, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c0_i32_14 : BitVec 32 := 0#32
  let v16 : BitVec 32 := Scalar.addi v15 c0_i32_14
  let c4_i32 : BitVec 32 := 4#32
  let v17 : BitVec 32 := Scalar.muli v16 c4_i32
  let v18 : Index := Scalar.indexCast v17
  let c0_15 : Index := 0#32
  ![v18.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c0_i32_14 : BitVec 32 := 0#32
  let v16 : BitVec 32 := Scalar.addi v15 c0_i32_14
  let v20 : Index := Scalar.indexCast v16
  let c0_16 : Index := 0#32
  ![v20.toNat, 0]
def k0_off3 (v21 : BitVec 32) : Fin 2 → Nat :=
  let c256_i32 : BitVec 32 := 256#32
  let v22 : BitVec 32 := Scalar.muli v21 c256_i32
  let v23 : Index := Scalar.indexCast v22
  let c0_17 : Index := 0#32
  ![v23.toNat, 0]

def k0_chk1 (v21 : BitVec 32) : Prop :=
  (∀ a, (k0_off3 v21) a + S256x64.size a ≤ S18176x64.size a)
theorem k0_off3_inb : ∀ (v21 : BitVec 32) (k0_hw1 : k0_chk1 v21), ∀ a, (k0_off3 v21) a + S256x64.size a ≤ S18176x64.size a := fun v21 k0_hw1 => k0_hw1

def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c0_i32_14 : BitVec 32 := 0#32
  let v16 : BitVec 32 := Scalar.addi v15 c0_i32_14
  let v25 : Index := Scalar.indexCast v16
  let c1 : Index := 1#32
  ![v25.toNat, 1]
def k0_off5 (v26 : BitVec 32) : Fin 2 → Nat :=
  let c256_i32_18 : BitVec 32 := 256#32
  let v27 : BitVec 32 := Scalar.muli v26 c256_i32_18
  let v28 : Index := Scalar.indexCast v27
  let c0_19 : Index := 0#32
  ![v28.toNat, 0]

def k0_chk2 (v26 : BitVec 32) : Prop :=
  (∀ a, (k0_off5 v26) a + S256x64.size a ≤ S18176x64.size a)
theorem k0_off5_inb : ∀ (v26 : BitVec 32) (k0_hw2 : k0_chk2 v26), ∀ a, (k0_off5 v26) a + S256x64.size a ≤ S18176x64.size a := fun v26 k0_hw2 => k0_hw2

def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c0_i32_14 : BitVec 32 := 0#32
  let v16 : BitVec 32 := Scalar.addi v15 c0_i32_14
  let v30 : Index := Scalar.indexCast v16
  let c2 : Index := 2#32
  ![v30.toNat, 2]
def k0_off7 (v31 : BitVec 32) : Fin 2 → Nat :=
  let c256_i32_20 : BitVec 32 := 256#32
  let v32 : BitVec 32 := Scalar.muli v31 c256_i32_20
  let v33 : Index := Scalar.indexCast v32
  let c0_21 : Index := 0#32
  ![v33.toNat, 0]

def k0_chk3 (v31 : BitVec 32) : Prop :=
  (∀ a, (k0_off7 v31) a + S256x64.size a ≤ S18176x64.size a)
theorem k0_off7_inb : ∀ (v31 : BitVec 32) (k0_hw3 : k0_chk3 v31), ∀ a, (k0_off7 v31) a + S256x64.size a ≤ S18176x64.size a := fun v31 k0_hw3 => k0_hw3

def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c0_i32_14 : BitVec 32 := 0#32
  let v16 : BitVec 32 := Scalar.addi v15 c0_i32_14
  let v35 : Index := Scalar.indexCast v16
  let c3 : Index := 3#32
  ![v35.toNat, 3]
def k0_off9 (v36 : BitVec 32) : Fin 2 → Nat :=
  let c256_i32_22 : BitVec 32 := 256#32
  let v37 : BitVec 32 := Scalar.muli v36 c256_i32_22
  let v38 : Index := Scalar.indexCast v37
  let c0_23 : Index := 0#32
  ![v38.toNat, 0]

def k0_chk4 (v36 : BitVec 32) : Prop :=
  (∀ a, (k0_off9 v36) a + S256x64.size a ≤ S18176x64.size a)
theorem k0_off9_inb : ∀ (v36 : BitVec 32) (k0_hw4 : k0_chk4 v36), ∀ a, (k0_off9 v36) a + S256x64.size a ≤ S18176x64.size a := fun v36 k0_hw4 => k0_hw4

def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c1_i32_24 : BitVec 32 := 1#32
  let v40 : BitVec 32 := Scalar.addi v15 c1_i32_24
  let c4_i32_25 : BitVec 32 := 4#32
  let v41 : BitVec 32 := Scalar.muli v40 c4_i32_25
  let v42 : Index := Scalar.indexCast v41
  let c0_26 : Index := 0#32
  ![v42.toNat, 0]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c1_i32_24 : BitVec 32 := 1#32
  let v40 : BitVec 32 := Scalar.addi v15 c1_i32_24
  let v44 : Index := Scalar.indexCast v40
  let c0_27 : Index := 0#32
  ![v44.toNat, 0]
def k0_off12 (v45 : BitVec 32) : Fin 2 → Nat :=
  let c256_i32_28 : BitVec 32 := 256#32
  let v46 : BitVec 32 := Scalar.muli v45 c256_i32_28
  let v47 : Index := Scalar.indexCast v46
  let c0_29 : Index := 0#32
  ![v47.toNat, 0]

def k0_chk5 (v45 : BitVec 32) : Prop :=
  (∀ a, (k0_off12 v45) a + S256x64.size a ≤ S18176x64.size a)
theorem k0_off12_inb : ∀ (v45 : BitVec 32) (k0_hw5 : k0_chk5 v45), ∀ a, (k0_off12 v45) a + S256x64.size a ≤ S18176x64.size a := fun v45 k0_hw5 => k0_hw5

def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c1_i32_24 : BitVec 32 := 1#32
  let v40 : BitVec 32 := Scalar.addi v15 c1_i32_24
  let v49 : Index := Scalar.indexCast v40
  let c1_30 : Index := 1#32
  ![v49.toNat, 1]
def k0_off14 (v50 : BitVec 32) : Fin 2 → Nat :=
  let c256_i32_31 : BitVec 32 := 256#32
  let v51 : BitVec 32 := Scalar.muli v50 c256_i32_31
  let v52 : Index := Scalar.indexCast v51
  let c0_32 : Index := 0#32
  ![v52.toNat, 0]

def k0_chk6 (v50 : BitVec 32) : Prop :=
  (∀ a, (k0_off14 v50) a + S256x64.size a ≤ S18176x64.size a)
theorem k0_off14_inb : ∀ (v50 : BitVec 32) (k0_hw6 : k0_chk6 v50), ∀ a, (k0_off14 v50) a + S256x64.size a ≤ S18176x64.size a := fun v50 k0_hw6 => k0_hw6

def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c1_i32_24 : BitVec 32 := 1#32
  let v40 : BitVec 32 := Scalar.addi v15 c1_i32_24
  let v54 : Index := Scalar.indexCast v40
  let c2_33 : Index := 2#32
  ![v54.toNat, 2]
def k0_off16 (v55 : BitVec 32) : Fin 2 → Nat :=
  let c256_i32_34 : BitVec 32 := 256#32
  let v56 : BitVec 32 := Scalar.muli v55 c256_i32_34
  let v57 : Index := Scalar.indexCast v56
  let c0_35 : Index := 0#32
  ![v57.toNat, 0]

def k0_chk7 (v55 : BitVec 32) : Prop :=
  (∀ a, (k0_off16 v55) a + S256x64.size a ≤ S18176x64.size a)
theorem k0_off16_inb : ∀ (v55 : BitVec 32) (k0_hw7 : k0_chk7 v55), ∀ a, (k0_off16 v55) a + S256x64.size a ≤ S18176x64.size a := fun v55 k0_hw7 => k0_hw7

def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c1_i32_24 : BitVec 32 := 1#32
  let v40 : BitVec 32 := Scalar.addi v15 c1_i32_24
  let v59 : Index := Scalar.indexCast v40
  let c3_36 : Index := 3#32
  ![v59.toNat, 3]
def k0_off18 (v60 : BitVec 32) : Fin 2 → Nat :=
  let c256_i32_37 : BitVec 32 := 256#32
  let v61 : BitVec 32 := Scalar.muli v60 c256_i32_37
  let v62 : Index := Scalar.indexCast v61
  let c0_38 : Index := 0#32
  ![v62.toNat, 0]

def k0_chk8 (v60 : BitVec 32) : Prop :=
  (∀ a, (k0_off18 v60) a + S256x64.size a ≤ S18176x64.size a)
theorem k0_off18_inb : ∀ (v60 : BitVec 32) (k0_hw8 : k0_chk8 v60), ∀ a, (k0_off18 v60) a + S256x64.size a ≤ S18176x64.size a := fun v60 k0_hw8 => k0_hw8

def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c2_i32 : BitVec 32 := 2#32
  let v64 : BitVec 32 := Scalar.addi v15 c2_i32
  let c4_i32_39 : BitVec 32 := 4#32
  let v65 : BitVec 32 := Scalar.muli v64 c4_i32_39
  let v66 : Index := Scalar.indexCast v65
  let c0_40 : Index := 0#32
  ![v66.toNat, 0]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c2_i32 : BitVec 32 := 2#32
  let v64 : BitVec 32 := Scalar.addi v15 c2_i32
  let v68 : Index := Scalar.indexCast v64
  let c0_41 : Index := 0#32
  ![v68.toNat, 0]
def k0_off21 (v69 : BitVec 32) : Fin 2 → Nat :=
  let c256_i32_42 : BitVec 32 := 256#32
  let v70 : BitVec 32 := Scalar.muli v69 c256_i32_42
  let v71 : Index := Scalar.indexCast v70
  let c0_43 : Index := 0#32
  ![v71.toNat, 0]

def k0_chk9 (v69 : BitVec 32) : Prop :=
  (∀ a, (k0_off21 v69) a + S256x64.size a ≤ S18176x64.size a)
theorem k0_off21_inb : ∀ (v69 : BitVec 32) (k0_hw9 : k0_chk9 v69), ∀ a, (k0_off21 v69) a + S256x64.size a ≤ S18176x64.size a := fun v69 k0_hw9 => k0_hw9

def k0_off22 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c2_i32 : BitVec 32 := 2#32
  let v64 : BitVec 32 := Scalar.addi v15 c2_i32
  let v73 : Index := Scalar.indexCast v64
  let c1_44 : Index := 1#32
  ![v73.toNat, 1]
def k0_off23 (v74 : BitVec 32) : Fin 2 → Nat :=
  let c256_i32_45 : BitVec 32 := 256#32
  let v75 : BitVec 32 := Scalar.muli v74 c256_i32_45
  let v76 : Index := Scalar.indexCast v75
  let c0_46 : Index := 0#32
  ![v76.toNat, 0]

def k0_chk10 (v74 : BitVec 32) : Prop :=
  (∀ a, (k0_off23 v74) a + S256x64.size a ≤ S18176x64.size a)
theorem k0_off23_inb : ∀ (v74 : BitVec 32) (k0_hw10 : k0_chk10 v74), ∀ a, (k0_off23 v74) a + S256x64.size a ≤ S18176x64.size a := fun v74 k0_hw10 => k0_hw10

def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c2_i32 : BitVec 32 := 2#32
  let v64 : BitVec 32 := Scalar.addi v15 c2_i32
  let v78 : Index := Scalar.indexCast v64
  let c2_47 : Index := 2#32
  ![v78.toNat, 2]
def k0_off25 (v79 : BitVec 32) : Fin 2 → Nat :=
  let c256_i32_48 : BitVec 32 := 256#32
  let v80 : BitVec 32 := Scalar.muli v79 c256_i32_48
  let v81 : Index := Scalar.indexCast v80
  let c0_49 : Index := 0#32
  ![v81.toNat, 0]

def k0_chk11 (v79 : BitVec 32) : Prop :=
  (∀ a, (k0_off25 v79) a + S256x64.size a ≤ S18176x64.size a)
theorem k0_off25_inb : ∀ (v79 : BitVec 32) (k0_hw11 : k0_chk11 v79), ∀ a, (k0_off25 v79) a + S256x64.size a ≤ S18176x64.size a := fun v79 k0_hw11 => k0_hw11

def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c2_i32 : BitVec 32 := 2#32
  let v64 : BitVec 32 := Scalar.addi v15 c2_i32
  let v83 : Index := Scalar.indexCast v64
  let c3_50 : Index := 3#32
  ![v83.toNat, 3]
def k0_off27 (v84 : BitVec 32) : Fin 2 → Nat :=
  let c256_i32_51 : BitVec 32 := 256#32
  let v85 : BitVec 32 := Scalar.muli v84 c256_i32_51
  let v86 : Index := Scalar.indexCast v85
  let c0_52 : Index := 0#32
  ![v86.toNat, 0]

def k0_chk12 (v84 : BitVec 32) : Prop :=
  (∀ a, (k0_off27 v84) a + S256x64.size a ≤ S18176x64.size a)
theorem k0_off27_inb : ∀ (v84 : BitVec 32) (k0_hw12 : k0_chk12 v84), ∀ a, (k0_off27 v84) a + S256x64.size a ≤ S18176x64.size a := fun v84 k0_hw12 => k0_hw12

def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c3_i32 : BitVec 32 := 3#32
  let v88 : BitVec 32 := Scalar.addi v15 c3_i32
  let c4_i32_53 : BitVec 32 := 4#32
  let v89 : BitVec 32 := Scalar.muli v88 c4_i32_53
  let v90 : Index := Scalar.indexCast v89
  let c0_54 : Index := 0#32
  ![v90.toNat, 0]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c3_i32 : BitVec 32 := 3#32
  let v88 : BitVec 32 := Scalar.addi v15 c3_i32
  let v92 : Index := Scalar.indexCast v88
  let c0_55 : Index := 0#32
  ![v92.toNat, 0]
def k0_off30 (v93 : BitVec 32) : Fin 2 → Nat :=
  let c256_i32_56 : BitVec 32 := 256#32
  let v94 : BitVec 32 := Scalar.muli v93 c256_i32_56
  let v95 : Index := Scalar.indexCast v94
  let c0_57 : Index := 0#32
  ![v95.toNat, 0]

def k0_chk13 (v93 : BitVec 32) : Prop :=
  (∀ a, (k0_off30 v93) a + S256x64.size a ≤ S18176x64.size a)
theorem k0_off30_inb : ∀ (v93 : BitVec 32) (k0_hw13 : k0_chk13 v93), ∀ a, (k0_off30 v93) a + S256x64.size a ≤ S18176x64.size a := fun v93 k0_hw13 => k0_hw13

def k0_off31 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c3_i32 : BitVec 32 := 3#32
  let v88 : BitVec 32 := Scalar.addi v15 c3_i32
  let v97 : Index := Scalar.indexCast v88
  let c1_58 : Index := 1#32
  ![v97.toNat, 1]
def k0_off32 (v98 : BitVec 32) : Fin 2 → Nat :=
  let c256_i32_59 : BitVec 32 := 256#32
  let v99 : BitVec 32 := Scalar.muli v98 c256_i32_59
  let v100 : Index := Scalar.indexCast v99
  let c0_60 : Index := 0#32
  ![v100.toNat, 0]

def k0_chk14 (v98 : BitVec 32) : Prop :=
  (∀ a, (k0_off32 v98) a + S256x64.size a ≤ S18176x64.size a)
theorem k0_off32_inb : ∀ (v98 : BitVec 32) (k0_hw14 : k0_chk14 v98), ∀ a, (k0_off32 v98) a + S256x64.size a ≤ S18176x64.size a := fun v98 k0_hw14 => k0_hw14

def k0_off33 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c3_i32 : BitVec 32 := 3#32
  let v88 : BitVec 32 := Scalar.addi v15 c3_i32
  let v102 : Index := Scalar.indexCast v88
  let c2_61 : Index := 2#32
  ![v102.toNat, 2]
def k0_off34 (v103 : BitVec 32) : Fin 2 → Nat :=
  let c256_i32_62 : BitVec 32 := 256#32
  let v104 : BitVec 32 := Scalar.muli v103 c256_i32_62
  let v105 : Index := Scalar.indexCast v104
  let c0_63 : Index := 0#32
  ![v105.toNat, 0]

def k0_chk15 (v103 : BitVec 32) : Prop :=
  (∀ a, (k0_off34 v103) a + S256x64.size a ≤ S18176x64.size a)
theorem k0_off34_inb : ∀ (v103 : BitVec 32) (k0_hw15 : k0_chk15 v103), ∀ a, (k0_off34 v103) a + S256x64.size a ≤ S18176x64.size a := fun v103 k0_hw15 => k0_hw15

def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c3_i32 : BitVec 32 := 3#32
  let v88 : BitVec 32 := Scalar.addi v15 c3_i32
  let v107 : Index := Scalar.indexCast v88
  let c3_64 : Index := 3#32
  ![v107.toNat, 3]
def k0_off36 (v108 : BitVec 32) : Fin 2 → Nat :=
  let c256_i32_65 : BitVec 32 := 256#32
  let v109 : BitVec 32 := Scalar.muli v108 c256_i32_65
  let v110 : Index := Scalar.indexCast v109
  let c0_66 : Index := 0#32
  ![v110.toNat, 0]

def k0_chk16 (v108 : BitVec 32) : Prop :=
  (∀ a, (k0_off36 v108) a + S256x64.size a ≤ S18176x64.size a)
theorem k0_off36_inb : ∀ (v108 : BitVec 32) (k0_hw16 : k0_chk16 v108), ∀ a, (k0_off36 v108) a + S256x64.size a ≤ S18176x64.size a := fun v108 k0_hw16 => k0_hw16

def k0_off37 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_67 : BitVec 32 := 4#32
  let v112 : BitVec 32 := Scalar.addi v15 c4_i32_67
  let c4_i32_68 : BitVec 32 := 4#32
  let v113 : BitVec 32 := Scalar.muli v112 c4_i32_68
  let v114 : Index := Scalar.indexCast v113
  let c0_69 : Index := 0#32
  ![v114.toNat, 0]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_67 : BitVec 32 := 4#32
  let v112 : BitVec 32 := Scalar.addi v15 c4_i32_67
  let v116 : Index := Scalar.indexCast v112
  let c0_70 : Index := 0#32
  ![v116.toNat, 0]
def k0_off39 (v117 : BitVec 32) : Fin 2 → Nat :=
  let c256_i32_71 : BitVec 32 := 256#32
  let v118 : BitVec 32 := Scalar.muli v117 c256_i32_71
  let v119 : Index := Scalar.indexCast v118
  let c0_72 : Index := 0#32
  ![v119.toNat, 0]

def k0_chk17 (v117 : BitVec 32) : Prop :=
  (∀ a, (k0_off39 v117) a + S256x64.size a ≤ S18176x64.size a)
theorem k0_off39_inb : ∀ (v117 : BitVec 32) (k0_hw17 : k0_chk17 v117), ∀ a, (k0_off39 v117) a + S256x64.size a ≤ S18176x64.size a := fun v117 k0_hw17 => k0_hw17

def k0_off40 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_67 : BitVec 32 := 4#32
  let v112 : BitVec 32 := Scalar.addi v15 c4_i32_67
  let v121 : Index := Scalar.indexCast v112
  let c1_73 : Index := 1#32
  ![v121.toNat, 1]
def k0_off41 (v122 : BitVec 32) : Fin 2 → Nat :=
  let c256_i32_74 : BitVec 32 := 256#32
  let v123 : BitVec 32 := Scalar.muli v122 c256_i32_74
  let v124 : Index := Scalar.indexCast v123
  let c0_75 : Index := 0#32
  ![v124.toNat, 0]

def k0_chk18 (v122 : BitVec 32) : Prop :=
  (∀ a, (k0_off41 v122) a + S256x64.size a ≤ S18176x64.size a)
theorem k0_off41_inb : ∀ (v122 : BitVec 32) (k0_hw18 : k0_chk18 v122), ∀ a, (k0_off41 v122) a + S256x64.size a ≤ S18176x64.size a := fun v122 k0_hw18 => k0_hw18

def k0_off42 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_67 : BitVec 32 := 4#32
  let v112 : BitVec 32 := Scalar.addi v15 c4_i32_67
  let v126 : Index := Scalar.indexCast v112
  let c2_76 : Index := 2#32
  ![v126.toNat, 2]
def k0_off43 (v127 : BitVec 32) : Fin 2 → Nat :=
  let c256_i32_77 : BitVec 32 := 256#32
  let v128 : BitVec 32 := Scalar.muli v127 c256_i32_77
  let v129 : Index := Scalar.indexCast v128
  let c0_78 : Index := 0#32
  ![v129.toNat, 0]

def k0_chk19 (v127 : BitVec 32) : Prop :=
  (∀ a, (k0_off43 v127) a + S256x64.size a ≤ S18176x64.size a)
theorem k0_off43_inb : ∀ (v127 : BitVec 32) (k0_hw19 : k0_chk19 v127), ∀ a, (k0_off43 v127) a + S256x64.size a ≤ S18176x64.size a := fun v127 k0_hw19 => k0_hw19

def k0_off44 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_67 : BitVec 32 := 4#32
  let v112 : BitVec 32 := Scalar.addi v15 c4_i32_67
  let v131 : Index := Scalar.indexCast v112
  let c3_79 : Index := 3#32
  ![v131.toNat, 3]
def k0_off45 (v132 : BitVec 32) : Fin 2 → Nat :=
  let c256_i32_80 : BitVec 32 := 256#32
  let v133 : BitVec 32 := Scalar.muli v132 c256_i32_80
  let v134 : Index := Scalar.indexCast v133
  let c0_81 : Index := 0#32
  ![v134.toNat, 0]

def k0_chk20 (v132 : BitVec 32) : Prop :=
  (∀ a, (k0_off45 v132) a + S256x64.size a ≤ S18176x64.size a)
theorem k0_off45_inb : ∀ (v132 : BitVec 32) (k0_hw20 : k0_chk20 v132), ∀ a, (k0_off45 v132) a + S256x64.size a ≤ S18176x64.size a := fun v132 k0_hw20 => k0_hw20

def k0_off46 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c5_i32 : BitVec 32 := 5#32
  let v136 : BitVec 32 := Scalar.addi v15 c5_i32
  let c4_i32_82 : BitVec 32 := 4#32
  let v137 : BitVec 32 := Scalar.muli v136 c4_i32_82
  let v138 : Index := Scalar.indexCast v137
  let c0_83 : Index := 0#32
  ![v138.toNat, 0]
def k0_off47 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c5_i32 : BitVec 32 := 5#32
  let v136 : BitVec 32 := Scalar.addi v15 c5_i32
  let v140 : Index := Scalar.indexCast v136
  let c0_84 : Index := 0#32
  ![v140.toNat, 0]
def k0_off48 (v141 : BitVec 32) : Fin 2 → Nat :=
  let c256_i32_85 : BitVec 32 := 256#32
  let v142 : BitVec 32 := Scalar.muli v141 c256_i32_85
  let v143 : Index := Scalar.indexCast v142
  let c0_86 : Index := 0#32
  ![v143.toNat, 0]

def k0_chk21 (v141 : BitVec 32) : Prop :=
  (∀ a, (k0_off48 v141) a + S256x64.size a ≤ S18176x64.size a)
theorem k0_off48_inb : ∀ (v141 : BitVec 32) (k0_hw21 : k0_chk21 v141), ∀ a, (k0_off48 v141) a + S256x64.size a ≤ S18176x64.size a := fun v141 k0_hw21 => k0_hw21

def k0_off49 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c5_i32 : BitVec 32 := 5#32
  let v136 : BitVec 32 := Scalar.addi v15 c5_i32
  let v145 : Index := Scalar.indexCast v136
  let c1_87 : Index := 1#32
  ![v145.toNat, 1]
def k0_off50 (v146 : BitVec 32) : Fin 2 → Nat :=
  let c256_i32_88 : BitVec 32 := 256#32
  let v147 : BitVec 32 := Scalar.muli v146 c256_i32_88
  let v148 : Index := Scalar.indexCast v147
  let c0_89 : Index := 0#32
  ![v148.toNat, 0]

def k0_chk22 (v146 : BitVec 32) : Prop :=
  (∀ a, (k0_off50 v146) a + S256x64.size a ≤ S18176x64.size a)
theorem k0_off50_inb : ∀ (v146 : BitVec 32) (k0_hw22 : k0_chk22 v146), ∀ a, (k0_off50 v146) a + S256x64.size a ≤ S18176x64.size a := fun v146 k0_hw22 => k0_hw22

def k0_off51 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c5_i32 : BitVec 32 := 5#32
  let v136 : BitVec 32 := Scalar.addi v15 c5_i32
  let v150 : Index := Scalar.indexCast v136
  let c2_90 : Index := 2#32
  ![v150.toNat, 2]
def k0_off52 (v151 : BitVec 32) : Fin 2 → Nat :=
  let c256_i32_91 : BitVec 32 := 256#32
  let v152 : BitVec 32 := Scalar.muli v151 c256_i32_91
  let v153 : Index := Scalar.indexCast v152
  let c0_92 : Index := 0#32
  ![v153.toNat, 0]

def k0_chk23 (v151 : BitVec 32) : Prop :=
  (∀ a, (k0_off52 v151) a + S256x64.size a ≤ S18176x64.size a)
theorem k0_off52_inb : ∀ (v151 : BitVec 32) (k0_hw23 : k0_chk23 v151), ∀ a, (k0_off52 v151) a + S256x64.size a ≤ S18176x64.size a := fun v151 k0_hw23 => k0_hw23

def k0_off53 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c5_i32 : BitVec 32 := 5#32
  let v136 : BitVec 32 := Scalar.addi v15 c5_i32
  let v155 : Index := Scalar.indexCast v136
  let c3_93 : Index := 3#32
  ![v155.toNat, 3]
def k0_off54 (v156 : BitVec 32) : Fin 2 → Nat :=
  let c256_i32_94 : BitVec 32 := 256#32
  let v157 : BitVec 32 := Scalar.muli v156 c256_i32_94
  let v158 : Index := Scalar.indexCast v157
  let c0_95 : Index := 0#32
  ![v158.toNat, 0]

def k0_chk24 (v156 : BitVec 32) : Prop :=
  (∀ a, (k0_off54 v156) a + S256x64.size a ≤ S18176x64.size a)
theorem k0_off54_inb : ∀ (v156 : BitVec 32) (k0_hw24 : k0_chk24 v156), ∀ a, (k0_off54 v156) a + S256x64.size a ≤ S18176x64.size a := fun v156 k0_hw24 => k0_hw24

def k0_off55 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c6_i32 : BitVec 32 := 6#32
  let v160 : BitVec 32 := Scalar.addi v15 c6_i32
  let c4_i32_96 : BitVec 32 := 4#32
  let v161 : BitVec 32 := Scalar.muli v160 c4_i32_96
  let v162 : Index := Scalar.indexCast v161
  let c0_97 : Index := 0#32
  ![v162.toNat, 0]
def k0_off56 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c6_i32 : BitVec 32 := 6#32
  let v160 : BitVec 32 := Scalar.addi v15 c6_i32
  let v164 : Index := Scalar.indexCast v160
  let c0_98 : Index := 0#32
  ![v164.toNat, 0]
def k0_off57 (v165 : BitVec 32) : Fin 2 → Nat :=
  let c256_i32_99 : BitVec 32 := 256#32
  let v166 : BitVec 32 := Scalar.muli v165 c256_i32_99
  let v167 : Index := Scalar.indexCast v166
  let c0_100 : Index := 0#32
  ![v167.toNat, 0]

def k0_chk25 (v165 : BitVec 32) : Prop :=
  (∀ a, (k0_off57 v165) a + S256x64.size a ≤ S18176x64.size a)
theorem k0_off57_inb : ∀ (v165 : BitVec 32) (k0_hw25 : k0_chk25 v165), ∀ a, (k0_off57 v165) a + S256x64.size a ≤ S18176x64.size a := fun v165 k0_hw25 => k0_hw25

def k0_off58 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c6_i32 : BitVec 32 := 6#32
  let v160 : BitVec 32 := Scalar.addi v15 c6_i32
  let v169 : Index := Scalar.indexCast v160
  let c1_101 : Index := 1#32
  ![v169.toNat, 1]
def k0_off59 (v170 : BitVec 32) : Fin 2 → Nat :=
  let c256_i32_102 : BitVec 32 := 256#32
  let v171 : BitVec 32 := Scalar.muli v170 c256_i32_102
  let v172 : Index := Scalar.indexCast v171
  let c0_103 : Index := 0#32
  ![v172.toNat, 0]

def k0_chk26 (v170 : BitVec 32) : Prop :=
  (∀ a, (k0_off59 v170) a + S256x64.size a ≤ S18176x64.size a)
theorem k0_off59_inb : ∀ (v170 : BitVec 32) (k0_hw26 : k0_chk26 v170), ∀ a, (k0_off59 v170) a + S256x64.size a ≤ S18176x64.size a := fun v170 k0_hw26 => k0_hw26

def k0_off60 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c6_i32 : BitVec 32 := 6#32
  let v160 : BitVec 32 := Scalar.addi v15 c6_i32
  let v174 : Index := Scalar.indexCast v160
  let c2_104 : Index := 2#32
  ![v174.toNat, 2]
def k0_off61 (v175 : BitVec 32) : Fin 2 → Nat :=
  let c256_i32_105 : BitVec 32 := 256#32
  let v176 : BitVec 32 := Scalar.muli v175 c256_i32_105
  let v177 : Index := Scalar.indexCast v176
  let c0_106 : Index := 0#32
  ![v177.toNat, 0]

def k0_chk27 (v175 : BitVec 32) : Prop :=
  (∀ a, (k0_off61 v175) a + S256x64.size a ≤ S18176x64.size a)
theorem k0_off61_inb : ∀ (v175 : BitVec 32) (k0_hw27 : k0_chk27 v175), ∀ a, (k0_off61 v175) a + S256x64.size a ≤ S18176x64.size a := fun v175 k0_hw27 => k0_hw27

def k0_off62 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c6_i32 : BitVec 32 := 6#32
  let v160 : BitVec 32 := Scalar.addi v15 c6_i32
  let v179 : Index := Scalar.indexCast v160
  let c3_107 : Index := 3#32
  ![v179.toNat, 3]
def k0_off63 (v180 : BitVec 32) : Fin 2 → Nat :=
  let c256_i32_108 : BitVec 32 := 256#32
  let v181 : BitVec 32 := Scalar.muli v180 c256_i32_108
  let v182 : Index := Scalar.indexCast v181
  let c0_109 : Index := 0#32
  ![v182.toNat, 0]

def k0_chk28 (v180 : BitVec 32) : Prop :=
  (∀ a, (k0_off63 v180) a + S256x64.size a ≤ S18176x64.size a)
theorem k0_off63_inb : ∀ (v180 : BitVec 32) (k0_hw28 : k0_chk28 v180), ∀ a, (k0_off63 v180) a + S256x64.size a ≤ S18176x64.size a := fun v180 k0_hw28 => k0_hw28

def k0_off64 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c7_i32 : BitVec 32 := 7#32
  let v184 : BitVec 32 := Scalar.addi v15 c7_i32
  let c4_i32_110 : BitVec 32 := 4#32
  let v185 : BitVec 32 := Scalar.muli v184 c4_i32_110
  let v186 : Index := Scalar.indexCast v185
  let c0_111 : Index := 0#32
  ![v186.toNat, 0]
def k0_off65 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c7_i32 : BitVec 32 := 7#32
  let v184 : BitVec 32 := Scalar.addi v15 c7_i32
  let v188 : Index := Scalar.indexCast v184
  let c0_112 : Index := 0#32
  ![v188.toNat, 0]
def k0_off66 (v189 : BitVec 32) : Fin 2 → Nat :=
  let c256_i32_113 : BitVec 32 := 256#32
  let v190 : BitVec 32 := Scalar.muli v189 c256_i32_113
  let v191 : Index := Scalar.indexCast v190
  let c0_114 : Index := 0#32
  ![v191.toNat, 0]

def k0_chk29 (v189 : BitVec 32) : Prop :=
  (∀ a, (k0_off66 v189) a + S256x64.size a ≤ S18176x64.size a)
theorem k0_off66_inb : ∀ (v189 : BitVec 32) (k0_hw29 : k0_chk29 v189), ∀ a, (k0_off66 v189) a + S256x64.size a ≤ S18176x64.size a := fun v189 k0_hw29 => k0_hw29

def k0_off67 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c7_i32 : BitVec 32 := 7#32
  let v184 : BitVec 32 := Scalar.addi v15 c7_i32
  let v193 : Index := Scalar.indexCast v184
  let c1_115 : Index := 1#32
  ![v193.toNat, 1]
def k0_off68 (v194 : BitVec 32) : Fin 2 → Nat :=
  let c256_i32_116 : BitVec 32 := 256#32
  let v195 : BitVec 32 := Scalar.muli v194 c256_i32_116
  let v196 : Index := Scalar.indexCast v195
  let c0_117 : Index := 0#32
  ![v196.toNat, 0]

def k0_chk30 (v194 : BitVec 32) : Prop :=
  (∀ a, (k0_off68 v194) a + S256x64.size a ≤ S18176x64.size a)
theorem k0_off68_inb : ∀ (v194 : BitVec 32) (k0_hw30 : k0_chk30 v194), ∀ a, (k0_off68 v194) a + S256x64.size a ≤ S18176x64.size a := fun v194 k0_hw30 => k0_hw30

def k0_off69 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c7_i32 : BitVec 32 := 7#32
  let v184 : BitVec 32 := Scalar.addi v15 c7_i32
  let v198 : Index := Scalar.indexCast v184
  let c2_118 : Index := 2#32
  ![v198.toNat, 2]
def k0_off70 (v199 : BitVec 32) : Fin 2 → Nat :=
  let c256_i32_119 : BitVec 32 := 256#32
  let v200 : BitVec 32 := Scalar.muli v199 c256_i32_119
  let v201 : Index := Scalar.indexCast v200
  let c0_120 : Index := 0#32
  ![v201.toNat, 0]

def k0_chk31 (v199 : BitVec 32) : Prop :=
  (∀ a, (k0_off70 v199) a + S256x64.size a ≤ S18176x64.size a)
theorem k0_off70_inb : ∀ (v199 : BitVec 32) (k0_hw31 : k0_chk31 v199), ∀ a, (k0_off70 v199) a + S256x64.size a ≤ S18176x64.size a := fun v199 k0_hw31 => k0_hw31

def k0_off71 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c7_i32 : BitVec 32 := 7#32
  let v184 : BitVec 32 := Scalar.addi v15 c7_i32
  let v203 : Index := Scalar.indexCast v184
  let c3_121 : Index := 3#32
  ![v203.toNat, 3]
def k0_off72 (v204 : BitVec 32) : Fin 2 → Nat :=
  let c256_i32_122 : BitVec 32 := 256#32
  let v205 : BitVec 32 := Scalar.muli v204 c256_i32_122
  let v206 : Index := Scalar.indexCast v205
  let c0_123 : Index := 0#32
  ![v206.toNat, 0]

def k0_chk32 (v204 : BitVec 32) : Prop :=
  (∀ a, (k0_off72 v204) a + S256x64.size a ≤ S18176x64.size a)
theorem k0_off72_inb : ∀ (v204 : BitVec 32) (k0_hw32 : k0_chk32 v204), ∀ a, (k0_off72 v204) a + S256x64.size a ≤ S18176x64.size a := fun v204 k0_hw32 => k0_hw32

def k0_off73 (k0_t1 : Fin k0_t1_loop.trips) : Fin 2 → Nat :=
  let c0_i32 : BitVec 32 := 0#32
  let c1_i32 : BitVec 32 := 1#32
  let arg10 : BitVec 32 := Scf.iv c0_i32 c1_i32 k0_t1
  let c8_i32 : BitVec 32 := 8#32
  let v15 : BitVec 32 := Scalar.muli arg10 c8_i32
  let c4_i32_133 : BitVec 32 := 4#32
  let v321 : BitVec 32 := Scalar.muli v15 c4_i32_133
  let v322 : Index := Scalar.indexCast v321
  let c0_134 : Index := 0#32
  ![v322.toNat, 0]
abbrev stage0_0 : Fin 1 → Memref sig .tc .smem S512x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18176x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
abbrev S512x64 : Shape := ⟨2, ![512, 64]⟩
abbrev S71x256x64 : Shape := ⟨3, ![71, 256, 64]⟩
abbrev S64x64 : Shape := ⟨2, ![64, 64]⟩
abbrev S64 : Shape := ⟨1, ![64]⟩
abbrev S1x64 : Shape := ⟨2, ![1, 64]⟩
abbrev S512x4 : Shape := ⟨2, ![512, 4]⟩
abbrev S71x64 : Shape := ⟨2, ![71, 64]⟩
abbrev S512 : Shape := ⟨1, ![512]⟩
abbrev S512x1 : Shape := ⟨2, ![512, 1]⟩
abbrev S71 : Shape := ⟨1, ![71]⟩
abbrev S512x71 : Shape := ⟨2, ![512, 71]⟩
abbrev S1x71 : Shape := ⟨2, ![1, 71]⟩
abbrev S512x1x64 : Shape := ⟨3, ![512, 1, 64]⟩
abbrev S512x4x64 : Shape := ⟨3, ![512, 4, 64]⟩
abbrev S2048x64 : Shape := ⟨2, ![2048, 64]⟩
abbrev S18176x64 : Shape := ⟨2, ![18176, 64]⟩
abbrev S4x64 : Shape := ⟨2, ![4, 64]⟩
abbrev S1x1 : Shape := ⟨2, ![1, 1]⟩
abbrev S256x64 : Shape := ⟨2, ![256, 64]⟩
abbrev S8192x64 : Shape := ⟨2, ![8192, 64]⟩
abbrev S32x64 : Shape := ⟨2, ![32, 64]⟩
abbrev S32x256x64 : Shape := ⟨3, ![32, 256, 64]⟩
abbrev S32x1x64 : Shape := ⟨3, ![32, 1, 64]⟩
abbrev S32x128x64 : Shape := ⟨3, ![32, 128, 64]⟩
abbrev S32x64x64 : Shape := ⟨3, ![32, 64, 64]⟩
abbrev S32x32x64 : Shape := ⟨3, ![32, 32, 64]⟩
abbrev S32x16x64 : Shape := ⟨3, ![32, 16, 64]⟩
abbrev S32x8x64 : Shape := ⟨3, ![32, 8, 64]⟩
abbrev S32x4x64 : Shape := ⟨3, ![32, 4, 64]⟩
abbrev S32x2x64 : Shape := ⟨3, ![32, 2, 64]⟩

abbrev nBuf : Space → Nat
  | .hbm => 30
  | .vmem => 21
  | .smem => 1
  | _ => 0

abbrev bufTy : (tb : Table) → Fin (tcTables nBuf tb) → BufTy
  | .hbm, ⟨0, _⟩ => ⟨S512x64, .f32⟩
  | .hbm, ⟨1, _⟩ => ⟨S71x256x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S512x4, .i32⟩
  | .hbm, ⟨21, _⟩ => ⟨S512x1x64, .f32⟩
  | .hbm, ⟨22, _⟩ => ⟨S512x1x64, .f32⟩
  | .hbm, ⟨23, _⟩ => ⟨S512x1x64, .f32⟩
  | .hbm, ⟨24, _⟩ => ⟨S512x1x64, .f32⟩
  | .hbm, ⟨25, _⟩ => ⟨S512x4x64, .f32⟩
  | .hbm, ⟨26, _⟩ => ⟨S2048x64, .f32⟩
  | .hbm, ⟨27, _⟩ => ⟨S18176x64, .f32⟩
  | .hbm, ⟨28, _⟩ => ⟨S2048x64, .f32⟩
  | .hbm, ⟨29, _⟩ => ⟨S512x4x64, .f32⟩
  | .local _ .vmem, ⟨0, _⟩ => ⟨S512x64, .f32⟩
  | .local _ .vmem, ⟨1, _⟩ => ⟨S71x256x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S512x64, .f32⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x4, .i32⟩
  | .local _ .vmem, ⟨12, _⟩ => ⟨S2048x64, .f32⟩
  | .local _ .vmem, ⟨13, _⟩ => ⟨S18176x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S2048x64, .f32⟩
  | .local _ .vmem, ⟨20, _⟩ => ⟨S18176x64, .f32⟩
  | .local _ .smem, ⟨0, _⟩ => ⟨S512x4, .i32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_scratch0 : Ref sig .tc := ⟨.vmem, 20, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S71x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x4 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c64_i32 : BitVec 32 := 64#32
  let v15 : BitVec 32 := Scalar.addi c0_i32 c64_i32
  let c1_i32 : BitVec 32 := 1#32
  ⟨c0_i32, v15, c1_i32⟩
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c0_i32_14 : BitVec 32 := 0#32
  let v17 : BitVec 32 := Scalar.addi v16 c0_i32_14
  let c4_i32 : BitVec 32 := 4#32
  let v18 : BitVec 32 := Scalar.muli v17 c4_i32
  let v19 : Index := Scalar.indexCast v18
  let c0_15 : Index := 0#32
  ![v19.toNat, 0]
def k1_off2 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c0_i32_14 : BitVec 32 := 0#32
  let v17 : BitVec 32 := Scalar.addi v16 c0_i32_14
  let v22 : Index := Scalar.indexCast v17
  let c0_16 : Index := 0#32
  ![v22.toNat, 0]
def k1_off3 (v23 : BitVec 32) : Fin 2 → Nat :=
  let c256_i32 : BitVec 32 := 256#32
  let v24 : BitVec 32 := Scalar.muli v23 c256_i32
  let v25 : Index := Scalar.indexCast v24
  let c0_17 : Index := 0#32
  ![v25.toNat, 0]

def k1_chk1 (v23 : BitVec 32) : Prop :=
  (∀ a, (k1_off3 v23) a + S256x64.size a ≤ S18176x64.size a)
theorem k1_off3_inb : ∀ (v23 : BitVec 32) (k1_hw1 : k1_chk1 v23), ∀ a, (k1_off3 v23) a + S256x64.size a ≤ S18176x64.size a := fun v23 k1_hw1 => k1_hw1

def k1_off4 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c0_i32_14 : BitVec 32 := 0#32
  let v17 : BitVec 32 := Scalar.addi v16 c0_i32_14
  let v27 : Index := Scalar.indexCast v17
  let c1 : Index := 1#32
  ![v27.toNat, 1]
def k1_off5 (v28 : BitVec 32) : Fin 2 → Nat :=
  let c256_i32_18 : BitVec 32 := 256#32
  let v29 : BitVec 32 := Scalar.muli v28 c256_i32_18
  let v30 : Index := Scalar.indexCast v29
  let c0_19 : Index := 0#32
  ![v30.toNat, 0]

def k1_chk2 (v28 : BitVec 32) : Prop :=
  (∀ a, (k1_off5 v28) a + S256x64.size a ≤ S18176x64.size a)
theorem k1_off5_inb : ∀ (v28 : BitVec 32) (k1_hw2 : k1_chk2 v28), ∀ a, (k1_off5 v28) a + S256x64.size a ≤ S18176x64.size a := fun v28 k1_hw2 => k1_hw2

def k1_off6 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c0_i32_14 : BitVec 32 := 0#32
  let v17 : BitVec 32 := Scalar.addi v16 c0_i32_14
  let v32 : Index := Scalar.indexCast v17
  let c2 : Index := 2#32
  ![v32.toNat, 2]
def k1_off7 (v33 : BitVec 32) : Fin 2 → Nat :=
  let c256_i32_20 : BitVec 32 := 256#32
  let v34 : BitVec 32 := Scalar.muli v33 c256_i32_20
  let v35 : Index := Scalar.indexCast v34
  let c0_21 : Index := 0#32
  ![v35.toNat, 0]

def k1_chk3 (v33 : BitVec 32) : Prop :=
  (∀ a, (k1_off7 v33) a + S256x64.size a ≤ S18176x64.size a)
theorem k1_off7_inb : ∀ (v33 : BitVec 32) (k1_hw3 : k1_chk3 v33), ∀ a, (k1_off7 v33) a + S256x64.size a ≤ S18176x64.size a := fun v33 k1_hw3 => k1_hw3

def k1_off8 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c0_i32_14 : BitVec 32 := 0#32
  let v17 : BitVec 32 := Scalar.addi v16 c0_i32_14
  let v37 : Index := Scalar.indexCast v17
  let c3 : Index := 3#32
  ![v37.toNat, 3]
def k1_off9 (v38 : BitVec 32) : Fin 2 → Nat :=
  let c256_i32_22 : BitVec 32 := 256#32
  let v39 : BitVec 32 := Scalar.muli v38 c256_i32_22
  let v40 : Index := Scalar.indexCast v39
  let c0_23 : Index := 0#32
  ![v40.toNat, 0]

def k1_chk4 (v38 : BitVec 32) : Prop :=
  (∀ a, (k1_off9 v38) a + S256x64.size a ≤ S18176x64.size a)
theorem k1_off9_inb : ∀ (v38 : BitVec 32) (k1_hw4 : k1_chk4 v38), ∀ a, (k1_off9 v38) a + S256x64.size a ≤ S18176x64.size a := fun v38 k1_hw4 => k1_hw4

def k1_off10 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c1_i32_24 : BitVec 32 := 1#32
  let v42 : BitVec 32 := Scalar.addi v16 c1_i32_24
  let c4_i32_25 : BitVec 32 := 4#32
  let v43 : BitVec 32 := Scalar.muli v42 c4_i32_25
  let v44 : Index := Scalar.indexCast v43
  let c0_26 : Index := 0#32
  ![v44.toNat, 0]
def k1_off11 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c1_i32_24 : BitVec 32 := 1#32
  let v42 : BitVec 32 := Scalar.addi v16 c1_i32_24
  let v47 : Index := Scalar.indexCast v42
  let c0_27 : Index := 0#32
  ![v47.toNat, 0]
def k1_off12 (v48 : BitVec 32) : Fin 2 → Nat :=
  let c256_i32_28 : BitVec 32 := 256#32
  let v49 : BitVec 32 := Scalar.muli v48 c256_i32_28
  let v50 : Index := Scalar.indexCast v49
  let c0_29 : Index := 0#32
  ![v50.toNat, 0]

def k1_chk5 (v48 : BitVec 32) : Prop :=
  (∀ a, (k1_off12 v48) a + S256x64.size a ≤ S18176x64.size a)
theorem k1_off12_inb : ∀ (v48 : BitVec 32) (k1_hw5 : k1_chk5 v48), ∀ a, (k1_off12 v48) a + S256x64.size a ≤ S18176x64.size a := fun v48 k1_hw5 => k1_hw5

def k1_off13 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c1_i32_24 : BitVec 32 := 1#32
  let v42 : BitVec 32 := Scalar.addi v16 c1_i32_24
  let v52 : Index := Scalar.indexCast v42
  let c1_30 : Index := 1#32
  ![v52.toNat, 1]
def k1_off14 (v53 : BitVec 32) : Fin 2 → Nat :=
  let c256_i32_31 : BitVec 32 := 256#32
  let v54 : BitVec 32 := Scalar.muli v53 c256_i32_31
  let v55 : Index := Scalar.indexCast v54
  let c0_32 : Index := 0#32
  ![v55.toNat, 0]

def k1_chk6 (v53 : BitVec 32) : Prop :=
  (∀ a, (k1_off14 v53) a + S256x64.size a ≤ S18176x64.size a)
theorem k1_off14_inb : ∀ (v53 : BitVec 32) (k1_hw6 : k1_chk6 v53), ∀ a, (k1_off14 v53) a + S256x64.size a ≤ S18176x64.size a := fun v53 k1_hw6 => k1_hw6

def k1_off15 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c1_i32_24 : BitVec 32 := 1#32
  let v42 : BitVec 32 := Scalar.addi v16 c1_i32_24
  let v57 : Index := Scalar.indexCast v42
  let c2_33 : Index := 2#32
  ![v57.toNat, 2]
def k1_off16 (v58 : BitVec 32) : Fin 2 → Nat :=
  let c256_i32_34 : BitVec 32 := 256#32
  let v59 : BitVec 32 := Scalar.muli v58 c256_i32_34
  let v60 : Index := Scalar.indexCast v59
  let c0_35 : Index := 0#32
  ![v60.toNat, 0]

def k1_chk7 (v58 : BitVec 32) : Prop :=
  (∀ a, (k1_off16 v58) a + S256x64.size a ≤ S18176x64.size a)
theorem k1_off16_inb : ∀ (v58 : BitVec 32) (k1_hw7 : k1_chk7 v58), ∀ a, (k1_off16 v58) a + S256x64.size a ≤ S18176x64.size a := fun v58 k1_hw7 => k1_hw7

def k1_off17 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c1_i32_24 : BitVec 32 := 1#32
  let v42 : BitVec 32 := Scalar.addi v16 c1_i32_24
  let v62 : Index := Scalar.indexCast v42
  let c3_36 : Index := 3#32
  ![v62.toNat, 3]
def k1_off18 (v63 : BitVec 32) : Fin 2 → Nat :=
  let c256_i32_37 : BitVec 32 := 256#32
  let v64 : BitVec 32 := Scalar.muli v63 c256_i32_37
  let v65 : Index := Scalar.indexCast v64
  let c0_38 : Index := 0#32
  ![v65.toNat, 0]

def k1_chk8 (v63 : BitVec 32) : Prop :=
  (∀ a, (k1_off18 v63) a + S256x64.size a ≤ S18176x64.size a)
theorem k1_off18_inb : ∀ (v63 : BitVec 32) (k1_hw8 : k1_chk8 v63), ∀ a, (k1_off18 v63) a + S256x64.size a ≤ S18176x64.size a := fun v63 k1_hw8 => k1_hw8

def k1_off19 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c2_i32 : BitVec 32 := 2#32
  let v67 : BitVec 32 := Scalar.addi v16 c2_i32
  let c4_i32_39 : BitVec 32 := 4#32
  let v68 : BitVec 32 := Scalar.muli v67 c4_i32_39
  let v69 : Index := Scalar.indexCast v68
  let c0_40 : Index := 0#32
  ![v69.toNat, 0]
def k1_off20 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c2_i32 : BitVec 32 := 2#32
  let v67 : BitVec 32 := Scalar.addi v16 c2_i32
  let v72 : Index := Scalar.indexCast v67
  let c0_41 : Index := 0#32
  ![v72.toNat, 0]
def k1_off21 (v73 : BitVec 32) : Fin 2 → Nat :=
  let c256_i32_42 : BitVec 32 := 256#32
  let v74 : BitVec 32 := Scalar.muli v73 c256_i32_42
  let v75 : Index := Scalar.indexCast v74
  let c0_43 : Index := 0#32
  ![v75.toNat, 0]

def k1_chk9 (v73 : BitVec 32) : Prop :=
  (∀ a, (k1_off21 v73) a + S256x64.size a ≤ S18176x64.size a)
theorem k1_off21_inb : ∀ (v73 : BitVec 32) (k1_hw9 : k1_chk9 v73), ∀ a, (k1_off21 v73) a + S256x64.size a ≤ S18176x64.size a := fun v73 k1_hw9 => k1_hw9

def k1_off22 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c2_i32 : BitVec 32 := 2#32
  let v67 : BitVec 32 := Scalar.addi v16 c2_i32
  let v77 : Index := Scalar.indexCast v67
  let c1_44 : Index := 1#32
  ![v77.toNat, 1]
def k1_off23 (v78 : BitVec 32) : Fin 2 → Nat :=
  let c256_i32_45 : BitVec 32 := 256#32
  let v79 : BitVec 32 := Scalar.muli v78 c256_i32_45
  let v80 : Index := Scalar.indexCast v79
  let c0_46 : Index := 0#32
  ![v80.toNat, 0]

def k1_chk10 (v78 : BitVec 32) : Prop :=
  (∀ a, (k1_off23 v78) a + S256x64.size a ≤ S18176x64.size a)
theorem k1_off23_inb : ∀ (v78 : BitVec 32) (k1_hw10 : k1_chk10 v78), ∀ a, (k1_off23 v78) a + S256x64.size a ≤ S18176x64.size a := fun v78 k1_hw10 => k1_hw10

def k1_off24 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c2_i32 : BitVec 32 := 2#32
  let v67 : BitVec 32 := Scalar.addi v16 c2_i32
  let v82 : Index := Scalar.indexCast v67
  let c2_47 : Index := 2#32
  ![v82.toNat, 2]
def k1_off25 (v83 : BitVec 32) : Fin 2 → Nat :=
  let c256_i32_48 : BitVec 32 := 256#32
  let v84 : BitVec 32 := Scalar.muli v83 c256_i32_48
  let v85 : Index := Scalar.indexCast v84
  let c0_49 : Index := 0#32
  ![v85.toNat, 0]

def k1_chk11 (v83 : BitVec 32) : Prop :=
  (∀ a, (k1_off25 v83) a + S256x64.size a ≤ S18176x64.size a)
theorem k1_off25_inb : ∀ (v83 : BitVec 32) (k1_hw11 : k1_chk11 v83), ∀ a, (k1_off25 v83) a + S256x64.size a ≤ S18176x64.size a := fun v83 k1_hw11 => k1_hw11

def k1_off26 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c2_i32 : BitVec 32 := 2#32
  let v67 : BitVec 32 := Scalar.addi v16 c2_i32
  let v87 : Index := Scalar.indexCast v67
  let c3_50 : Index := 3#32
  ![v87.toNat, 3]
def k1_off27 (v88 : BitVec 32) : Fin 2 → Nat :=
  let c256_i32_51 : BitVec 32 := 256#32
  let v89 : BitVec 32 := Scalar.muli v88 c256_i32_51
  let v90 : Index := Scalar.indexCast v89
  let c0_52 : Index := 0#32
  ![v90.toNat, 0]

def k1_chk12 (v88 : BitVec 32) : Prop :=
  (∀ a, (k1_off27 v88) a + S256x64.size a ≤ S18176x64.size a)
theorem k1_off27_inb : ∀ (v88 : BitVec 32) (k1_hw12 : k1_chk12 v88), ∀ a, (k1_off27 v88) a + S256x64.size a ≤ S18176x64.size a := fun v88 k1_hw12 => k1_hw12

def k1_off28 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c3_i32 : BitVec 32 := 3#32
  let v92 : BitVec 32 := Scalar.addi v16 c3_i32
  let c4_i32_53 : BitVec 32 := 4#32
  let v93 : BitVec 32 := Scalar.muli v92 c4_i32_53
  let v94 : Index := Scalar.indexCast v93
  let c0_54 : Index := 0#32
  ![v94.toNat, 0]
def k1_off29 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c3_i32 : BitVec 32 := 3#32
  let v92 : BitVec 32 := Scalar.addi v16 c3_i32
  let v97 : Index := Scalar.indexCast v92
  let c0_55 : Index := 0#32
  ![v97.toNat, 0]
def k1_off30 (v98 : BitVec 32) : Fin 2 → Nat :=
  let c256_i32_56 : BitVec 32 := 256#32
  let v99 : BitVec 32 := Scalar.muli v98 c256_i32_56
  let v100 : Index := Scalar.indexCast v99
  let c0_57 : Index := 0#32
  ![v100.toNat, 0]

def k1_chk13 (v98 : BitVec 32) : Prop :=
  (∀ a, (k1_off30 v98) a + S256x64.size a ≤ S18176x64.size a)
theorem k1_off30_inb : ∀ (v98 : BitVec 32) (k1_hw13 : k1_chk13 v98), ∀ a, (k1_off30 v98) a + S256x64.size a ≤ S18176x64.size a := fun v98 k1_hw13 => k1_hw13

def k1_off31 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c3_i32 : BitVec 32 := 3#32
  let v92 : BitVec 32 := Scalar.addi v16 c3_i32
  let v102 : Index := Scalar.indexCast v92
  let c1_58 : Index := 1#32
  ![v102.toNat, 1]
def k1_off32 (v103 : BitVec 32) : Fin 2 → Nat :=
  let c256_i32_59 : BitVec 32 := 256#32
  let v104 : BitVec 32 := Scalar.muli v103 c256_i32_59
  let v105 : Index := Scalar.indexCast v104
  let c0_60 : Index := 0#32
  ![v105.toNat, 0]

def k1_chk14 (v103 : BitVec 32) : Prop :=
  (∀ a, (k1_off32 v103) a + S256x64.size a ≤ S18176x64.size a)
theorem k1_off32_inb : ∀ (v103 : BitVec 32) (k1_hw14 : k1_chk14 v103), ∀ a, (k1_off32 v103) a + S256x64.size a ≤ S18176x64.size a := fun v103 k1_hw14 => k1_hw14

def k1_off33 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c3_i32 : BitVec 32 := 3#32
  let v92 : BitVec 32 := Scalar.addi v16 c3_i32
  let v107 : Index := Scalar.indexCast v92
  let c2_61 : Index := 2#32
  ![v107.toNat, 2]
def k1_off34 (v108 : BitVec 32) : Fin 2 → Nat :=
  let c256_i32_62 : BitVec 32 := 256#32
  let v109 : BitVec 32 := Scalar.muli v108 c256_i32_62
  let v110 : Index := Scalar.indexCast v109
  let c0_63 : Index := 0#32
  ![v110.toNat, 0]

def k1_chk15 (v108 : BitVec 32) : Prop :=
  (∀ a, (k1_off34 v108) a + S256x64.size a ≤ S18176x64.size a)
theorem k1_off34_inb : ∀ (v108 : BitVec 32) (k1_hw15 : k1_chk15 v108), ∀ a, (k1_off34 v108) a + S256x64.size a ≤ S18176x64.size a := fun v108 k1_hw15 => k1_hw15

def k1_off35 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c3_i32 : BitVec 32 := 3#32
  let v92 : BitVec 32 := Scalar.addi v16 c3_i32
  let v112 : Index := Scalar.indexCast v92
  let c3_64 : Index := 3#32
  ![v112.toNat, 3]
def k1_off36 (v113 : BitVec 32) : Fin 2 → Nat :=
  let c256_i32_65 : BitVec 32 := 256#32
  let v114 : BitVec 32 := Scalar.muli v113 c256_i32_65
  let v115 : Index := Scalar.indexCast v114
  let c0_66 : Index := 0#32
  ![v115.toNat, 0]

def k1_chk16 (v113 : BitVec 32) : Prop :=
  (∀ a, (k1_off36 v113) a + S256x64.size a ≤ S18176x64.size a)
theorem k1_off36_inb : ∀ (v113 : BitVec 32) (k1_hw16 : k1_chk16 v113), ∀ a, (k1_off36 v113) a + S256x64.size a ≤ S18176x64.size a := fun v113 k1_hw16 => k1_hw16

def k1_off37 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_67 : BitVec 32 := 4#32
  let v117 : BitVec 32 := Scalar.addi v16 c4_i32_67
  let c4_i32_68 : BitVec 32 := 4#32
  let v118 : BitVec 32 := Scalar.muli v117 c4_i32_68
  let v119 : Index := Scalar.indexCast v118
  let c0_69 : Index := 0#32
  ![v119.toNat, 0]
def k1_off38 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_67 : BitVec 32 := 4#32
  let v117 : BitVec 32 := Scalar.addi v16 c4_i32_67
  let v122 : Index := Scalar.indexCast v117
  let c0_70 : Index := 0#32
  ![v122.toNat, 0]
def k1_off39 (v123 : BitVec 32) : Fin 2 → Nat :=
  let c256_i32_71 : BitVec 32 := 256#32
  let v124 : BitVec 32 := Scalar.muli v123 c256_i32_71
  let v125 : Index := Scalar.indexCast v124
  let c0_72 : Index := 0#32
  ![v125.toNat, 0]

def k1_chk17 (v123 : BitVec 32) : Prop :=
  (∀ a, (k1_off39 v123) a + S256x64.size a ≤ S18176x64.size a)
theorem k1_off39_inb : ∀ (v123 : BitVec 32) (k1_hw17 : k1_chk17 v123), ∀ a, (k1_off39 v123) a + S256x64.size a ≤ S18176x64.size a := fun v123 k1_hw17 => k1_hw17

def k1_off40 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_67 : BitVec 32 := 4#32
  let v117 : BitVec 32 := Scalar.addi v16 c4_i32_67
  let v127 : Index := Scalar.indexCast v117
  let c1_73 : Index := 1#32
  ![v127.toNat, 1]
def k1_off41 (v128 : BitVec 32) : Fin 2 → Nat :=
  let c256_i32_74 : BitVec 32 := 256#32
  let v129 : BitVec 32 := Scalar.muli v128 c256_i32_74
  let v130 : Index := Scalar.indexCast v129
  let c0_75 : Index := 0#32
  ![v130.toNat, 0]

def k1_chk18 (v128 : BitVec 32) : Prop :=
  (∀ a, (k1_off41 v128) a + S256x64.size a ≤ S18176x64.size a)
theorem k1_off41_inb : ∀ (v128 : BitVec 32) (k1_hw18 : k1_chk18 v128), ∀ a, (k1_off41 v128) a + S256x64.size a ≤ S18176x64.size a := fun v128 k1_hw18 => k1_hw18

def k1_off42 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_67 : BitVec 32 := 4#32
  let v117 : BitVec 32 := Scalar.addi v16 c4_i32_67
  let v132 : Index := Scalar.indexCast v117
  let c2_76 : Index := 2#32
  ![v132.toNat, 2]
def k1_off43 (v133 : BitVec 32) : Fin 2 → Nat :=
  let c256_i32_77 : BitVec 32 := 256#32
  let v134 : BitVec 32 := Scalar.muli v133 c256_i32_77
  let v135 : Index := Scalar.indexCast v134
  let c0_78 : Index := 0#32
  ![v135.toNat, 0]

def k1_chk19 (v133 : BitVec 32) : Prop :=
  (∀ a, (k1_off43 v133) a + S256x64.size a ≤ S18176x64.size a)
theorem k1_off43_inb : ∀ (v133 : BitVec 32) (k1_hw19 : k1_chk19 v133), ∀ a, (k1_off43 v133) a + S256x64.size a ≤ S18176x64.size a := fun v133 k1_hw19 => k1_hw19

def k1_off44 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_67 : BitVec 32 := 4#32
  let v117 : BitVec 32 := Scalar.addi v16 c4_i32_67
  let v137 : Index := Scalar.indexCast v117
  let c3_79 : Index := 3#32
  ![v137.toNat, 3]
def k1_off45 (v138 : BitVec 32) : Fin 2 → Nat :=
  let c256_i32_80 : BitVec 32 := 256#32
  let v139 : BitVec 32 := Scalar.muli v138 c256_i32_80
  let v140 : Index := Scalar.indexCast v139
  let c0_81 : Index := 0#32
  ![v140.toNat, 0]

def k1_chk20 (v138 : BitVec 32) : Prop :=
  (∀ a, (k1_off45 v138) a + S256x64.size a ≤ S18176x64.size a)
theorem k1_off45_inb : ∀ (v138 : BitVec 32) (k1_hw20 : k1_chk20 v138), ∀ a, (k1_off45 v138) a + S256x64.size a ≤ S18176x64.size a := fun v138 k1_hw20 => k1_hw20

def k1_off46 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c5_i32 : BitVec 32 := 5#32
  let v142 : BitVec 32 := Scalar.addi v16 c5_i32
  let c4_i32_82 : BitVec 32 := 4#32
  let v143 : BitVec 32 := Scalar.muli v142 c4_i32_82
  let v144 : Index := Scalar.indexCast v143
  let c0_83 : Index := 0#32
  ![v144.toNat, 0]
def k1_off47 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c5_i32 : BitVec 32 := 5#32
  let v142 : BitVec 32 := Scalar.addi v16 c5_i32
  let v147 : Index := Scalar.indexCast v142
  let c0_84 : Index := 0#32
  ![v147.toNat, 0]
def k1_off48 (v148 : BitVec 32) : Fin 2 → Nat :=
  let c256_i32_85 : BitVec 32 := 256#32
  let v149 : BitVec 32 := Scalar.muli v148 c256_i32_85
  let v150 : Index := Scalar.indexCast v149
  let c0_86 : Index := 0#32
  ![v150.toNat, 0]

def k1_chk21 (v148 : BitVec 32) : Prop :=
  (∀ a, (k1_off48 v148) a + S256x64.size a ≤ S18176x64.size a)
theorem k1_off48_inb : ∀ (v148 : BitVec 32) (k1_hw21 : k1_chk21 v148), ∀ a, (k1_off48 v148) a + S256x64.size a ≤ S18176x64.size a := fun v148 k1_hw21 => k1_hw21

def k1_off49 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c5_i32 : BitVec 32 := 5#32
  let v142 : BitVec 32 := Scalar.addi v16 c5_i32
  let v152 : Index := Scalar.indexCast v142
  let c1_87 : Index := 1#32
  ![v152.toNat, 1]
def k1_off50 (v153 : BitVec 32) : Fin 2 → Nat :=
  let c256_i32_88 : BitVec 32 := 256#32
  let v154 : BitVec 32 := Scalar.muli v153 c256_i32_88
  let v155 : Index := Scalar.indexCast v154
  let c0_89 : Index := 0#32
  ![v155.toNat, 0]

def k1_chk22 (v153 : BitVec 32) : Prop :=
  (∀ a, (k1_off50 v153) a + S256x64.size a ≤ S18176x64.size a)
theorem k1_off50_inb : ∀ (v153 : BitVec 32) (k1_hw22 : k1_chk22 v153), ∀ a, (k1_off50 v153) a + S256x64.size a ≤ S18176x64.size a := fun v153 k1_hw22 => k1_hw22

def k1_off51 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c5_i32 : BitVec 32 := 5#32
  let v142 : BitVec 32 := Scalar.addi v16 c5_i32
  let v157 : Index := Scalar.indexCast v142
  let c2_90 : Index := 2#32
  ![v157.toNat, 2]
def k1_off52 (v158 : BitVec 32) : Fin 2 → Nat :=
  let c256_i32_91 : BitVec 32 := 256#32
  let v159 : BitVec 32 := Scalar.muli v158 c256_i32_91
  let v160 : Index := Scalar.indexCast v159
  let c0_92 : Index := 0#32
  ![v160.toNat, 0]

def k1_chk23 (v158 : BitVec 32) : Prop :=
  (∀ a, (k1_off52 v158) a + S256x64.size a ≤ S18176x64.size a)
theorem k1_off52_inb : ∀ (v158 : BitVec 32) (k1_hw23 : k1_chk23 v158), ∀ a, (k1_off52 v158) a + S256x64.size a ≤ S18176x64.size a := fun v158 k1_hw23 => k1_hw23

def k1_off53 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c5_i32 : BitVec 32 := 5#32
  let v142 : BitVec 32 := Scalar.addi v16 c5_i32
  let v162 : Index := Scalar.indexCast v142
  let c3_93 : Index := 3#32
  ![v162.toNat, 3]
def k1_off54 (v163 : BitVec 32) : Fin 2 → Nat :=
  let c256_i32_94 : BitVec 32 := 256#32
  let v164 : BitVec 32 := Scalar.muli v163 c256_i32_94
  let v165 : Index := Scalar.indexCast v164
  let c0_95 : Index := 0#32
  ![v165.toNat, 0]

def k1_chk24 (v163 : BitVec 32) : Prop :=
  (∀ a, (k1_off54 v163) a + S256x64.size a ≤ S18176x64.size a)
theorem k1_off54_inb : ∀ (v163 : BitVec 32) (k1_hw24 : k1_chk24 v163), ∀ a, (k1_off54 v163) a + S256x64.size a ≤ S18176x64.size a := fun v163 k1_hw24 => k1_hw24

def k1_off55 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c6_i32 : BitVec 32 := 6#32
  let v167 : BitVec 32 := Scalar.addi v16 c6_i32
  let c4_i32_96 : BitVec 32 := 4#32
  let v168 : BitVec 32 := Scalar.muli v167 c4_i32_96
  let v169 : Index := Scalar.indexCast v168
  let c0_97 : Index := 0#32
  ![v169.toNat, 0]
def k1_off56 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c6_i32 : BitVec 32 := 6#32
  let v167 : BitVec 32 := Scalar.addi v16 c6_i32
  let v172 : Index := Scalar.indexCast v167
  let c0_98 : Index := 0#32
  ![v172.toNat, 0]
def k1_off57 (v173 : BitVec 32) : Fin 2 → Nat :=
  let c256_i32_99 : BitVec 32 := 256#32
  let v174 : BitVec 32 := Scalar.muli v173 c256_i32_99
  let v175 : Index := Scalar.indexCast v174
  let c0_100 : Index := 0#32
  ![v175.toNat, 0]

def k1_chk25 (v173 : BitVec 32) : Prop :=
  (∀ a, (k1_off57 v173) a + S256x64.size a ≤ S18176x64.size a)
theorem k1_off57_inb : ∀ (v173 : BitVec 32) (k1_hw25 : k1_chk25 v173), ∀ a, (k1_off57 v173) a + S256x64.size a ≤ S18176x64.size a := fun v173 k1_hw25 => k1_hw25

def k1_off58 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c6_i32 : BitVec 32 := 6#32
  let v167 : BitVec 32 := Scalar.addi v16 c6_i32
  let v177 : Index := Scalar.indexCast v167
  let c1_101 : Index := 1#32
  ![v177.toNat, 1]
def k1_off59 (v178 : BitVec 32) : Fin 2 → Nat :=
  let c256_i32_102 : BitVec 32 := 256#32
  let v179 : BitVec 32 := Scalar.muli v178 c256_i32_102
  let v180 : Index := Scalar.indexCast v179
  let c0_103 : Index := 0#32
  ![v180.toNat, 0]

def k1_chk26 (v178 : BitVec 32) : Prop :=
  (∀ a, (k1_off59 v178) a + S256x64.size a ≤ S18176x64.size a)
theorem k1_off59_inb : ∀ (v178 : BitVec 32) (k1_hw26 : k1_chk26 v178), ∀ a, (k1_off59 v178) a + S256x64.size a ≤ S18176x64.size a := fun v178 k1_hw26 => k1_hw26

def k1_off60 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c6_i32 : BitVec 32 := 6#32
  let v167 : BitVec 32 := Scalar.addi v16 c6_i32
  let v182 : Index := Scalar.indexCast v167
  let c2_104 : Index := 2#32
  ![v182.toNat, 2]
def k1_off61 (v183 : BitVec 32) : Fin 2 → Nat :=
  let c256_i32_105 : BitVec 32 := 256#32
  let v184 : BitVec 32 := Scalar.muli v183 c256_i32_105
  let v185 : Index := Scalar.indexCast v184
  let c0_106 : Index := 0#32
  ![v185.toNat, 0]

def k1_chk27 (v183 : BitVec 32) : Prop :=
  (∀ a, (k1_off61 v183) a + S256x64.size a ≤ S18176x64.size a)
theorem k1_off61_inb : ∀ (v183 : BitVec 32) (k1_hw27 : k1_chk27 v183), ∀ a, (k1_off61 v183) a + S256x64.size a ≤ S18176x64.size a := fun v183 k1_hw27 => k1_hw27

def k1_off62 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c6_i32 : BitVec 32 := 6#32
  let v167 : BitVec 32 := Scalar.addi v16 c6_i32
  let v187 : Index := Scalar.indexCast v167
  let c3_107 : Index := 3#32
  ![v187.toNat, 3]
def k1_off63 (v188 : BitVec 32) : Fin 2 → Nat :=
  let c256_i32_108 : BitVec 32 := 256#32
  let v189 : BitVec 32 := Scalar.muli v188 c256_i32_108
  let v190 : Index := Scalar.indexCast v189
  let c0_109 : Index := 0#32
  ![v190.toNat, 0]

def k1_chk28 (v188 : BitVec 32) : Prop :=
  (∀ a, (k1_off63 v188) a + S256x64.size a ≤ S18176x64.size a)
theorem k1_off63_inb : ∀ (v188 : BitVec 32) (k1_hw28 : k1_chk28 v188), ∀ a, (k1_off63 v188) a + S256x64.size a ≤ S18176x64.size a := fun v188 k1_hw28 => k1_hw28

def k1_off64 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c7_i32 : BitVec 32 := 7#32
  let v192 : BitVec 32 := Scalar.addi v16 c7_i32
  let c4_i32_110 : BitVec 32 := 4#32
  let v193 : BitVec 32 := Scalar.muli v192 c4_i32_110
  let v194 : Index := Scalar.indexCast v193
  let c0_111 : Index := 0#32
  ![v194.toNat, 0]
def k1_off65 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c7_i32 : BitVec 32 := 7#32
  let v192 : BitVec 32 := Scalar.addi v16 c7_i32
  let v197 : Index := Scalar.indexCast v192
  let c0_112 : Index := 0#32
  ![v197.toNat, 0]
def k1_off66 (v198 : BitVec 32) : Fin 2 → Nat :=
  let c256_i32_113 : BitVec 32 := 256#32
  let v199 : BitVec 32 := Scalar.muli v198 c256_i32_113
  let v200 : Index := Scalar.indexCast v199
  let c0_114 : Index := 0#32
  ![v200.toNat, 0]

def k1_chk29 (v198 : BitVec 32) : Prop :=
  (∀ a, (k1_off66 v198) a + S256x64.size a ≤ S18176x64.size a)
theorem k1_off66_inb : ∀ (v198 : BitVec 32) (k1_hw29 : k1_chk29 v198), ∀ a, (k1_off66 v198) a + S256x64.size a ≤ S18176x64.size a := fun v198 k1_hw29 => k1_hw29

def k1_off67 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c7_i32 : BitVec 32 := 7#32
  let v192 : BitVec 32 := Scalar.addi v16 c7_i32
  let v202 : Index := Scalar.indexCast v192
  let c1_115 : Index := 1#32
  ![v202.toNat, 1]
def k1_off68 (v203 : BitVec 32) : Fin 2 → Nat :=
  let c256_i32_116 : BitVec 32 := 256#32
  let v204 : BitVec 32 := Scalar.muli v203 c256_i32_116
  let v205 : Index := Scalar.indexCast v204
  let c0_117 : Index := 0#32
  ![v205.toNat, 0]

def k1_chk30 (v203 : BitVec 32) : Prop :=
  (∀ a, (k1_off68 v203) a + S256x64.size a ≤ S18176x64.size a)
theorem k1_off68_inb : ∀ (v203 : BitVec 32) (k1_hw30 : k1_chk30 v203), ∀ a, (k1_off68 v203) a + S256x64.size a ≤ S18176x64.size a := fun v203 k1_hw30 => k1_hw30

def k1_off69 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c7_i32 : BitVec 32 := 7#32
  let v192 : BitVec 32 := Scalar.addi v16 c7_i32
  let v207 : Index := Scalar.indexCast v192
  let c2_118 : Index := 2#32
  ![v207.toNat, 2]
def k1_off70 (v208 : BitVec 32) : Fin 2 → Nat :=
  let c256_i32_119 : BitVec 32 := 256#32
  let v209 : BitVec 32 := Scalar.muli v208 c256_i32_119
  let v210 : Index := Scalar.indexCast v209
  let c0_120 : Index := 0#32
  ![v210.toNat, 0]

def k1_chk31 (v208 : BitVec 32) : Prop :=
  (∀ a, (k1_off70 v208) a + S256x64.size a ≤ S18176x64.size a)
theorem k1_off70_inb : ∀ (v208 : BitVec 32) (k1_hw31 : k1_chk31 v208), ∀ a, (k1_off70 v208) a + S256x64.size a ≤ S18176x64.size a := fun v208 k1_hw31 => k1_hw31

def k1_off71 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c7_i32 : BitVec 32 := 7#32
  let v192 : BitVec 32 := Scalar.addi v16 c7_i32
  let v212 : Index := Scalar.indexCast v192
  let c3_121 : Index := 3#32
  ![v212.toNat, 3]
def k1_off72 (v213 : BitVec 32) : Fin 2 → Nat :=
  let c256_i32_122 : BitVec 32 := 256#32
  let v214 : BitVec 32 := Scalar.muli v213 c256_i32_122
  let v215 : Index := Scalar.indexCast v214
  let c0_123 : Index := 0#32
  ![v215.toNat, 0]

def k1_chk32 (v213 : BitVec 32) : Prop :=
  (∀ a, (k1_off72 v213) a + S256x64.size a ≤ S18176x64.size a)
theorem k1_off72_inb : ∀ (v213 : BitVec 32) (k1_hw32 : k1_chk32 v213), ∀ a, (k1_off72 v213) a + S256x64.size a ≤ S18176x64.size a := fun v213 k1_hw32 => k1_hw32

def k1_off73 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v16 : BitVec 32 := Scalar.muli arg10 c8_i32
  let c4_i32_133 : BitVec 32 := 4#32
  let v330 : BitVec 32 := Scalar.muli v16 c4_i32_133
  let v331 : Index := Scalar.indexCast v330
  let c0_134 : Index := 0#32
  ![v331.toNat, 0]
abbrev stage1_0 : Fin 1 → Memref sig .tc .smem S512x4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S18176x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S2048x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S512x64 : Shape := ⟨2, ![512, 64]⟩
abbrev S71x256x64 : Shape := ⟨3, ![71, 256, 64]⟩
abbrev S64x64 : Shape := ⟨2, ![64, 64]⟩
abbrev S64 : Shape := ⟨1, ![64]⟩
abbrev S_ : Shape := ⟨0, ![]⟩
abbrev S71x64 : Shape := ⟨2, ![71, 64]⟩
abbrev S512 : Shape := ⟨1, ![512]⟩
abbrev S512x1 : Shape := ⟨2, ![512, 1]⟩
abbrev S71 : Shape := ⟨1, ![71]⟩
abbrev S1x71 : Shape := ⟨2, ![1, 71]⟩
abbrev S512x71 : Shape := ⟨2, ![512, 71]⟩
abbrev S64x71 : Shape := ⟨2, ![64, 71]⟩
abbrev S512x4 : Shape := ⟨2, ![512, 4]⟩
abbrev S512x4x1 : Shape := ⟨3, ![512, 4, 1]⟩
abbrev S1 : Shape := ⟨1, ![1]⟩
abbrev S1x1x1 : Shape := ⟨3, ![1, 1, 1]⟩
abbrev S512x4x64 : Shape := ⟨3, ![512, 4, 64]⟩
abbrev S512x1x64 : Shape := ⟨3, ![512, 1, 64]⟩
abbrev S1x1x64 : Shape := ⟨3, ![1, 1, 64]⟩
abbrev S512x4x256x64 : Shape := ⟨4, ![512, 4, 256, 64]⟩
abbrev S512x4x1x64 : Shape := ⟨4, ![512, 4, 1, 64]⟩
abbrev S1x1x1x64 : Shape := ⟨4, ![1, 1, 1, 64]⟩

abbrev nBuf : Space → Nat
  | .hbm => 182
  | .vmem => 0
  | .smem => 0
  | _ => 0

abbrev hbmTy0_0 (i : Nat) : BufTy := match i % 128 with
  | 0 => ⟨S512x64, .f32⟩
  | 1 => ⟨S71x256x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S_, .f32⟩
  | 13 => ⟨S71x64, .f32⟩
  | 14 => ⟨S_, .f32⟩
  | 15 => ⟨S71x64, .f32⟩
  | 16 => ⟨S71x64, .f32⟩
  | 17 => ⟨S512x64, .f32⟩
  | 18 => ⟨S_, .f32⟩
  | 19 => ⟨S512, .f32⟩
  | 20 => ⟨S512x1, .f32⟩
  | 21 => ⟨S71x64, .f32⟩
  | 22 => ⟨S_, .f32⟩
  | 23 => ⟨S71, .f32⟩
  | 24 => ⟨S1x71, .f32⟩
  | 25 => ⟨S512x71, .f32⟩
  | 26 => ⟨S512x71, .f32⟩
  | 27 => ⟨S512x71, .f32⟩
  | 28 => ⟨S_, .f32⟩
  | 29 => ⟨S512x64, .f32⟩
  | 30 => ⟨S512x64, .f32⟩
  | 31 => ⟨S64x71, .f32⟩
  | 32 => ⟨S512x71, .f32⟩
  | 33 => ⟨S512x71, .f32⟩
  | 34 => ⟨S_, .f32⟩
  | 35 => ⟨S_, .f32⟩
  | 36 => ⟨S512x71, .f32⟩
  | 37 => ⟨S512x71, .f32⟩
  | 38 => ⟨S512x71, .f32⟩
  | 39 => ⟨S512x71, .f32⟩
  | 40 => ⟨S512x4, .f32⟩
  | 41 => ⟨S512x4, .i32⟩
  | 42 => ⟨S_, .i32⟩
  | 43 => ⟨S512x4, .i32⟩
  | 44 => ⟨S512x4, .i1⟩
  | 45 => ⟨S_, .i32⟩
  | 46 => ⟨S512x4, .i32⟩
  | 47 => ⟨S512x4, .i32⟩
  | 48 => ⟨S512x4, .i32⟩
  | 49 => ⟨S512x4x1, .i32⟩
  | 50 => ⟨S1, .i32⟩
  | 51 => ⟨S_, .i32⟩
  | 52 => ⟨S512x4x1, .i32⟩
  | 53 => ⟨S512x4x1, .i1⟩
  | 54 => ⟨S1x1x1, .i32⟩
  | 55 => ⟨S512x4x1, .i32⟩
  | 56 => ⟨S512x4x1, .i1⟩
  | 57 => ⟨S512x4x1, .i1⟩
  | 58 => ⟨S_, .i1⟩
  | 59 => ⟨S512x4, .i1⟩
  | 60 => ⟨S512x4x64, .f32⟩
  | 61 => ⟨S512x4x64, .i1⟩
  | 62 => ⟨S_, .f32⟩
  | 63 => ⟨S512x4x64, .f32⟩
  | 64 => ⟨S512x4x64, .f32⟩
  | 65 => ⟨S512x1x64, .f32⟩
  | 66 => ⟨S512x4x64, .f32⟩
  | 67 => ⟨S512x4x64, .f32⟩
  | 68 => ⟨S512x4x64, .f32⟩
  | 69 => ⟨S1x1x64, .f32⟩
  | 70 => ⟨S512x4x64, .f32⟩
  | 71 => ⟨S512x4x64, .f32⟩
  | 72 => ⟨S_, .f32⟩
  | 73 => ⟨S512x4x64, .f32⟩
  | 74 => ⟨S512x4x64, .f32⟩
  | 75 => ⟨S512x4x64, .f32⟩
  | 76 => ⟨S_, .f32⟩
  | 77 => ⟨S512x4x64, .f32⟩
  | 78 => ⟨S512x4x64, .f32⟩
  | 79 => ⟨S512x4x64, .f32⟩
  | 80 => ⟨S512x4x64, .f32⟩
  | 81 => ⟨S512x4x64, .f32⟩
  | 82 => ⟨S_, .f32⟩
  | 83 => ⟨S512x64, .f32⟩
  | 84 => ⟨S_, .f32⟩
  | 85 => ⟨S512x64, .f32⟩
  | 86 => ⟨S512x64, .f32⟩
  | 87 => ⟨S512x1x64, .f32⟩
  | 88 => ⟨S512x4x64, .f32⟩
  | 89 => ⟨S512x4x64, .f32⟩
  | 90 => ⟨S512x4x64, .f32⟩
  | 91 => ⟨S_, .f32⟩
  | 92 => ⟨S512x64, .f32⟩
  | 93 => ⟨S512x1x64, .f32⟩
  | 94 => ⟨S512x4x64, .f32⟩
  | 95 => ⟨S512x4x64, .f32⟩
  | 96 => ⟨S512x4x64, .f32⟩
  | 97 => ⟨S512x1x64, .f32⟩
  | 98 => ⟨S512x4x64, .f32⟩
  | 99 => ⟨S512x4x64, .f32⟩
  | 100 => ⟨S512x4x64, .f32⟩
  | 101 => ⟨S1x1x64, .f32⟩
  | 102 => ⟨S512x4x64, .f32⟩
  | 103 => ⟨S512x4x64, .f32⟩
  | 104 => ⟨S512x4x64, .f32⟩
  | 105 => ⟨S_, .f32⟩
  | 106 => ⟨S512x4x64, .f32⟩
  | 107 => ⟨S512x4x64, .f32⟩
  | 108 => ⟨S512x1x64, .f32⟩
  | 109 => ⟨S512x4x64, .f32⟩
  | 110 => ⟨S512x4x64, .f32⟩
  | 111 => ⟨S_, .i32⟩
  | 112 => ⟨S512x4, .i32⟩
  | 113 => ⟨S512x4, .i1⟩
  | 114 => ⟨S_, .i32⟩
  | 115 => ⟨S512x4, .i32⟩
  | 116 => ⟨S512x4, .i32⟩
  | 117 => ⟨S512x4, .i32⟩
  | 118 => ⟨S512x4x1, .i32⟩
  | 119 => ⟨S1, .i32⟩
  | 120 => ⟨S_, .i32⟩
  | 121 => ⟨S512x4x1, .i32⟩
  | 122 => ⟨S512x4x1, .i1⟩
  | 123 => ⟨S1x1x1, .i32⟩
  | 124 => ⟨S512x4x1, .i32⟩
  | 125 => ⟨S512x4x1, .i1⟩
  | 126 => ⟨S512x4x1, .i1⟩
  | 127 => ⟨S_, .i1⟩
  | _ => ⟨S512x64, .f32⟩

abbrev hbmTy0_1 (i : Nat) : BufTy := match i % 128 with
  | 0 => ⟨S512x4, .i1⟩
  | 1 => ⟨S512x4x256x64, .f32⟩
  | 2 => ⟨S512x4x256x64, .i1⟩
  | 3 => ⟨S_, .f32⟩
  | 4 => ⟨S512x4x256x64, .f32⟩
  | 5 => ⟨S512x4x256x64, .f32⟩
  | 6 => ⟨S512x4x1x64, .f32⟩
  | 7 => ⟨S512x4x256x64, .f32⟩
  | 8 => ⟨S512x4x256x64, .f32⟩
  | 9 => ⟨S512x4x256x64, .f32⟩
  | 10 => ⟨S1x1x1x64, .f32⟩
  | 11 => ⟨S512x4x256x64, .f32⟩
  | 12 => ⟨S512x4x256x64, .f32⟩
  | 13 => ⟨S_, .f32⟩
  | 14 => ⟨S512x4x256x64, .f32⟩
  | 15 => ⟨S512x4x256x64, .f32⟩
  | 16 => ⟨S512x4x256x64, .f32⟩
  | 17 => ⟨S_, .f32⟩
  | 18 => ⟨S512x4x256x64, .f32⟩
  | 19 => ⟨S512x4x256x64, .f32⟩
  | 20 => ⟨S512x4x256x64, .f32⟩
  | 21 => ⟨S512x4x256x64, .f32⟩
  | 22 => ⟨S512x4x256x64, .f32⟩
  | 23 => ⟨S_, .f32⟩
  | 24 => ⟨S512x4x64, .f32⟩
  | 25 => ⟨S_, .f32⟩
  | 26 => ⟨S512x4x64, .f32⟩
  | 27 => ⟨S512x4x64, .f32⟩
  | 28 => ⟨S512x4x1x64, .f32⟩
  | 29 => ⟨S512x4x256x64, .f32⟩
  | 30 => ⟨S512x4x256x64, .f32⟩
  | 31 => ⟨S512x4x256x64, .f32⟩
  | 32 => ⟨S_, .f32⟩
  | 33 => ⟨S512x4x64, .f32⟩
  | 34 => ⟨S512x4x1x64, .f32⟩
  | 35 => ⟨S512x4x256x64, .f32⟩
  | 36 => ⟨S512x4x256x64, .f32⟩
  | 37 => ⟨S512x4x256x64, .f32⟩
  | 38 => ⟨S512x4x1x64, .f32⟩
  | 39 => ⟨S512x4x256x64, .f32⟩
  | 40 => ⟨S512x4x256x64, .f32⟩
  | 41 => ⟨S512x4x256x64, .f32⟩
  | 42 => ⟨S1x1x1x64, .f32⟩
  | 43 => ⟨S512x4x256x64, .f32⟩
  | 44 => ⟨S512x4x256x64, .f32⟩
  | 45 => ⟨S512x4x256x64, .f32⟩
  | 46 => ⟨S_, .f32⟩
  | 47 => ⟨S512x4x256x64, .f32⟩
  | 48 => ⟨S512x4x256x64, .f32⟩
  | 49 => ⟨S512x4x1x64, .f32⟩
  | 50 => ⟨S512x4x256x64, .f32⟩
  | 51 => ⟨S512x4x256x64, .f32⟩
  | 52 => ⟨S_, .f32⟩
  | 53 => ⟨S512x4x64, .f32⟩
  | _ => ⟨S512x64, .f32⟩

abbrev hbmTy (i : Nat) : BufTy := match i / 128 with
  | 0 => hbmTy0_0 i
  | 1 => hbmTy0_1 i
  | _ => ⟨S512x64, .f32⟩

abbrev bufTy : (tb : Table) → Fin (tcTables nBuf tb) → BufTy
  | .hbm, ⟨i, _⟩ => hbmTy i
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_values : Ref sig .tc := ⟨.hbm, 40, rfl⟩
abbrev main_indices : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_5 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst_6 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst_7 : Ref sig .tc := ⟨.hbm, 82, rfl⟩
abbrev main_v36 : Ref sig .tc := ⟨.hbm, 83, rfl⟩
abbrev main_cst_8 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_9 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_10 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_call2_c : Ref sig .tc := ⟨.hbm, 111, rfl⟩
abbrev main_call2_v0 : Ref sig .tc := ⟨.hbm, 112, rfl⟩
abbrev main_call2_v1 : Ref sig .tc := ⟨.hbm, 113, rfl⟩
abbrev main_call2_c_0 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_c_1 : Ref sig .tc := ⟨.hbm, 119, rfl⟩
abbrev main_call2_c_2 : Ref sig .tc := ⟨.hbm, 120, rfl⟩
abbrev main_call2_v6 : Ref sig .tc := ⟨.hbm, 121, rfl⟩
abbrev main_call2_v7 : Ref sig .tc := ⟨.hbm, 122, rfl⟩
abbrev main_call2_v8 : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_3 : Ref sig .tc := ⟨.hbm, 127, rfl⟩
abbrev main_call2_v12 : Ref sig .tc := ⟨.hbm, 128, rfl⟩
abbrev main_call2_v13 : Ref sig .tc := ⟨.hbm, 129, rfl⟩
abbrev main_call2_v14 : Ref sig .tc := ⟨.hbm, 130, rfl⟩
abbrev main_call2_cst : Ref sig .tc := ⟨.hbm, 131, rfl⟩
abbrev main_call2_v15 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_cst_11 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_12 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_cst_13 : Ref sig .tc := ⟨.hbm, 151, rfl⟩
abbrev main_v77 : Ref sig .tc := ⟨.hbm, 152, rfl⟩
abbrev main_cst_14 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_15 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_cst_16 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_cst_17 : Ref sig .tc := ⟨.hbm, 180, rfl⟩
abbrev main_v102 : Ref sig .tc := ⟨.hbm, 181, rfl⟩

abbrev nD : Nat := 1
abbrev τ : Topo := Topo.v7x

variable {F : FTy → Type} [FloatOps F]
-- ==== Proof.Pages.lean ====
/- Where every word of the table of pages lies in the range the precondition states, every page the
    second call addresses is inside the stored table. -/
module

public import proofs.«01_k».proof.Defs
public import proofs.«01_k».proof.Proof.Gen.Pre_in_range
public import proofs.«01_k».proof.Proof.Gen.StageTwo.Frame
public import Idealize.ShloMosaic.Lib.ValueIdx

@[expose] public section

set_option maxRecDepth 16384

noncomputable section

namespace Cert.Pages

open Idealize.ShloMosaic Idealize.SL.Sem

theorem both_one (a b : BitVec 1) (h : IntOp.andi a b = 1#1) : a = 1#1 ∧ b = 1#1 := by
  revert a b; decide

/-- A word at least 0 and below 71 as a signed number is below 71 as a natural number. -/
theorem lt_of_signed (w : BitVec 32) (h : IntOp.andi (IntOp.cmpi .sge w 0#32) (IntOp.cmpi .slt w 71#32) = 1#1) : w.toNat < 71 := by
  obtain ⟨h0, h1⟩ := both_one _ _ h
  have e0 : BitVec.sle 0#32 w = true := by
    revert h0; simp only [IntOp.cmpi]; cases BitVec.sle 0#32 w <;> simp
  have e1 : BitVec.slt w 71#32 = true := by
    revert h1; simp only [IntOp.cmpi]; cases BitVec.slt w 71#32 <;> simp
  have f0 : (0 : ℤ) ≤ w.toInt := by simpa [BitVec.sle] using e0
  have f1 : w.toInt < 71 := by simpa [BitVec.slt] using e1
  have hb := w.isLt
  have ht := BitVec.toInt_eq_toNat_cond w
  split at ht <;> omega

section
open Cert.StageTwo Cert.StageTwo.Gen

/-- The condition on one word. -/
theorem inside_StageTwo (v : BitVec 32) (h : v.toNat < 71) : k0_chk1 v := by
  unfold k0_chk1
  intro a
  have e : (Scalar.indexCast (Scalar.muli v 256#32) : BitVec 32).toNat = v.toNat * 256 := by
    show (v * 256#32).toNat = v.toNat * 256
    rw [BitVec.toNat_mul]
    exact Nat.mod_eq_of_lt (by show v.toNat * 256 < 2 ^ 32; omega)
  fin_cases a
  · show (Scalar.indexCast (Scalar.muli v 256#32) : BitVec 32).toNat + 256 ≤ 18176
    rw [e]; omega
  · show 0 + 64 ≤ 64
    omega

theorem word_StageTwo {arg0 : Memref sig .tc .smem S512x4 .i32} (harg0 : arg0.IsWhole) {x0 : Vec Bits S512x4 .i32}
    (hx : ∀ i, (x0 i : BitVec 32).toNat < 71) (r : LoadRect S512x4) (i : r.shape.Idx) :
    (arg0.view.readAt (Elt Bits) r (harg0.unread x0) i : BitVec 32).toNat < 71 := by
  rw [View.readAt_apply, Memref.IsWhole.read_unread]; exact hx _

/-- The conditions of every word the call reads. -/
theorem hyps_StageTwo (m : (ℓ : Loc nD τ sig) → Buf (Elt Bits) ℓ) (h : Cert.Pre_StageTwo m) : Cert.StageTwo.Gen.Hyps m := by
  have bound : ∀ (c : Dev nD) (y : S512x4.Idx), ((m ((c.tc : Thread nD τ).loc main_arg0) : S512x4.Idx → BitVec 32) y).toNat < 71 :=
    fun c y => lt_of_signed _ (congrFun (h c) y)
  have rd : ∀ (c : Dev nD) (t : Fin cfg0.N) (i : S512x4.Idx), ((iblk m c 0 t : S512x4.Idx → BitVec 32) i).toNat < 71 := by
    intro c t i
    unfold iblk
    rw [View.read_apply, cast_eq]
    have e : V m c (Pipeline.arrRef spec0 0) = m ((c.tc : Thread nD τ).loc main_arg0) := V_main_arg0 m c
    rw [e]
    exact bound c _
  refine Hyps.of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)
  · exact fun c t _ _ => inside_StageTwo _ (word_StageTwo (hs0_0 t) (rd c t) _ _)

end

end Cert.Pages
-- ==== Proof.PagesIdeal.lean ====
/- Where every word of the table of pages lies in the range the precondition states, every page the
    second call addresses is inside the stored table. -/
module

public import proofs.«01_k».proof.Defs
public import proofs.«01_k».proof.Proof.Gen.Pre_in_range
public import proofs.«01_k».proof.Proof.Gen.StageTwoIdeal.Frame
public import proofs.«01_k».proof.Proof.Pages
public import Idealize.ShloMosaic.Lib.ValueIdx

@[expose] public section

set_option maxRecDepth 16384

noncomputable section

namespace Cert.PagesIdeal

open Idealize.ShloMosaic Idealize.SL.Sem

open Cert.Pages

section
open Cert.StageTwoIdeal Cert.StageTwoIdeal.Gen

/-- The condition on one word. -/
theorem inside_StageTwoIdeal (v : BitVec 32) (h : v.toNat < 71) : k0_chk1 v := by
  unfold k0_chk1
  intro a
  have e : (Scalar.indexCast (Scalar.muli v 256#32) : BitVec 32).toNat = v.toNat * 256 := by
    show (v * 256#32).toNat = v.toNat * 256
    rw [BitVec.toNat_mul]
    exact Nat.mod_eq_of_lt (by show v.toNat * 256 < 2 ^ 32; omega)
  fin_cases a
  · show (Scalar.indexCast (Scalar.muli v 256#32) : BitVec 32).toNat + 256 ≤ 18176
    rw [e]; omega
  · show 0 + 64 ≤ 64
    omega

theorem word_StageTwoIdeal {arg0 : Memref sig .tc .smem S512x4 .i32} (harg0 : arg0.IsWhole) {x0 : Vec Ideal S512x4 .i32}
    (hx : ∀ i, (x0 i : BitVec 32).toNat < 71) (r : LoadRect S512x4) (i : r.shape.Idx) :
    (arg0.view.readAt (Elt Ideal) r (harg0.unread x0) i : BitVec 32).toNat < 71 := by
  rw [View.readAt_apply, Memref.IsWhole.read_unread]; exact hx _

/-- The conditions of every word the call reads. -/
theorem hyps_StageTwoIdeal (m : (ℓ : Loc nD τ sig) → Buf (Elt Ideal) ℓ) (h : Cert.Pre_StageTwoIdeal m) : Cert.StageTwoIdeal.Gen.Hyps m := by
  have bound : ∀ (c : Dev nD) (y : S512x4.Idx), ((m ((c.tc : Thread nD τ).loc main_arg0) : S512x4.Idx → BitVec 32) y).toNat < 71 :=
    fun c y => lt_of_signed _ (congrFun (h c) y)
  have rd : ∀ (c : Dev nD) (t : Fin cfg0.N) (i : S512x4.Idx), ((iblk m c 0 t : S512x4.Idx → BitVec 32) i).toNat < 71 := by
    intro c t i
    unfold iblk
    rw [View.read_apply, cast_eq]
    have e : V m c (Pipeline.arrRef spec0 0) = m ((c.tc : Thread nD τ).loc main_arg0) := V_main_arg0 m c
    rw [e]
    exact bound c _
  refine Hyps.of ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)
  · exact fun c t _ _ => inside_StageTwoIdeal _ (word_StageTwoIdeal (hs0_0 t) (rd c t) _ _)

end

end Cert.PagesIdeal
-- ==== Proof.Quiet.lean ====
/- The reference runs, leaves its arguments unchanged and ends with every semaphore at zero. -/
module

public import proofs.«01_k».proof.Defs
public import proofs.«01_k».proof.Proof.Gen.ReferenceIdeal.Run
public import proofs.«01_k».proof.Proof.Gen.Pre_finite
public import Idealize.ShloMosaic.Lib.Quiescent

@[expose] public section

noncomputable section

namespace Cert.Quiet

open Idealize.ShloMosaic Idealize.SL.Sem Cert.ReferenceIdeal

/-- The reference's arguments end unchanged, and no semaphore is left raised: it has none. -/
theorem reference_unchanged : Cert.quiescent_ReferenceIdeal := fun m ρ _ =>
  (θ_run defs _ _).mono (fun r h => ⟨fun c => (h c).2.2, sem_eq_zero_of_no_sems (by decide) r.2⟩)
    (Cert.ReferenceIdeal.Value.run (F := Ideal) m ρ)

theorem reference_unchanged_finite : Cert.quiescent_ReferenceIdeal_pre_finite := fun m ρ _ =>
  reference_unchanged m ρ trivial

end Cert.Quiet
-- ==== Proof.RegionZero.lean ====
/- The first call of the kernel: what its body leaves in each result buffer, as a term of the argument blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x64 := Rect.unit (s := S512x64) ![0, 0] S512x64.size inb_S512x64_S512x64_0_0
abbrev r0_1 : Rect S71x256x64 := Rect.unit (s := S71x256x64) ![0, 0, 0] S71x256x64.size inb_S71x256x64_S71x256x64_0_0_0
abbrev r0_2 : Rect S64x64 := Rect.unit (s := S64x64) ![0, 0] S64x64.size inb_S64x64_S64x64_0_0
abbrev r0_3 : Rect S1x64 := Rect.unit (s := S1x64) ![0, 0] S1x64.size inb_S1x64_S1x64_0_0
abbrev r0_4 : Rect S512x4 := Rect.unit (s := S512x4) ![0, 0] S512x1.size inb_S512x4_S512x1_0_0
abbrev r0_5 : Rect S512x4 := Rect.unit (s := S512x4) ![0, 1] S512x1.size inb_S512x4_S512x1_0_1
abbrev r0_6 : Rect S512x4 := Rect.unit (s := S512x4) ![0, 2] S512x1.size inb_S512x4_S512x1_0_2
abbrev r0_7 : Rect S512x4 := Rect.unit (s := S512x4) ![0, 3] S512x1.size inb_S512x4_S512x1_0_3

def k0_pay47 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : IVec S512x71 32 :=
  iota .tc S512x71 32 [1] iota_S512x71_d1_w32 -- `v28`
def k0_pay48 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S71x64 .f32 :=
  k0_pay1 (View.ld x1 r0_1) -- `v4`
def k0_pay49 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S1x64 .f32 :=
  k0_pay2 (View.ld x3 r0_3) -- `v7`
def k0_pay50 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S1x64 .f32 :=
  k0_pay3 (View.ld x5 r0_3) -- `v10`
def k0_pay51 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x71 .f32 :=
  k0_pay4 (View.ld x0 r0_0) (View.ld x1 r0_1) -- `v27`
def k0_pay52 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : IVec S512x71 32 :=
  k0_pay5 (View.ld x0 r0_0) (View.ld x1 r0_1) -- `v34`
def k0_pay53 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay10 (k0_pay48 x0 x1 x2 x3 x4 x5 x6) (k0_pay47 x0 x1 x2 x3 x4 x5 x6) (k0_pay52 x0 x1 x2 x3 x4 x5 x6) -- `v45`
def k0_pay54 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x71 .f32 :=
  k0_pay14 (k0_pay51 x0 x1 x2 x3 x4 x5 x6) (k0_pay47 x0 x1 x2 x3 x4 x5 x6) (k0_pay52 x0 x1 x2 x3 x4 x5 x6) -- `v59`
def k0_pay55 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay15 (k0_pay48 x0 x1 x2 x3 x4 x5 x6) (k0_pay51 x0 x1 x2 x3 x4 x5 x6) (k0_pay47 x0 x1 x2 x3 x4 x5 x6) (k0_pay52 x0 x1 x2 x3 x4 x5 x6) -- `v62`
def k0_pay56 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : IVec S512x71 1 :=
  k0_pay17 (k0_pay51 x0 x1 x2 x3 x4 x5 x6) (k0_pay47 x0 x1 x2 x3 x4 x5 x6) (k0_pay52 x0 x1 x2 x3 x4 x5 x6) -- `v72`
def k0_pay57 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay19 (k0_pay48 x0 x1 x2 x3 x4 x5 x6) (k0_pay56 x0 x1 x2 x3 x4 x5 x6) -- `v79`
def k0_pay58 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay22 (k0_pay48 x0 x1 x2 x3 x4 x5 x6) (k0_pay47 x0 x1 x2 x3 x4 x5 x6) (k0_pay54 x0 x1 x2 x3 x4 x5 x6) (k0_pay56 x0 x1 x2 x3 x4 x5 x6) (Scalar.ofBits .f32 0x7F800000#32) -- `v94`
def k0_pay59 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay24 (View.ld x0 r0_0) (View.ld x2 r0_2) (k0_pay49 x0 x1 x2 x3 x4 x5 x6) (View.ld x6 r0_2) (k0_pay53 x0 x1 x2 x3 x4 x5 x6) -- `v107`
def k0_pay60 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay26 (View.ld x0 r0_0) (View.ld x2 r0_2) (k0_pay49 x0 x1 x2 x3 x4 x5 x6) (k0_pay55 x0 x1 x2 x3 x4 x5 x6) -- `v113`
def k0_pay61 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay27 (View.ld x0 r0_0) (View.ld x2 r0_2) (k0_pay49 x0 x1 x2 x3 x4 x5 x6) (k0_pay55 x0 x1 x2 x3 x4 x5 x6) -- `v116`
def k0_pay62 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay28 (F := F) -- `v117`
def k0_pay63 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : FVec F S512x64 .f32 :=
  k0_pay40 (View.ld x0 r0_0) (View.ld x2 r0_2) (k0_pay49 x0 x1 x2 x3 x4 x5 x6) (View.ld x6 r0_2) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6) -- `v160`

def out0_7 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : Vec F S512x64 .f32 :=
  View.canon [⟨r0_0, k0_pay43 (View.ld x0 r0_0) (k0_pay41 (View.ld x0 r0_0) (View.ld x2 r0_2) (k0_pay49 x0 x1 x2 x3 x4 x5 x6) (View.ld x4 r0_2) (View.ld x6 r0_2) (k0_pay57 x0 x1 x2 x3 x4 x5 x6) (k0_pay58 x0 x1 x2 x3 x4 x5 x6) (k0_pay23 (View.ld x0 r0_0) (View.ld x2 r0_2) (k0_pay49 x0 x1 x2 x3 x4 x5 x6) (k0_pay53 x0 x1 x2 x3 x4 x5 x6)) (k0_pay59 x0 x1 x2 x3 x4 x5 x6) (k0_pay60 x0 x1 x2 x3 x4 x5 x6) (k0_pay61 x0 x1 x2 x3 x4 x5 x6) (k0_pay62 x0 x1 x2 x3 x4 x5 x6)) (k0_pay42 (k0_pay50 x0 x1 x2 x3 x4 x5 x6))⟩]

theorem cover0_7 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

def out0_8 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : Vec F S512x64 .f32 :=
  View.canon [⟨r0_0, k0_pay44 (View.ld x0 r0_0) (View.ld x4 r0_2) (k0_pay50 x0 x1 x2 x3 x4 x5 x6) (k0_pay29 (k0_pay60 x0 x1 x2 x3 x4 x5 x6) (k0_pay61 x0 x1 x2 x3 x4 x5 x6) (k0_pay62 x0 x1 x2 x3 x4 x5 x6)) (k0_pay37 (View.ld x0 r0_0) (View.ld x2 r0_2) (k0_pay49 x0 x1 x2 x3 x4 x5 x6) (View.ld x6 r0_2) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6)) (k0_pay63 x0 x1 x2 x3 x4 x5 x6)⟩]

theorem cover0_8 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

def out0_9 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : Vec F S512x64 .f32 :=
  View.canon [⟨r0_0, k0_pay45 (View.ld x0 r0_0) (View.ld x4 r0_2) (k0_pay50 x0 x1 x2 x3 x4 x5 x6) (k0_pay31 (View.ld x0 r0_0) (View.ld x2 r0_2) (k0_pay49 x0 x1 x2 x3 x4 x5 x6) (k0_pay57 x0 x1 x2 x3 x4 x5 x6)) (k0_pay38 (View.ld x0 r0_0) (View.ld x2 r0_2) (k0_pay49 x0 x1 x2 x3 x4 x5 x6) (View.ld x6 r0_2) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6)) (k0_pay63 x0 x1 x2 x3 x4 x5 x6)⟩]

theorem cover0_9 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

def out0_10 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : Vec F S512x64 .f32 :=
  View.canon [⟨r0_0, k0_pay46 (View.ld x0 r0_0) (View.ld x4 r0_2) (k0_pay50 x0 x1 x2 x3 x4 x5 x6) (k0_pay33 (View.ld x0 r0_0) (View.ld x2 r0_2) (k0_pay49 x0 x1 x2 x3 x4 x5 x6) (k0_pay58 x0 x1 x2 x3 x4 x5 x6)) (k0_pay39 (View.ld x0 r0_0) (View.ld x2 r0_2) (k0_pay49 x0 x1 x2 x3 x4 x5 x6) (View.ld x6 r0_2) (k0_pay57 x0 x1 x2 x3 x4 x5 x6) (k0_pay58 x0 x1 x2 x3 x4 x5 x6) (k0_pay59 x0 x1 x2 x3 x4 x5 x6) (k0_pay60 x0 x1 x2 x3 x4 x5 x6) (k0_pay61 x0 x1 x2 x3 x4 x5 x6) (k0_pay62 x0 x1 x2 x3 x4 x5 x6)) (k0_pay63 x0 x1 x2 x3 x4 x5 x6)⟩]

theorem cover0_10 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

def out0_11 (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) : Vec F S512x4 .i32 :=
  View.canon [⟨r0_7, k0_pay21 (k0_pay47 x0 x1 x2 x3 x4 x5 x6) (k0_pay54 x0 x1 x2 x3 x4 x5 x6) (k0_pay56 x0 x1 x2 x3 x4 x5 x6) (Scalar.ofBits .f32 0x7F800000#32)⟩,
    ⟨r0_6, k0_pay18 (k0_pay51 x0 x1 x2 x3 x4 x5 x6) (k0_pay47 x0 x1 x2 x3 x4 x5 x6) (k0_pay52 x0 x1 x2 x3 x4 x5 x6)⟩,
    ⟨r0_5, k0_pay13 (k0_pay51 x0 x1 x2 x3 x4 x5 x6) (k0_pay47 x0 x1 x2 x3 x4 x5 x6) (k0_pay52 x0 x1 x2 x3 x4 x5 x6)⟩,
    ⟨r0_4, k0_pay8 (k0_pay52 x0 x1 x2 x3 x4 x5 x6)⟩]

theorem cover0_11 (p0 : Vec F S512x1 .i32) (p1 : Vec F S512x1 .i32) (p2 : Vec F S512x1 .i32) (p3 : Vec F S512x1 .i32) (y : S512x4.Idx) :
    ∃ pc ∈ ([⟨r0_7, p0⟩, ⟨r0_6, p1⟩, ⟨r0_5, p2⟩, ⟨r0_4, p3⟩] : List (View.Piece (Elt F) S512x4 .i32)), y ∈ pc.1.set :=
  View.cover_of_tiled [⟨r0_7, p0⟩, ⟨r0_6, p1⟩, ⟨r0_5, p2⟩, ⟨r0_4, p3⟩] S512x1.size (by rfl) y

set_option maxHeartbeats 1000000 in
theorem sound_kernel0 (c : Dev nD) (E : Set ℕ) (arg0 : Memref sig .tc .vmem S512x64 .f32) (harg0 : arg0.IsWhole) (arg1 : Memref sig .tc .vmem S71x256x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S512x64 .f32) (harg7 : arg7.IsWhole) (arg8 : Memref sig .tc .vmem S512x64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x4 .i32) (harg11 : arg11.IsWhole)
    (x0 : Vec F S512x64 .f32) (x1 : Vec F S71x256x64 .f32) (x2 : Vec F S64x64 .f32) (x3 : Vec F S1x64 .f32) (x4 : Vec F S64x64 .f32) (x5 : Vec F S1x64 .f32) (x6 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6) ∗ owns (c : Thread nD τ) arg8 fullShare (out0_8 x0 x1 x2 x3 x4 x5 x6) ∗ owns (c : Thread nD τ) arg9 fullShare (out0_9 x0 x1 x2 x3 x4 x5 x6) ∗ owns (c : Thread nD τ) arg10 fullShare (out0_10 x0 x1 x2 x3 x4 x5 x6) ∗ owns (c : Thread nD τ) arg11 fullShare (out0_11 x0 x1 x2 x3 x4 x5 x6)) -∗ K ⟨⟩))
      ⊢ wp frame (wpE (defs₀ (F := F)) Variants.none c none) E (cc0__stage1_kernel arg0 harg0 arg1 harg1 arg2 harg2 arg3 harg3 arg4 harg4 arg5 harg5 arg6 harg6 arg7 harg7 arg8 harg8 arg9 harg9 arg10 harg10 arg11 harg11) K := by
  simp only [cc0__stage1_kernel_eq_skeleton]; unfold cc0__stage1_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  iexists _; isplitr
  swap; · iexact H11
  ipureintro
  refine (View.read_writes_eq_canon _ _ _ (cover0_11 _ _ _ _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
    | ⟨10, _⟩ => out0_10 (iblk0 V c 0 t) (iblk0 V c 1 t) (iblk0 V c 2 t) (iblk0 V c 3 t) (iblk0 V c 4 t) (iblk0 V c 5 t) (iblk0 V c 6 t)
    | ⟨11, _⟩ => out0_11 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.RegionOne.lean ====
/- The second call of the kernel: its loop of 64 trips run once, the pieces it writes into the result, where every table word names a page. -/
module

public import proofs.«01_k».proof.Proof.Gen.KernelIdeal.Launch
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The condition the body assumes of a table word: the page it names is inside the table of pages. -/
theorem chk_of_lt (v : BitVec 32) (h : v.toNat < 71) : k1_chk1 v := by
  unfold k1_chk1
  intro a
  have e : (Scalar.indexCast (Scalar.muli v 256#32) : BitVec 32).toNat = v.toNat * 256 := by
    show (v * 256#32).toNat = v.toNat * 256
    rw [BitVec.toNat_mul]
    exact Nat.mod_eq_of_lt (by show v.toNat * 256 < 2 ^ 32; omega)
  fin_cases a
  · show (Scalar.indexCast (Scalar.muli v 256#32) : BitVec 32).toNat + 256 ≤ 18176
    rw [e]; omega
  · show 0 + 64 ≤ 64
    omega

set_option maxHeartbeats 1000000 in
/-- The second call's body run: the pieces it writes into the result, with the proof that it runs, where every word of the table of pages is below 71. -/
noncomputable def kernelRun1_A (c : Dev nD) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole)
    (x0 : Vec F S512x4 .i32) (x1 : Vec F S2048x64 .f32) (x2 : Vec F S18176x64 .f32) (x3 : Vec F S64x64 .f32) (x4 : Vec F S1x64 .f32) (x5 : Vec F S64x64 .f32) (x6 : Vec F S1x64 .f32) (x7 : Vec F S64x64 .f32) (k1_hw1L : (∀ (kq : ℕ) (hkq : kq < k1_t1_loop.trips), k1_chk1 (arg0.view.readAt (Elt F) (Rect.unit (s := S512x4) (k1_off2 ⟨kq, hkq⟩) S1x1.size (k1_off2_inb ⟨kq, hkq⟩)).toLoadRect (harg0.unread x0) (Shape.Idx.first (numel1_S1x1.symm ▸ Nat.one_pos))))) (k1_hw2L : (∀ (kq : ℕ) (hkq : kq < k1_t1_loop.trips), k1_chk2 (arg0.view.readAt (Elt F) (Rect.unit (s := S512x4) (k1_off4 ⟨kq, hkq⟩) S1x1.size (k1_off4_inb ⟨kq, hkq⟩)).toLoadRect (harg0.unread x0) (Shape.Idx.first (numel1_S1x1.symm ▸ Nat.one_pos))))) (k1_hw3L : (∀ (kq : ℕ) (hkq : kq < k1_t1_loop.trips), k1_chk3 (arg0.view.readAt (Elt F) (Rect.unit (s := S512x4) (k1_off6 ⟨kq, hkq⟩) S1x1.size (k1_off6_inb ⟨kq, hkq⟩)).toLoadRect (harg0.unread x0) (Shape.Idx.first (numel1_S1x1.symm ▸ Nat.one_pos))))) (k1_hw4L : (∀ (kq : ℕ) (hkq : kq < k1_t1_loop.trips), k1_chk4 (arg0.view.readAt (Elt F) (Rect.unit (s := S512x4) (k1_off8 ⟨kq, hkq⟩) S1x1.size (k1_off8_inb ⟨kq, hkq⟩)).toLoadRect (harg0.unread x0) (Shape.Idx.first (numel1_S1x1.symm ▸ Nat.one_pos))))) (k1_hw5L : (∀ (kq : ℕ) (hkq : kq < k1_t1_loop.trips), k1_chk5 (arg0.view.readAt (Elt F) (Rect.unit (s := S512x4) (k1_off11 ⟨kq, hkq⟩) S1x1.size (k1_off11_inb ⟨kq, hkq⟩)).toLoadRect (harg0.unread x0) (Shape.Idx.first (numel1_S1x1.symm ▸ Nat.one_pos))))) (k1_hw6L : (∀ (kq : ℕ) (hkq : kq < k1_t1_loop.trips), k1_chk6 (arg0.view.readAt (Elt F) (Rect.unit (s := S512x4) (k1_off13 ⟨kq, hkq⟩) S1x1.size (k1_off13_inb ⟨kq, hkq⟩)).toLoadRect (harg0.unread x0) (Shape.Idx.first (numel1_S1x1.symm ▸ Nat.one_pos))))) (k1_hw7L : (∀ (kq : ℕ) (hkq : kq < k1_t1_loop.trips), k1_chk7 (arg0.view.readAt (Elt F) (Rect.unit (s := S512x4) (k1_off15 ⟨kq, hkq⟩) S1x1.size (k1_off15_inb ⟨kq, hkq⟩)).toLoadRect (harg0.unread x0) (Shape.Idx.first (numel1_S1x1.symm ▸ Nat.one_pos))))) (k1_hw8L : (∀ (kq : ℕ) (hkq : kq < k1_t1_loop.trips), k1_chk8 (arg0.view.readAt (Elt F) (Rect.unit (s := S512x4) (k1_off17 ⟨kq, hkq⟩) S1x1.size (k1_off17_inb ⟨kq, hkq⟩)).toLoadRect (harg0.unread x0) (Shape.Idx.first (numel1_S1x1.symm ▸ Nat.one_pos))))) (k1_hw9L : (∀ (kq : ℕ) (hkq : kq < k1_t1_loop.trips), k1_chk9 (arg0.view.readAt (Elt F) (Rect.unit (s := S512x4) (k1_off20 ⟨kq, hkq⟩) S1x1.size (k1_off20_inb ⟨kq, hkq⟩)).toLoadRect (harg0.unread x0) (Shape.Idx.first (numel1_S1x1.symm ▸ Nat.one_pos))))) (k1_hw10L : (∀ (kq : ℕ) (hkq : kq < k1_t1_loop.trips), k1_chk10 (arg0.view.readAt (Elt F) (Rect.unit (s := S512x4) (k1_off22 ⟨kq, hkq⟩) S1x1.size (k1_off22_inb ⟨kq, hkq⟩)).toLoadRect (harg0.unread x0) (Shape.Idx.first (numel1_S1x1.symm ▸ Nat.one_pos))))) (k1_hw11L : (∀ (kq : ℕ) (hkq : kq < k1_t1_loop.trips), k1_chk11 (arg0.view.readAt (Elt F) (Rect.unit (s := S512x4) (k1_off24 ⟨kq, hkq⟩) S1x1.size (k1_off24_inb ⟨kq, hkq⟩)).toLoadRect (harg0.unread x0) (Shape.Idx.first (numel1_S1x1.symm ▸ Nat.one_pos))))) (k1_hw12L : (∀ (kq : ℕ) (hkq : kq < k1_t1_loop.trips), k1_chk12 (arg0.view.readAt (Elt F) (Rect.unit (s := S512x4) (k1_off26 ⟨kq, hkq⟩) S1x1.size (k1_off26_inb ⟨kq, hkq⟩)).toLoadRect (harg0.unread x0) (Shape.Idx.first (numel1_S1x1.symm ▸ Nat.one_pos))))) (k1_hw13L : (∀ (kq : ℕ) (hkq : kq < k1_t1_loop.trips), k1_chk13 (arg0.view.readAt (Elt F) (Rect.unit (s := S512x4) (k1_off29 ⟨kq, hkq⟩) S1x1.size (k1_off29_inb ⟨kq, hkq⟩)).toLoadRect (harg0.unread x0) (Shape.Idx.first (numel1_S1x1.symm ▸ Nat.one_pos))))) (k1_hw14L : (∀ (kq : ℕ) (hkq : kq < k1_t1_loop.trips), k1_chk14 (arg0.view.readAt (Elt F) (Rect.unit (s := S512x4) (k1_off31 ⟨kq, hkq⟩) S1x1.size (k1_off31_inb ⟨kq, hkq⟩)).toLoadRect (harg0.unread x0) (Shape.Idx.first (numel1_S1x1.symm ▸ Nat.one_pos))))) (k1_hw15L : (∀ (kq : ℕ) (hkq : kq < k1_t1_loop.trips), k1_chk15 (arg0.view.readAt (Elt F) (Rect.unit (s := S512x4) (k1_off33 ⟨kq, hkq⟩) S1x1.size (k1_off33_inb ⟨kq, hkq⟩)).toLoadRect (harg0.unread x0) (Shape.Idx.first (numel1_S1x1.symm ▸ Nat.one_pos))))) (k1_hw16L : (∀ (kq : ℕ) (hkq : kq < k1_t1_loop.trips), k1_chk16 (arg0.view.readAt (Elt F) (Rect.unit (s := S512x4) (k1_off35 ⟨kq, hkq⟩) S1x1.size (k1_off35_inb ⟨kq, hkq⟩)).toLoadRect (harg0.unread x0) (Shape.Idx.first (numel1_S1x1.symm ▸ Nat.one_pos))))) (k1_hw17L : (∀ (kq : ℕ) (hkq : kq < k1_t1_loop.trips), k1_chk17 (arg0.view.readAt (Elt F) (Rect.unit (s := S512x4) (k1_off38 ⟨kq, hkq⟩) S1x1.size (k1_off38_inb ⟨kq, hkq⟩)).toLoadRect (harg0.unread x0) (Shape.Idx.first (numel1_S1x1.symm ▸ Nat.one_pos))))) (k1_hw18L : (∀ (kq : ℕ) (hkq : kq < k1_t1_loop.trips), k1_chk18 (arg0.view.readAt (Elt F) (Rect.unit (s := S512x4) (k1_off40 ⟨kq, hkq⟩) S1x1.size (k1_off40_inb ⟨kq, hkq⟩)).toLoadRect (harg0.unread x0) (Shape.Idx.first (numel1_S1x1.symm ▸ Nat.one_pos))))) (k1_hw19L : (∀ (kq : ℕ) (hkq : kq < k1_t1_loop.trips), k1_chk19 (arg0.view.readAt (Elt F) (Rect.unit (s := S512x4) (k1_off42 ⟨kq, hkq⟩) S1x1.size (k1_off42_inb ⟨kq, hkq⟩)).toLoadRect (harg0.unread x0) (Shape.Idx.first (numel1_S1x1.symm ▸ Nat.one_pos))))) (k1_hw20L : (∀ (kq : ℕ) (hkq : kq < k1_t1_loop.trips), k1_chk20 (arg0.view.readAt (Elt F) (Rect.unit (s := S512x4) (k1_off44 ⟨kq, hkq⟩) S1x1.size (k1_off44_inb ⟨kq, hkq⟩)).toLoadRect (harg0.unread x0) (Shape.Idx.first (numel1_S1x1.symm ▸ Nat.one_pos))))) (k1_hw21L : (∀ (kq : ℕ) (hkq : kq < k1_t1_loop.trips), k1_chk21 (arg0.view.readAt (Elt F) (Rect.unit (s := S512x4) (k1_off47 ⟨kq, hkq⟩) S1x1.size (k1_off47_inb ⟨kq, hkq⟩)).toLoadRect (harg0.unread x0) (Shape.Idx.first (numel1_S1x1.symm ▸ Nat.one_pos))))) (k1_hw22L : (∀ (kq : ℕ) (hkq : kq < k1_t1_loop.trips), k1_chk22 (arg0.view.readAt (Elt F) (Rect.unit (s := S512x4) (k1_off49 ⟨kq, hkq⟩) S1x1.size (k1_off49_inb ⟨kq, hkq⟩)).toLoadRect (harg0.unread x0) (Shape.Idx.first (numel1_S1x1.symm ▸ Nat.one_pos))))) (k1_hw23L : (∀ (kq : ℕ) (hkq : kq < k1_t1_loop.trips), k1_chk23 (arg0.view.readAt (Elt F) (Rect.unit (s := S512x4) (k1_off51 ⟨kq, hkq⟩) S1x1.size (k1_off51_inb ⟨kq, hkq⟩)).toLoadRect (harg0.unread x0) (Shape.Idx.first (numel1_S1x1.symm ▸ Nat.one_pos))))) (k1_hw24L : (∀ (kq : ℕ) (hkq : kq < k1_t1_loop.trips), k1_chk24 (arg0.view.readAt (Elt F) (Rect.unit (s := S512x4) (k1_off53 ⟨kq, hkq⟩) S1x1.size (k1_off53_inb ⟨kq, hkq⟩)).toLoadRect (harg0.unread x0) (Shape.Idx.first (numel1_S1x1.symm ▸ Nat.one_pos))))) (k1_hw25L : (∀ (kq : ℕ) (hkq : kq < k1_t1_loop.trips), k1_chk25 (arg0.view.readAt (Elt F) (Rect.unit (s := S512x4) (k1_off56 ⟨kq, hkq⟩) S1x1.size (k1_off56_inb ⟨kq, hkq⟩)).toLoadRect (harg0.unread x0) (Shape.Idx.first (numel1_S1x1.symm ▸ Nat.one_pos))))) (k1_hw26L : (∀ (kq : ℕ) (hkq : kq < k1_t1_loop.trips), k1_chk26 (arg0.view.readAt (Elt F) (Rect.unit (s := S512x4) (k1_off58 ⟨kq, hkq⟩) S1x1.size (k1_off58_inb ⟨kq, hkq⟩)).toLoadRect (harg0.unread x0) (Shape.Idx.first (numel1_S1x1.symm ▸ Nat.one_pos))))) (k1_hw27L : (∀ (kq : ℕ) (hkq : kq < k1_t1_loop.trips), k1_chk27 (arg0.view.readAt (Elt F) (Rect.unit (s := S512x4) (k1_off60 ⟨kq, hkq⟩) S1x1.size (k1_off60_inb ⟨kq, hkq⟩)).toLoadRect (harg0.unread x0) (Shape.Idx.first (numel1_S1x1.symm ▸ Nat.one_pos))))) (k1_hw28L : (∀ (kq : ℕ) (hkq : kq < k1_t1_loop.trips), k1_chk28 (arg0.view.readAt (Elt F) (Rect.unit (s := S512x4) (k1_off62 ⟨kq, hkq⟩) S1x1.size (k1_off62_inb ⟨kq, hkq⟩)).toLoadRect (harg0.unread x0) (Shape.Idx.first (numel1_S1x1.symm ▸ Nat.one_pos))))) (k1_hw29L : (∀ (kq : ℕ) (hkq : kq < k1_t1_loop.trips), k1_chk29 (arg0.view.readAt (Elt F) (Rect.unit (s := S512x4) (k1_off65 ⟨kq, hkq⟩) S1x1.size (k1_off65_inb ⟨kq, hkq⟩)).toLoadRect (harg0.unread x0) (Shape.Idx.first (numel1_S1x1.symm ▸ Nat.one_pos))))) (k1_hw30L : (∀ (kq : ℕ) (hkq : kq < k1_t1_loop.trips), k1_chk30 (arg0.view.readAt (Elt F) (Rect.unit (s := S512x4) (k1_off67 ⟨kq, hkq⟩) S1x1.size (k1_off67_inb ⟨kq, hkq⟩)).toLoadRect (harg0.unread x0) (Shape.Idx.first (numel1_S1x1.symm ▸ Nat.one_pos))))) (k1_hw31L : (∀ (kq : ℕ) (hkq : kq < k1_t1_loop.trips), k1_chk31 (arg0.view.readAt (Elt F) (Rect.unit (s := S512x4) (k1_off69 ⟨kq, hkq⟩) S1x1.size (k1_off69_inb ⟨kq, hkq⟩)).toLoadRect (harg0.unread x0) (Shape.Idx.first (numel1_S1x1.symm ▸ Nat.one_pos))))) (k1_hw32L : (∀ (kq : ℕ) (hkq : kq < k1_t1_loop.trips), k1_chk32 (arg0.view.readAt (Elt F) (Rect.unit (s := S512x4) (k1_off71 ⟨kq, hkq⟩) S1x1.size (k1_off71_inb ⟨kq, hkq⟩)).toLoadRect (harg0.unread x0) (Shape.Idx.first (numel1_S1x1.symm ▸ Nat.one_pos))))) :
    { L8 : List (View.Piece (Elt F) S2048x64 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f L8) ∗ (∃ d, owns (c : Thread nD τ) arg9 fullShare d)) -∗ K ⟨⟩))
          ⊢ wp frame (wpE (defs₀ (F := F)) Variants.none c none) E (cc1__stage2_kernel arg0 harg0 arg1 harg1 arg2 harg2 arg3 harg3 arg4 harg4 arg5 harg5 arg6 harg6 arg7 harg7 arg8 harg8 arg9 harg9) K } := by
  refine ⟨?_, fun E K => ?run⟩
  case run =>
    simp only [cc1__stage2_kernel_eq_skeleton]; unfold cc1__stage2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _, _; isplitr; swap; · iexact HS0
    ipureintro; rfl

/-- A word of the table read off its buffer is below 71. -/
theorem word {arg0 : Memref sig .tc .smem S512x4 .i32} (harg0 : arg0.IsWhole) {x0 : Vec F S512x4 .i32}
    (hx : ∀ i, (x0 i : BitVec 32).toNat < 71) (r : LoadRect S512x4) (i : r.shape.Idx) :
    (arg0.view.readAt (Elt F) r (harg0.unread x0) i : BitVec 32).toNat < 71 := by
  rw [View.readAt_apply, Memref.IsWhole.read_unread]; exact hx _

/-- The same where every word of the table of pages is below 71. -/
def kernelRun1 (c : Dev nD) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole)
    (x0 : Vec F S512x4 .i32) (x1 : Vec F S2048x64 .f32) (x2 : Vec F S18176x64 .f32) (x3 : Vec F S64x64 .f32) (x4 : Vec F S1x64 .f32) (x5 : Vec F S64x64 .f32) (x6 : Vec F S1x64 .f32) (x7 : Vec F S64x64 .f32) (hx : ∀ i, (x0 i : BitVec 32).toNat < 71) :=
  kernelRun1_A c arg0 harg0 arg1 harg1 arg2 harg2 arg3 harg3 arg4 harg4 arg5 harg5 arg6 harg6 arg7 harg7 arg8 harg8 arg9 harg9 x0 x1 x2 x3 x4 x5 x6 x7 (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _))

theorem cover1_8 (c : Dev nD) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole)
    (x0 : Vec F S512x4 .i32) (x1 : Vec F S2048x64 .f32) (x2 : Vec F S18176x64 .f32) (x3 : Vec F S64x64 .f32) (x4 : Vec F S1x64 .f32) (x5 : Vec F S64x64 .f32) (x6 : Vec F S1x64 .f32) (x7 : Vec F S64x64 .f32) (hx : ∀ i, (x0 i : BitVec 32).toNat < 71) (y : S2048x64.Idx) :
    ∃ pc ∈ (kernelRun1 c arg0 harg0 arg1 harg1 arg2 harg2 arg3 harg3 arg4 harg4 arg5 harg5 arg6 harg6 arg7 harg7 arg8 harg8 arg9 harg9 x0 x1 x2 x3 x4 x5 x6 x7 hx).1, y ∈ pc.1.set :=
  View.cover_of_tiledL (kernelRun1 c arg0 harg0 arg1 harg1 arg2 harg2 arg3 harg3 arg4 harg4 arg5 harg5 arg6 harg6 arg7 harg7 arg8 harg8 arg9 harg9 x0 x1 x2 x3 x4 x5 x6 x7 hx).1 S32x64.size (by sl_kernel_rfl) y

abbrev VO1_8 : View sig .tc .vmem S2048x64 .f32 := (Memref.whole cc1_stg8_0 : Memref sig .tc .vmem S2048x64 .f32).view
abbrev ms1_0 (t : Fin cfg1.N) : Memref sig .tc .smem S512x4 .i32 := win1_0.stage (cfg1.slots t 0)
abbrev hs1_0 (t : Fin cfg1.N) : (ms1_0 t).IsWhole := hstage1_0 0
abbrev ms1_1 (t : Fin cfg1.N) : Memref sig .tc .vmem S2048x64 .f32 := win1_1.stage (cfg1.slots t 1)
abbrev hs1_1 (t : Fin cfg1.N) : (ms1_1 t).IsWhole := hstage1_1 0
abbrev ms1_2 (t : Fin cfg1.N) : Memref sig .tc .vmem S18176x64 .f32 := win1_2.stage (cfg1.slots t 2)
abbrev hs1_2 (t : Fin cfg1.N) : (ms1_2 t).IsWhole := hstage1_2 0
abbrev ms1_3 (t : Fin cfg1.N) : Memref sig .tc .vmem S64x64 .f32 := win1_3.stage (cfg1.slots t 3)
abbrev hs1_3 (t : Fin cfg1.N) : (ms1_3 t).IsWhole := hstage1_3 0
abbrev ms1_4 (t : Fin cfg1.N) : Memref sig .tc .vmem S1x64 .f32 := win1_4.stage (cfg1.slots t 4)
abbrev hs1_4 (t : Fin cfg1.N) : (ms1_4 t).IsWhole := hstage1_4 0
abbrev ms1_5 (t : Fin cfg1.N) : Memref sig .tc .vmem S64x64 .f32 := win1_5.stage (cfg1.slots t 5)
abbrev hs1_5 (t : Fin cfg1.N) : (ms1_5 t).IsWhole := hstage1_5 0
abbrev ms1_6 (t : Fin cfg1.N) : Memref sig .tc .vmem S1x64 .f32 := win1_6.stage (cfg1.slots t 6)
abbrev hs1_6 (t : Fin cfg1.N) : (ms1_6 t).IsWhole := hstage1_6 0
abbrev ms1_7 (t : Fin cfg1.N) : Memref sig .tc .vmem S64x64 .f32 := win1_7.stage (cfg1.slots t 7)
abbrev hs1_7 (t : Fin cfg1.N) : (ms1_7 t).IsWhole := hstage1_7 0
abbrev ms1_8 (t : Fin cfg1.N) : Memref sig .tc .vmem S2048x64 .f32 := win1_8.stage (cfg1.slots t 8)
abbrev hs1_8 (t : Fin cfg1.N) : (ms1_8 t).IsWhole := hstage1_8 0
abbrev scM1_0 : Memref sig .tc .vmem S18176x64 .f32 := Memref.whole cc1_scratch0

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg10_0), ((c : Thread nD τ).loc cc0_stg10_0) ↦{fullShare} f) ∗ (∃ f : Buf (Elt F) ((c : Thread nD τ).loc cc0_stg11_0), ((c : Thread nD τ).loc cc0_stg11_0) ↦{fullShare} f) ∗ (∃ d, owns (c : Thread nD τ) scM1_0 fullShare d)) ∗ (∃ r, prngReg c r)) := by
  unfold Pipeline.ΦA; rw [scopedRest1_eq]; simp only [scM1_0, owns_whole]; try rfl

/-- What the run leaves in the result's buffer: its pieces read back. -/
def out1_8 (c : Dev nD) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole)
    (x0 : Vec F S512x4 .i32) (x1 : Vec F S2048x64 .f32) (x2 : Vec F S18176x64 .f32) (x3 : Vec F S64x64 .f32) (x4 : Vec F S1x64 .f32) (x5 : Vec F S64x64 .f32) (x6 : Vec F S1x64 .f32) (x7 : Vec F S64x64 .f32) (hx : ∀ i, (x0 i : BitVec 32).toNat < 71) : Vec F S2048x64 .f32 :=
  VO1_8.read (Elt F) (VO1_8.writes (Elt F) VO1_8.junk (kernelRun1 c arg0 harg0 arg1 harg1 arg2 harg2 arg3 harg3 arg4 harg4 arg5 harg5 arg6 harg6 arg7 harg7 arg8 harg8 arg9 harg9 x0 x1 x2 x3 x4 x5 x6 x7 hx).1)

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Every word of the table of pages the region finds names one of the 71 pages. -/
def InRange : Prop := ∀ (c : Dev nD) (i : S512x4.Idx), ((V c (Pipeline.arrRef spec1 0) : S512x4.Idx → BitVec 32) i).toNat < 71

variable {V} in
theorem InRange.blk (hV : InRange V) (c : Dev nD) (t : Fin cfg1.N) : ∀ i, (iblk1 V c 0 t i : BitVec 32).toNat < 71 := by
  intro i
  unfold iblk1; rw [View.read_apply, cast_eq]; exact hV c _

set_option maxHeartbeats 800000 in
set_option maxRecDepth 131072 in
def outsAt1 (hV : InRange V) (c : Dev nD) (t : Fin cfg1.N) : Vec F S2048x64 .f32 :=
  out1_8 c (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (hV.blk c t)

def dat1 (hV : InRange V) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V hV c t)
  Φ _ := Pipeline.ΦA spec1 c
  q _ := fullShare
  owed _ := 0

theorem A_eq1 (hV : InRange V) (c : Dev nD) (w : Fin cfg1.W) : (dat1 V hV c).A w = V c (Pipeline.arrRef spec1 w) := by
  dsimp only [dat1]

theorem after1_0 (hV : InRange V) (c : Dev nD) (t : Fin cfg1.N) : (dat1 V hV c).after 0 t = iblk1 V c 0 t := by dsimp only [dat1]
theorem after1_1 (hV : InRange V) (c : Dev nD) (t : Fin cfg1.N) : (dat1 V hV c).after 1 t = iblk1 V c 1 t := by dsimp only [dat1]
theorem after1_2 (hV : InRange V) (c : Dev nD) (t : Fin cfg1.N) : (dat1 V hV c).after 2 t = iblk1 V c 2 t := by dsimp only [dat1]
theorem after1_3 (hV : InRange V) (c : Dev nD) (t : Fin cfg1.N) : (dat1 V hV c).after 3 t = iblk1 V c 3 t := by dsimp only [dat1]
theorem after1_4 (hV : InRange V) (c : Dev nD) (t : Fin cfg1.N) : (dat1 V hV c).after 4 t = iblk1 V c 4 t := by dsimp only [dat1]
theorem after1_5 (hV : InRange V) (c : Dev nD) (t : Fin cfg1.N) : (dat1 V hV c).after 5 t = iblk1 V c 5 t := by dsimp only [dat1]
theorem after1_6 (hV : InRange V) (c : Dev nD) (t : Fin cfg1.N) : (dat1 V hV c).after 6 t = iblk1 V c 6 t := by dsimp only [dat1]
theorem after1_7 (hV : InRange V) (c : Dev nD) (t : Fin cfg1.N) : (dat1 V hV c).after 7 t = iblk1 V c 7 t := by dsimp only [dat1]
theorem after1_8 (hV : InRange V) (c : Dev nD) (t : Fin cfg1.N) : (dat1 V hV c).after 8 t = (outsAt1 V hV c t) := by dsimp only [dat1]

theorem before1_0 (hV : InRange V) (c : Dev nD) (t : Fin cfg1.N) (d) : (dat1 V hV c).before 0 t d = iblk1 V c 0 t :=
  before1_0_of V (dat1 V hV c) (A_eq1 V hV c 0) (after1_0 V hV c) t d
theorem before1_1 (hV : InRange V) (c : Dev nD) (t : Fin cfg1.N) (d) : (dat1 V hV c).before 1 t d = iblk1 V c 1 t :=
  before1_1_of V (dat1 V hV c) (A_eq1 V hV c 1) (after1_1 V hV c) t d
theorem before1_2 (hV : InRange V) (c : Dev nD) (t : Fin cfg1.N) (d) : (dat1 V hV c).before 2 t d = iblk1 V c 2 t :=
  before1_2_of V (dat1 V hV c) (A_eq1 V hV c 2) (after1_2 V hV c) t d
theorem before1_3 (hV : InRange V) (c : Dev nD) (t : Fin cfg1.N) (d) : (dat1 V hV c).before 3 t d = iblk1 V c 3 t :=
  before1_3_of V (dat1 V hV c) (A_eq1 V hV c 3) (after1_3 V hV c) t d
theorem before1_4 (hV : InRange V) (c : Dev nD) (t : Fin cfg1.N) (d) : (dat1 V hV c).before 4 t d = iblk1 V c 4 t :=
  before1_4_of V (dat1 V hV c) (A_eq1 V hV c 4) (after1_4 V hV c) t d
theorem before1_5 (hV : InRange V) (c : Dev nD) (t : Fin cfg1.N) (d) : (dat1 V hV c).before 5 t d = iblk1 V c 5 t :=
  before1_5_of V (dat1 V hV c) (A_eq1 V hV c 5) (after1_5 V hV c) t d
theorem before1_6 (hV : InRange V) (c : Dev nD) (t : Fin cfg1.N) (d) : (dat1 V hV c).before 6 t d = iblk1 V c 6 t :=
  before1_6_of V (dat1 V hV c) (A_eq1 V hV c 6) (after1_6 V hV c) t d
theorem before1_7 (hV : InRange V) (c : Dev nD) (t : Fin cfg1.N) (d) : (dat1 V hV c).before 7 t d = iblk1 V c 7 t :=
  before1_7_of V (dat1 V hV c) (A_eq1 V hV c 7) (after1_7 V hV c) t d

def bodyPre1 (hV : InRange V) (c : Dev nD) (t : Fin cfg1.N) : sProp 𝕄 :=
  iprop((dat1 V hV c).Φ t.castSucc ∗ (dat1 V hV c).owesAt () t.castSucc
    ∗ (∃ d, owns (c : Thread nD τ) (ms1_0 t) fullShare ((dat1 V hV c).before 0 t d))
    ∗ (∃ d, owns (c : Thread nD τ) (ms1_1 t) fullShare ((dat1 V hV c).before 1 t d))
    ∗ (∃ d, owns (c : Thread nD τ) (ms1_2 t) fullShare ((dat1 V hV c).before 2 t d))
    ∗ (∃ d, owns (c : Thread nD τ) (ms1_3 t) fullShare ((dat1 V hV c).before 3 t d))
    ∗ (∃ d, owns (c : Thread nD τ) (ms1_4 t) fullShare ((dat1 V hV c).before 4 t d))
    ∗ (∃ d, owns (c : Thread nD τ) (ms1_5 t) fullShare ((dat1 V hV c).before 5 t d))
    ∗ (∃ d, owns (c : Thread nD τ) (ms1_6 t) fullShare ((dat1 V hV c).before 6 t d))
    ∗ (∃ d, owns (c : Thread nD τ) (ms1_7 t) fullShare ((dat1 V hV c).before 7 t d))
    ∗ (∃ d, owns (c : Thread nD τ) (ms1_8 t) fullShare ((dat1 V hV c).before 8 t d)))

def bodyPost1 (hV : InRange V) (c : Dev nD) (t : Fin cfg1.N) : sProp 𝕄 :=
  iprop((dat1 V hV c).Φ t.succ ∗ (dat1 V hV c).owesAt () t.succ
    ∗ owns (c : Thread nD τ) (ms1_0 t) fullShare ((dat1 V hV c).after 0 t)
    ∗ owns (c : Thread nD τ) (ms1_1 t) fullShare ((dat1 V hV c).after 1 t)
    ∗ owns (c : Thread nD τ) (ms1_2 t) fullShare ((dat1 V hV c).after 2 t)
    ∗ owns (c : Thread nD τ) (ms1_3 t) fullShare ((dat1 V hV c).after 3 t)
    ∗ owns (c : Thread nD τ) (ms1_4 t) fullShare ((dat1 V hV c).after 4 t)
    ∗ owns (c : Thread nD τ) (ms1_5 t) fullShare ((dat1 V hV c).after 5 t)
    ∗ owns (c : Thread nD τ) (ms1_6 t) fullShare ((dat1 V hV c).after 6 t)
    ∗ owns (c : Thread nD τ) (ms1_7 t) fullShare ((dat1 V hV c).after 7 t)
    ∗ owns (c : Thread nD τ) (ms1_8 t) fullShare ((dat1 V hV c).after 8 t))

set_option maxHeartbeats 3200000 in
set_option maxRecDepth 131072 in
theorem sound_body1 (hV : InRange V) (c : Dev nD) (t : Fin cfg1.N) :
    bodyPre1 V hV c t ⊢ wp frame (wpE (defs₀ (F := F)) Variants.none c none) Set.univ (bodyAt1 t) (fun _ => bodyPost1 V hV c t) := by
  unfold bodyPre1 bodyPost1 bodyAt1
  simp only [before1_0, before1_1, before1_2, before1_3, before1_4, before1_5, before1_6, before1_7]
  rw [show (dat1 V hV c).Φ t.succ = (dat1 V hV c).Φ t.castSucc from rfl,
    show (dat1 V hV c).owesAt () t.succ = (dat1 V hV c).owesAt () t.castSucc from rfl,
    after1_0, after1_1, after1_2, after1_3, after1_4, after1_5, after1_6, after1_7, after1_8]
  rw [show (dat1 V hV c).Φ t.castSucc = Pipeline.ΦA spec1 c from rfl, PhiA1_eq]
  unfold outsAt1
  unfold out1_8
  iintro ⟨⟨⟨A0, A1, A2, A3, A4, A5, A6, A7, A8, A9, A10, A11, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (hV.blk c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg A0 A1 A2 A3 A4 A5 A6 A7 A8 A9 A10 A11]
  · isplitl [HS0 A0 A1 A2 A3 A4 A5 A6 A7 A8 A9 A10 A11]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_8 c _ _ _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (hV : InRange V) (c : Dev nD) : BodyObligation (dat1 (F := F) V hV c) (defs₀ (F := F)) Variants.none () Set.univ := fun t => by
  rw [bigSep_W1, bigSep_W1, defs₀_row1]
  exact triple_restated (sound_body1 V hV c t) rfl .rfl fun _ => .rfl

end Cert.KernelIdeal.Whole

end
-- ==== Proof.Run.lean ====
/- The whole program run: the two calls and the reshapes between them, with what each buffer holds at each step. -/
module

public import proofs.«01_k».proof.Proof.Gen.KernelIdeal.Regions
public import proofs.«01_k».proof.Proof.RegionZero
public import proofs.«01_k».proof.Proof.RegionOne
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments of the program. -/
abbrev argRefs : List (Ref sig .tc) := [main_arg0, main_arg1, main_arg2, main_arg3, main_arg4, main_arg5, main_arg6, main_arg7, main_arg8, main_arg9, main_arg10, main_arg11]

/-- The buffers at launch. -/
abbrev W0 : Dev nD → Valuation τ sig (Elt F) := fun c b => m ((c : Dev nD), b)
/-- After the reshapes of the biases. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After the first call. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the four results are stacked and flattened. -/
def W3 (c : Dev nD) : Valuation τ sig (Elt F) := StableHlo.after hostOps1 (W2 m c)
abbrev V3 : (c : Dev nD) → (b : Ref sig .tc) → Buf (Elt F) ((c : Thread nD τ).loc b) := fun c b => W3 m c b

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_args (c : Dev nD) : ∀ a ∈ argRefs, W3 m c (Proc.devRef .tc a) = m ((c : Thread nD τ).loc a) := fun a ha =>
  (W3_of m c a ((by decide : ∀ a ∈ argRefs, a ∉ hostOps1_W) a ha)).trans ((W2_of m c a (argsIn0 a ha)).trans
    ((W1_of m c a ((by decide : ∀ a ∈ argRefs, a ∉ hostOps0_W) a ha)).trans rfl))

variable (hV : InRange (V3 m))

/-- After the second call. -/
def W4 (c : Dev nD) : Valuation τ sig (Elt F) :=
  Pipeline.withArrays spec1 c (W3 m c) fun w => (dat1 (V3 m) hV c).arrAt w cfg1.N
abbrev V4 : (c : Dev nD) → (b : Ref sig .tc) → Buf (Elt F) ((c : Thread nD τ).loc b) := fun c b => W4 m hV c b
/-- At the end: the second result reshaped. -/
def W5 (c : Dev nD) : Valuation τ sig (Elt F) := StableHlo.after hostOps2 (W4 m hV c)
theorem W5_of (c : Dev nD) (r : Ref sig .tc) (h : r ∉ hostOps2_W) : W5 m hV c (Proc.devRef .tc r) = W4 m hV c (Proc.devRef .tc r) :=
  StableHlo.after_of_writes_sub hostOps2 _ hostOps2_writes h

theorem W4_arr (c : Dev nD) (w : Fin cfg1.W) :
    W4 m hV c (Proc.devRef .tc (Pipeline.arrRef spec1 w)) = (dat1 (V3 m) hV c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m hV c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m hV c (Proc.devRef .tc r) = W3 m c (Proc.devRef .tc r) := by
  by_cases hw : ∃ w : Fin cfg1.W, Pipeline.arrRef spec1 w = r
  · obtain ⟨w, rfl⟩ := hw
    exact (W4_arr m hV c w).trans (((dat1 (V3 m) hV c).arrAt_in w (h w rfl) _).trans (A_eq1 (V3 m) hV c w))
  · exact W4_of_ne m hV c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem hF1 (c : Dev nD) (w : Fin cfg1.W) : (dat1 (V3 m) hV c).arrAt w cfg1.N = V4 m hV c (Pipeline.arrRef spec1 w) :=
  (W4_arr m hV c w).symm
theorem hrest1 (c : Dev nD) : ∀ b, b ∉ Finset.univ.image (Pipeline.arrRef spec1) → V4 m hV c b = V3 m c b :=
  fun b hb => W4_of_ne m hV c b fun w e => hb (Finset.mem_image.mpr ⟨w, Finset.mem_univ _, e⟩)

theorem W5_args (c : Dev nD) : ∀ a ∈ argRefs, W5 m hV c (Proc.devRef .tc a) = m ((c : Thread nD τ).loc a) := fun a ha =>
  (W5_of m hV c a ((by decide : ∀ a ∈ argRefs, a ∉ hostOps2_W) a ha)).trans ((W4_of m hV c a (argsIn1 a ha)).trans (W3_args m c a ha))

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) hV c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m hV c) ∗ ∃ r, prngReg c r)

set_option backward.isDefEq.respectTransparency.types false in
def reg0 : Pipeline.RegionSeg (pcfgs (F := F)) adm (pdats m hV) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m hV) launch0.win launch0.arr_whole c
      ((pdats m hV 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hV 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hV 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m hV) ((pdats m hV 0 c).share_full fun _ => rfl)
      (V1 m c) (V2 m c) ((pdats m hV 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m hV) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) hV c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m hV c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m hV) launch1.win launch1.arr_whole c
      ((pdats m hV 1 c).share_full fun _ => rfl) (V3 m c) (A_eq1 (V3 m) hV c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hV 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m hV 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m hV) ((pdats m hV 1 c).share_full fun _ => rfl)
      (V3 m c) (V4 m hV c) ((pdats m hV 1 c).arrAt · cfg1.N) (hF1 m hV c) (hrest1 m hV c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m hV) () defs₀ 𝒱₀ L lv) :=
  [ .host (hseg hostOps0 hostOps0_sub hostOps0_fresh (W0 m)), .region (reg0 m hV),
    .host (hseg hostOps1 hostOps1_sub hostOps1_fresh (W2 m)),
    .region (reg1 m hV),
    .host (hseg hostOps2 hostOps2_sub hostOps2_fresh (W4 m hV)) ]
theorem main_run (c : Dev nD) : main (F := F) c = Pipeline.Seg.run (segs m hV) := (main_chain c).trans (by chain_rfl)

theorem no_unscoped : ∀ sm : SemLoc sig, sm.isScoped .tc = true := by decide

set_option backward.isDefEq.respectTransparency.types false in
theorem runs : θ_run defs (onTc (τ := τ) (main (F := F))) ⟨m, fun _ => 0, ρ⟩ (fun r => (∀ c : Dev nD,
      (∀ a ∈ argRefs, r.2.mem ((c.tc : Thread nD τ).loc a) = m ((c.tc : Thread nD τ).loc a))
      ∧ r.2.mem ((c.tc : Thread nD τ).loc main_v9) = W3 m c (Proc.devRef .tc main_v9)
      ∧ r.2.mem ((c.tc : Thread nD τ).loc main_v13) = W5 m hV c (Proc.devRef .tc main_v13))
      ∧ r.2.sem = fun _ => 0) :=
  Pipeline.θ_run_regions_kit_sems (pcfgs (F := F)) adm (pdats m hV) () cellOf_inj emb₁ defs₀ 𝒱₀ L lv m ρ main (segs m hV)
    (fun c Q => by rw [main_run m hV c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m hV)
    (hch := ⟨fun _ => .rfl, fun _ => .rfl, fun _ => .rfl, fun _ => .rfl, fun _ => .rfl, fun c => by
      show iprop(StableHlo.held (c : Thread nD τ) (Pipeline.ucRefs τ sig) (W5 m hV c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m hV c b)
    (hfin := fun c s' => by
      iintro ⟨⟨Hh, -⟩, HSI⟩
      unfold StableHlo.held
      imodintro
      iapply (pointsTo_read_all (Pipeline.ucRefs τ sig) (fun b => (((c : Thread nD τ)).1, b)) (W5 m hV c) s')
      isplitl [Hh] <;> iassumption)
    (hQ := fun s h hz => ⟨(fun c =>
      ⟨fun a ha => (h c _ (mem_uc a ((by decide : ∀ a ∈ argRefs, ¬ (Proc.devRef .tc a : DevRef τ sig).isScoped) a ha))).trans (W5_args m hV c a ha),
       (h c _ (mem_uc main_v9 (by decide))).trans ((W5_of m hV c main_v9 (by decide)).trans
        (W4_of m hV c main_v9 (by decide +kernel))),
       h c _ (mem_uc main_v13 (by decide))⟩), funext fun g => hz g (.inr (no_unscoped g.2))⟩)

end Cert.KernelIdeal.Whole

end
-- ==== Proof.Pick.lean ====
/- Choosing the four nearest classes of a row of distances: the least index of a least value, four times over with the
   chosen entries put out of reach, is what the first four places of the stable sort of the negated row hold. -/
module

public import Idealize.ShloMosaic.PureOps
public import Idealize.ShloMosaic.PureOps.Ideal
public import Idealize.ShloMosaic.Lib.SortFacts
public import Idealize.ShloMosaic.Lib.Pointwise

@[expose] public section

set_option maxRecDepth 16384

noncomputable section

namespace Cert.Pick

open Idealize.ShloMosaic

/-- `c` is the least index at which the row takes its least value. -/
def IsPick (f : Fin 71 → EReal) (c : Fin 71) : Prop := (∀ k, f c ≤ f k) ∧ ∀ k, k < c → f c < f k

theorem IsPick.unique {f : Fin 71 → EReal} {c d : Fin 71} (h : IsPick f c) (h' : IsPick f d) : c = d := by
  rcases lt_trichotomy c d with l | e | l
  · exact absurd (h'.2 c l) (not_lt.mpr (h.1 d))
  · exact e
  · exact absurd (h.2 d l) (not_lt.mpr (h'.1 c))

theorem exists_pick (f : Fin 71 → EReal) : ∃ c, IsPick f c := by
  obtain ⟨m, hm⟩ := Finite.exists_min f
  have hne : (Finset.univ.filter fun k => f k = f m).Nonempty := ⟨m, by simp⟩
  refine ⟨(Finset.univ.filter fun k => f k = f m).min' hne, ?_, ?_⟩
  · intro k
    have := (Finset.mem_filter.mp (Finset.min'_mem _ hne)).2
    rw [this]; exact hm k
  · intro k hk
    have e := (Finset.mem_filter.mp (Finset.min'_mem _ hne)).2
    rw [e]
    refine lt_of_le_of_ne (hm k) fun h => ?_
    exact absurd (Finset.min'_le _ k (by simp [h.symm])) (not_le.mpr hk)

/-- The least index of a least value. -/
def pick (f : Fin 71 → EReal) : Fin 71 := (exists_pick f).choose
theorem pick_spec (f : Fin 71 → EReal) : IsPick f (pick f) := (exists_pick f).choose_spec
theorem IsPick.eq {f : Fin 71 → EReal} {c : Fin 71} (h : IsPick f c) : c = pick f := h.unique (pick_spec f)

/-- The row with entry `c` put out of reach. -/
def mask (f : Fin 71 → EReal) (c : Fin 71) : Fin 71 → EReal := fun k => if k = c then ⊤ else f k

def row0 (f : Fin 71 → EReal) := f
def row1 (f : Fin 71 → EReal) := mask f (pick f)
def row2 (f : Fin 71 → EReal) := mask (row1 f) (pick (row1 f))
def row3 (f : Fin 71 → EReal) := mask (row2 f) (pick (row2 f))

/-- The four chosen entries, in order. -/
def sel (f : Fin 71 → EReal) : Fin 4 → Fin 71 := ![pick f, pick (row1 f), pick (row2 f), pick (row3 f)]

/-! ## By two reductions: the least value, then the least index reaching it -/

theorem word_int : ∀ x : Fin 71, (BitVec.ofNat 32 x.val).toInt = x.val := by decide

theorem word_inj {x y : Fin 71} (h : BitVec.ofNat 32 x.val = BitVec.ofNat 32 y.val) : x = y := by
  have := congrArg BitVec.toInt h
  rw [word_int, word_int] at this
  exact Fin.ext (by exact_mod_cast this)

theorem minsi_toInt (a b : BitVec 32) : (IntOp.minsi a b).toInt = min a.toInt b.toInt := by
  unfold IntOp.minsi
  simp only [BitVec.sle, BitVec.slt]
  split <;> rename_i h <;> simp at h <;> omega

theorem fold_minsi {ι : Type} (s : Finset ι) (g : ι → BitVec 32) (i w : BitVec 32) (hi : w.toInt ≤ i.toInt)
    (h : ∀ x ∈ s, w.toInt ≤ (g x).toInt) (x0 : ι) (hx : x0 ∈ s) (e : g x0 = w) : Finset.fold IntOp.minsi i g s = w := by
  apply BitVec.eq_of_toInt_eq
  have k := Finset.fold_hom (op := IntOp.minsi (w := 32)) (op' := (min : ℤ → ℤ → ℤ)) (s := s) (f := g) (b := i) (m := BitVec.toInt) minsi_toInt
  rw [← k]
  apply le_antisymm
  · exact (Finset.fold_min_le _).mpr (Or.inr ⟨x0, hx, by rw [e]⟩)
  · exact (Finset.le_fold_min _).mpr ⟨hi, h⟩

theorem fold_min_pick (f : Fin 71 → EReal) : Finset.fold min ⊤ f Finset.univ = f (pick f) := by
  apply le_antisymm
  · exact (Finset.fold_min_le _).mpr (Or.inr ⟨_, Finset.mem_univ _, le_rfl⟩)
  · exact (Finset.le_fold_min _).mpr ⟨le_top, fun x _ => (pick_spec f).1 x⟩

theorem fold_pick (f : Fin 71 → EReal) :
    Finset.fold IntOp.minsi 2147483647#32
      (fun x : Fin 71 => if f x ≤ Finset.fold min ⊤ f Finset.univ then BitVec.ofNat 32 x.val else 71#32) Finset.univ
      = BitVec.ofNat 32 (pick f).val := by
  rw [fold_min_pick]
  have hb : ((pick f).val : ℤ) < 71 := by exact_mod_cast (pick f).isLt
  refine fold_minsi _ _ _ _ ?_ ?_ (pick f) (Finset.mem_univ _) (by simp)
  · rw [word_int]; show _ ≤ (2147483647 : ℤ); omega
  · intro x _
    rw [word_int]
    split
    · rename_i h
      rw [word_int]
      have : ¬ x < pick f := fun l => absurd ((pick_spec f).2 x l) (not_lt.mpr h)
      exact_mod_cast not_lt.mp this
    · show _ ≤ (71 : ℤ); omega

/-- A sum against the indicator of one entry is that entry. -/
theorem sum_onehot (g : Fin 71 → EReal) (c : Fin 71) :
    ∑ x : Fin 71, (FloatOps.sitofp .f32 (BitVec.setWidth 32 (IntOp.cmpi .eq (BitVec.ofNat 32 x.val) (BitVec.ofNat 32 c.val))) : Ideal .f32) * g x = g c := by
  rw [Finset.sum_eq_single c]
  · have : IntOp.cmpi .eq (BitVec.ofNat 32 c.val) (BitVec.ofNat 32 c.val) = 1#1 := by simp [IntOp.cmpi]
    rw [this]
    show (((BitVec.setWidth 32 1#1).toInt : ℝ) : EReal) * g c = g c
    rw [show (BitVec.setWidth 32 1#1).toInt = 1 by decide]; simp
  · intro x _ hx
    have : IntOp.cmpi .eq (BitVec.ofNat 32 x.val) (BitVec.ofNat 32 c.val) = 0#1 := by
      have hne : BitVec.ofNat 32 x.val ≠ BitVec.ofNat 32 c.val := fun h => hx (word_inj h)
      simp only [IntOp.cmpi]
      rw [beq_eq_false_iff_ne.mpr hne]; rfl
    rw [this]
    show (((BitVec.setWidth 32 0#1).toInt : ℝ) : EReal) * g x = 0
    rw [show (BitVec.setWidth 32 0#1).toInt = 0 by decide]; simp
  · exact fun h => absurd (Finset.mem_univ c) h

/-! ## By sorting -/

/-- Below in value, or equal and earlier. -/
def Lex {n : ℕ} (f : Fin n → EReal) (a b : Fin n) : Prop := f a < f b ∨ (f a = f b ∧ a < b)

theorem Lex.trans {n : ℕ} {f : Fin n → EReal} {a b c : Fin n} (h : Lex f a b) (h' : Lex f b c) : Lex f a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem lex_insert {n : ℕ} (f : Fin n → EReal) (B : Fin n → Fin n → Bool) (hB : ∀ a b, B a b = true ↔ f a < f b) (a : Fin n)
    (l : List (Fin n)) (ha : ∀ b ∈ l, a < b) (hl : l.Pairwise (Lex f)) : (insertBefore B a l).Pairwise (Lex f) := by
  induction l with
  | nil => exact List.pairwise_singleton _ _
  | cons b l ih =>
    rw [List.pairwise_cons] at hl
    unfold insertBefore
    split
    · rename_i h
      refine List.pairwise_cons.mpr ⟨fun c hc => ?_, ih (fun x hx => ha x (List.mem_cons_of_mem _ hx)) hl.2⟩
      rcases List.mem_cons.mp ((perm_insertBefore B a l).mem_iff.mp hc) with e | hc'
      · rw [e]; exact Or.inl ((hB _ _).mp h)
      · exact hl.1 c hc'
    · rename_i h
      have hab : Lex f a b := by
        have h' : ¬ f b < f a := fun x => h ((hB _ _).mpr x)
        rcases lt_or_eq_of_le (not_lt.mp h') with l' | e
        · exact Or.inl l'
        · exact Or.inr ⟨e, ha b List.mem_cons_self⟩
      refine List.pairwise_cons.mpr ⟨fun c hc => ?_, List.pairwise_cons.mpr hl⟩
      rcases List.mem_cons.mp hc with e | hc'
      · rw [e]; exact hab
      · exact hab.trans (hl.1 c hc')

theorem lex_stableSort {n : ℕ} (f : Fin n → EReal) (B : Fin n → Fin n → Bool) (hB : ∀ a b, B a b = true ↔ f a < f b)
    (l : List (Fin n)) (hs : l.Pairwise (· < ·)) : (stableSort B l).Pairwise (Lex f) := by
  induction l with
  | nil => exact List.Pairwise.nil
  | cons a l ih =>
    rw [List.pairwise_cons] at hs
    unfold stableSort
    exact lex_insert f B hB a _ (fun b hb => hs.1 b ((perm_stableSort B l).mem_iff.mp hb)) (ih hs.2)

section
variable {n : ℕ} (f : Fin n → EReal) (B : Fin n → Fin n → Bool) (hB : ∀ a b, B a b = true ↔ f a < f b)
include hB

theorem lex_sorted (i j : Fin n) (h : i < j) : Lex f (sortedFrom B i) (sortedFrom B j) := by
  have hp := List.pairwise_iff_get.mp (lex_stableSort f B hB (List.finRange n) (List.pairwise_lt_finRange n))
  unfold sortedFrom
  exact hp _ _ (Fin.lt_def.mpr (Fin.lt_def.mp h))

theorem sorted_ne (i j : Fin n) (h : i < j) : sortedFrom B j ≠ sortedFrom B i := by
  intro e
  have := lex_sorted f B hB i j h
  rw [e] at this
  rcases this with l | ⟨_, l⟩ <;> exact absurd l (lt_irrefl _)

omit hB in
theorem sorted_surj (k : Fin n) : ∃ i, sortedFrom B i = k := by
  have hm : k ∈ sortPositions n B := (perm_stableSort B (List.finRange n)).mem_iff.mpr (List.mem_finRange k)
  obtain ⟨i, hi⟩ := List.get_of_mem hm
  refine ⟨i.cast (length_sortPositions n B), ?_⟩
  unfold sortedFrom
  exact hi

/-- An entry at none of the first places is the next one or after it. -/
theorem next_of_not (j k : Fin n) (h : ∀ i, i < j → k ≠ sortedFrom B i) : k = sortedFrom B j ∨ Lex f (sortedFrom B j) k := by
  obtain ⟨i, rfl⟩ := sorted_surj B k
  rcases lt_trichotomy i j with l | e | l
  · exact absurd rfl (h i l)
  · exact Or.inl (by rw [e])
  · exact Or.inr (lex_sorted f B hB j i l)

end

theorem isPick_of {f g : Fin 71 → EReal} (hf : ∀ k, f k < ⊤) {E : Fin 71 → Prop} (hE : ∀ k, E k → g k = ⊤)
    (hn : ∀ k, ¬ E k → g k = f k) {c : Fin 71} (hc : ¬ E c) (h : ∀ k, ¬ E k → k = c ∨ Lex f c k) : IsPick g c := by
  refine ⟨fun k => ?_, fun k hk => ?_⟩
  · rw [hn c hc]
    by_cases e : E k
    · rw [hE k e]; exact le_top
    · rw [hn k e]
      rcases h k e with rfl | l | ⟨l, _⟩
      · exact le_rfl
      · exact l.le
      · exact l.le
  · rw [hn c hc]
    by_cases e : E k
    · rw [hE k e]; exact hf c
    · rw [hn k e]
      rcases h k e with rfl | l | ⟨_, l⟩
      · exact absurd hk (lt_irrefl _)
      · exact l
      · exact absurd (hk.trans l) (lt_irrefl _)

theorem row1_eq (f : Fin 71 → EReal) (k : Fin 71) : row1 f k = if k = pick f then ⊤ else f k := rfl
theorem row2_eq (f : Fin 71 → EReal) (k : Fin 71) : row2 f k = if k = pick (row1 f) then ⊤ else row1 f k := rfl
theorem row3_eq (f : Fin 71 → EReal) (k : Fin 71) : row3 f k = if k = pick (row2 f) then ⊤ else row2 f k := rfl

theorem picks_of (f : Fin 71 → EReal) (hf : ∀ k, f k < ⊤) (s : ℕ → Fin 71) (n : ∀ i j, i < j → j < 4 → s j ≠ s i)
    (h : ∀ j k, j < 4 → (∀ i, i < j → k ≠ s i) → k = s j ∨ Lex f (s j) k) :
    s 0 = pick f ∧ s 1 = pick (row1 f) ∧ s 2 = pick (row2 f) ∧ s 3 = pick (row3 f) := by
  have e0 : s 0 = pick f := IsPick.eq (isPick_of hf (E := fun _ => False) (fun _ h => h.elim) (fun _ _ => rfl) (fun h => h)
    fun k _ => h 0 k (by omega) fun i hi => absurd hi (by omega))
  have e1 : s 1 = pick (row1 f) := by
    refine IsPick.eq (isPick_of hf (E := fun k => k = s 0) ?_ ?_ (n 0 1 (by omega) (by omega)) fun k hk => h 1 k (by omega) fun i hi => ?_)
    · intro k hk; rw [row1_eq, ← e0, if_pos hk]
    · intro k hk; rw [row1_eq, ← e0, if_neg hk]
    · obtain rfl : i = 0 := by omega
      exact hk
  have e2 : s 2 = pick (row2 f) := by
    refine IsPick.eq (isPick_of hf (E := fun k => k = s 1 ∨ k = s 0) ?_ ?_
      (not_or.mpr ⟨n 1 2 (by omega) (by omega), n 0 2 (by omega) (by omega)⟩) fun k hk => h 2 k (by omega) fun i hi => ?_)
    · intro k hk; rw [row2_eq, row1_eq, ← e1, ← e0]
      rcases hk with h | h <;> simp [h]
    · intro k hk; rw [row2_eq, row1_eq, ← e1, ← e0, if_neg (not_or.mp hk).1, if_neg (not_or.mp hk).2]
    · obtain rfl | rfl : i = 0 ∨ i = 1 := by omega
      · exact (not_or.mp hk).2
      · exact (not_or.mp hk).1
  refine ⟨e0, e1, e2, ?_⟩
  refine IsPick.eq (isPick_of hf (E := fun k => k = s 2 ∨ k = s 1 ∨ k = s 0) ?_ ?_
    (not_or.mpr ⟨n 2 3 (by omega) (by omega), not_or.mpr ⟨n 1 3 (by omega) (by omega), n 0 3 (by omega) (by omega)⟩⟩)
    fun k hk => h 3 k (by omega) fun i hi => ?_)
  · intro k hk; rw [row3_eq, row2_eq, row1_eq, ← e2, ← e1, ← e0]
    rcases hk with h | h | h <;> simp [h]
  · intro k hk
    obtain ⟨h2, h1⟩ := not_or.mp hk
    obtain ⟨h1, h0⟩ := not_or.mp h1
    rw [row3_eq, row2_eq, row1_eq, ← e2, ← e1, ← e0, if_neg h2, if_neg h1, if_neg h0]
  · obtain ⟨h2, h1⟩ := not_or.mp hk
    obtain ⟨h1, h0⟩ := not_or.mp h1
    obtain rfl | rfl | rfl : i = 0 ∨ i = 1 ∨ i = 2 := by omega
    · exact h0
    · exact h1
    · exact h2

/-- The first four places of the sorted row hold the four chosen entries. -/
theorem sorted_sel (f : Fin 71 → EReal) (hf : ∀ k, f k < ⊤) (B : Fin 71 → Fin 71 → Bool) (hB : ∀ a b, B a b = true ↔ f a < f b)
    (j : Fin 4) : sortedFrom B ⟨j.val, by omega⟩ = sel f j := by
  have := picks_of f hf (fun i => if h : i < 71 then sortedFrom B ⟨i, h⟩ else ⟨0, by omega⟩)
    (fun i j h h4 => by
      rw [dif_pos (by omega : i < 71), dif_pos (by omega : j < 71)]
      exact sorted_ne f B hB _ _ h)
    (fun j k h4 hk => by
      rw [dif_pos (by omega : j < 71)]
      refine next_of_not f B hB _ k fun i hi => ?_
      have := hk i.val hi
      rwa [dif_pos i.isLt] at this)
  obtain ⟨e0, e1, e2, e3⟩ := this
  rw [dif_pos (by omega)] at e0 e1 e2 e3
  match j with
  | ⟨0, _⟩ => exact e0
  | ⟨1, _⟩ => exact e1
  | ⟨2, _⟩ => exact e2
  | ⟨3, _⟩ => exact e3

end Cert.Pick
-- ==== Proof.OneSel.lean ====
/- The first call, its choice of classes: the words of the four columns name the four chosen entries of a row of
   distances, and the one-hot products pick the chosen rows of the class means. -/
module

public import proofs.«01_k».proof.Proof.RegionZero
public import proofs.«01_k».proof.Proof.Pick
public import Idealize.ShloMosaic.Lib.Pointwise
public import Idealize.ShloMosaic.Lib.Pipeline.ValueKit

@[expose] public section

set_option maxRecDepth 16384

noncomputable section

namespace Cert.OneSel

open Idealize.ShloMosaic Cert.KernelIdeal Cert.KernelIdeal.Gen Cert.KernelIdeal.Whole Cert.Pick

theorem top_word : Ideal.ofBits FTy.f32 2139095040#32 = ⊤ := by simp [Ideal.ofBits, Ideal.ieee]

/-- Row `b` of an array of distances. -/
def row (D : FVec Ideal S512x71 .f32) (b : Fin 512) : Fin 71 → EReal := fun c => D (ix2 b c)

abbrev iota71 : IVec S512x71 32 := iota .tc S512x71 32 [1] iota_S512x71_d1_w32

/-- The word naming an entry. -/
def name (c : Fin 71) : BitVec 32 := BitVec.ofNat 32 c.val

theorem name_inj {c d : Fin 71} : (name c = name d) ↔ c = d := ⟨word_inj, fun h => by rw [h]⟩

theorem select_eq (c p : Fin 71) (a b : EReal) : (Scalar.select (IntOp.cmpi .eq (name c) (name p)) a b : EReal) = if c = p then a else b := by
  by_cases e : c = p
  · subst e; rw [if_pos rfl]; simp [Scalar.select, IntOp.cmpi]
  · rw [if_neg e]
    have hne : name c ≠ name p := fun h => e (name_inj.mp h)
    have z : IntOp.cmpi .eq (name c) (name p) = 0#1 := by
      simp only [IntOp.cmpi]
      rw [beq_eq_false_iff_ne.mpr hne]; rfl
    rw [z]; rfl

theorem word0 (X0 : Vec Ideal S512x64 .f32) (X1 : Vec Ideal S71x256x64 .f32) (b : Fin 512) :
    k0_pay6 (k0_pay5 X0 X1) (ix1 b) = name (pick (row (k0_pay4 X0 X1) b)) := by
  unfold k0_pay6 k0_pay5
  pointwise
  rw [top_word]
  exact fold_pick (row (k0_pay4 X0 X1) b)

section
variable (D : FVec Ideal S512x71 .f32) (w : IVec S512x71 32) (h : ∀ b, k0_pay6 w (ix1 b) = name (pick (row D b)))
include h

theorem hot0 (b : Fin 512) (c : Fin 71) : k0_pay7 iota71 w (ix2 b c) = IntOp.cmpi .eq (name c) (name (pick (row D b))) := by
  unfold k0_pay7
  pointwise
  rw [h]; rfl

theorem mask1 (b : Fin 512) : row (k0_pay9 D iota71 w) b = row1 (row D b) := by
  funext c
  unfold row k0_pay9 k0_pay7
  pointwise
  rw [h, top_word]
  exact select_eq _ _ _ _

theorem word1 (b : Fin 512) : k0_pay11 D iota71 w (ix1 b) = name (pick (row1 (row D b))) := by
  rw [← mask1 D w h]
  unfold k0_pay11
  pointwise
  rw [top_word]
  exact fold_pick (row (k0_pay9 D iota71 w) b)

theorem hot1 (b : Fin 512) (c : Fin 71) : k0_pay12 D iota71 w (ix2 b c) = IntOp.cmpi .eq (name c) (name (pick (row1 (row D b)))) := by
  unfold k0_pay12
  pointwise
  rw [word1 D w h]; rfl

theorem mask2 (b : Fin 512) : row (k0_pay14 D iota71 w) b = row2 (row D b) := by
  funext c
  unfold row k0_pay14
  pointwise
  rw [hot1 D w h, top_word]
  refine (select_eq _ _ _ _).trans ?_
  have := congrFun (mask1 D w h b) c
  unfold row at this
  rw [this]; rfl

theorem word2 (b : Fin 512) : k0_pay16 D iota71 w (ix1 b) = name (pick (row2 (row D b))) := by
  rw [← mask2 D w h]
  unfold k0_pay16
  pointwise
  rw [top_word]
  exact fold_pick (row (k0_pay14 D iota71 w) b)

theorem hot2 (b : Fin 512) (c : Fin 71) : k0_pay17 D iota71 w (ix2 b c) = IntOp.cmpi .eq (name c) (name (pick (row2 (row D b)))) := by
  unfold k0_pay17
  pointwise
  rw [word2 D w h]; rfl

theorem word3 (b : Fin 512) :
    k0_pay20 iota71 (k0_pay14 D iota71 w) (k0_pay17 D iota71 w) (Scalar.ofBits .f32 0x7F800000#32) (ix1 b) = name (pick (row3 (row D b))) := by
  have e : ∀ c, Scalar.select (k0_pay17 D iota71 w (ix2 b c)) ⊤ (k0_pay14 D iota71 w (ix2 b c)) = row3 (row D b) c := fun c => by
    rw [hot2 D w h]
    refine (select_eq _ _ _ _).trans ?_
    have := congrFun (mask2 D w h b) c
    unfold row at this
    rw [this]; rfl
  unfold k0_pay20
  pointwise
  simp only [top_word, e]
  exact fold_pick (row3 (row D b))
end

theorem near (fm : FVec Ideal S71x64 .f32) (v : IVec S512x71 1) (b : Fin 512) (p : Fin 71) (hv : ∀ c, v (ix2 b c) = IntOp.cmpi .eq (name c) (name p)) (d : Fin 64) :
   k0_pay19 fm v (ix2 b d) = fm (ix2 p d) := by
  unfold k0_pay19
  pointwise
  simp only [hv]
  exact sum_onehot (fun x => fm (ix2 x d)) p

theorem near0 (D : FVec Ideal S512x71 .f32) (w : IVec S512x71 32) (h : ∀ b, k0_pay6 w (ix1 b) = name (pick (row D b)))
    (fm : FVec Ideal S71x64 .f32) (b : Fin 512) (d : Fin 64) : k0_pay10 fm iota71 w (ix2 b d) = fm (ix2 (pick (row D b)) d) :=
  near fm (k0_pay7 iota71 w) b _ (hot0 D w h b) d
theorem near1 (D : FVec Ideal S512x71 .f32) (w : IVec S512x71 32) (h : ∀ b, k0_pay6 w (ix1 b) = name (pick (row D b)))
    (fm : FVec Ideal S71x64 .f32) (b : Fin 512) (d : Fin 64) : k0_pay15 fm D iota71 w (ix2 b d) = fm (ix2 (pick (row1 (row D b))) d) :=
  near fm (k0_pay12 D iota71 w) b _ (hot1 D w h b) d
theorem near2 (D : FVec Ideal S512x71 .f32) (w : IVec S512x71 32) (h : ∀ b, k0_pay6 w (ix1 b) = name (pick (row D b)))
    (fm : FVec Ideal S71x64 .f32) (b : Fin 512) (d : Fin 64) :
    k0_pay19 fm (k0_pay17 D iota71 w) (ix2 b d) = fm (ix2 (pick (row2 (row D b))) d) :=
  near fm (k0_pay17 D iota71 w) b _ (hot2 D w h b) d
theorem near3 (D : FVec Ideal S512x71 .f32) (w : IVec S512x71 32) (h : ∀ b, k0_pay6 w (ix1 b) = name (pick (row D b)))
    (fm : FVec Ideal S71x64 .f32) (b : Fin 512) (d : Fin 64) :
    k0_pay22 fm iota71 (k0_pay14 D iota71 w) (k0_pay17 D iota71 w) (Scalar.ofBits .f32 0x7F800000#32) (ix2 b d)
      = fm (ix2 (pick (row3 (row D b))) d) := by
  unfold k0_pay22
  pointwise
  rw [show k0_pay20 iota71 (k0_pay14 D iota71 w) (k0_pay17 D iota71 w) (Ideal.ofBits FTy.f32 2139095040#32) (ix1 b) = _ from word3 D w h b]
  exact sum_onehot (fun x => fm (ix2 x d)) _

/-! ## The array of the four choices -/

section
variable (x0 : Vec Ideal S512x64 .f32) (x1 : Vec Ideal S71x256x64 .f32) (x2 : Vec Ideal S64x64 .f32) (x3 : Vec Ideal S1x64 .f32) (x4 : Vec Ideal S64x64 .f32) (x5 : Vec Ideal S1x64 .f32) (x6 : Vec Ideal S64x64 .f32)

theorem ld0 : View.ld x0 r0_0 = x0 := View.ld_unit_lit _ _ (by decide)
theorem ld1 : View.ld x1 r0_1 = x1 := View.ld_unit_lit _ _ (by decide)
theorem ld2 : View.ld x2 r0_2 = x2 := View.ld_unit_lit _ _ (by decide)
theorem ld3 : View.ld x3 r0_3 = x3 := View.ld_unit_lit _ _ (by decide)

/-- The distances of row `b` to the class means. -/
def dists (b : Fin 512) : Fin 71 → EReal := row (k0_pay4 x0 x1) b

theorem first_word (b : Fin 512) : k0_pay6 (k0_pay52 x0 x1 x2 x3 x4 x5 x6) (ix1 b) = name (pick (row (k0_pay51 x0 x1 x2 x3 x4 x5 x6) b)) := by
  unfold k0_pay52 k0_pay51
  exact word0 _ _ b

theorem row51 (b : Fin 512) : row (k0_pay51 x0 x1 x2 x3 x4 x5 x6) b = dists x0 x1 b := by
  unfold k0_pay51 dists
  rw [ld0, ld1]

theorem col (b : Fin 512) (j : Fin 4) (o : Fin 2 → ℕ) (ho : o = ![0, j.val]) (inb : ∀ a, o a + S512x1.size a ≤ S512x4.size a) :
    (ix2 b j : S512x4.Idx) = (Rect.unit (s := S512x4) o S512x1.size inb).emb (ix2 b (0 : Fin 1)) := by
  subst ho
  funext a
  refine Fin.ext ?_
  match a with
  | ⟨0, _⟩ => show b.val = 0 + 1 * b.val; omega
  | ⟨1, _⟩ => show j.val = j.val + 1 * 0; omega

theorem col_not (b : Fin 512) (j : Fin 4) (n : ℕ) (hn : n ≠ j.val) (inb : ∀ a, (![0, n] : Fin 2 → ℕ) a + S512x1.size a ≤ S512x4.size a) :
    (ix2 b j : S512x4.Idx) ∉ (Rect.unit (s := S512x4) ![0, n] S512x1.size inb).set := by
  intro hm
  have h := (Rect.mem_set_unit.mp hm) 1
  have h1 : n ≤ j.val := h.1
  have h2 : j.val < n + 1 := h.2
  omega

variable (p0 p1 p2 p3 : Vec Ideal S512x1 .i32)
theorem col3 (b : Fin 512) : View.canon [(⟨r0_7, p3⟩ : View.Piece (Elt Ideal) S512x4 .i32), ⟨r0_6, p2⟩, ⟨r0_5, p1⟩, ⟨r0_4, p0⟩] (ix2 b (3 : Fin 4)) = p3 (ix2 b (0 : Fin 1)) := by
  have e : (ix2 b (3 : Fin 4) : S512x4.Idx) = r0_7.emb (ix2 b (0 : Fin 1)) := col b 3 _ rfl inb_S512x4_S512x1_0_3
  rw [e]
  exact View.canon_cons_emb r0_7 p3 _ _
theorem col2 (b : Fin 512) : View.canon [(⟨r0_7, p3⟩ : View.Piece (Elt Ideal) S512x4 .i32), ⟨r0_6, p2⟩, ⟨r0_5, p1⟩, ⟨r0_4, p0⟩] (ix2 b (2 : Fin 4)) = p2 (ix2 b (0 : Fin 1)) := by
  have h3 : (ix2 b (2 : Fin 4) : S512x4.Idx) ∉ r0_7.set := col_not b 2 3 (by decide) inb_S512x4_S512x1_0_3
  rw [View.canon_cons_of_not_mem (⟨r0_7, p3⟩ : View.Piece (Elt Ideal) S512x4 .i32) _ h3]
  have e : (ix2 b (2 : Fin 4) : S512x4.Idx) = r0_6.emb (ix2 b (0 : Fin 1)) := col b 2 _ rfl inb_S512x4_S512x1_0_2
  rw [e]
  exact View.canon_cons_emb r0_6 p2 _ _
theorem col1 (b : Fin 512) : View.canon [(⟨r0_7, p3⟩ : View.Piece (Elt Ideal) S512x4 .i32), ⟨r0_6, p2⟩, ⟨r0_5, p1⟩, ⟨r0_4, p0⟩] (ix2 b (1 : Fin 4)) = p1 (ix2 b (0 : Fin 1)) := by
  have h3 : (ix2 b (1 : Fin 4) : S512x4.Idx) ∉ r0_7.set := col_not b 1 3 (by decide) inb_S512x4_S512x1_0_3
  rw [View.canon_cons_of_not_mem (⟨r0_7, p3⟩ : View.Piece (Elt Ideal) S512x4 .i32) _ h3]
  have h2 : (ix2 b (1 : Fin 4) : S512x4.Idx) ∉ r0_6.set := col_not b 1 2 (by decide) inb_S512x4_S512x1_0_2
  rw [View.canon_cons_of_not_mem (⟨r0_6, p2⟩ : View.Piece (Elt Ideal) S512x4 .i32) _ h2]
  have e : (ix2 b (1 : Fin 4) : S512x4.Idx) = r0_5.emb (ix2 b (0 : Fin 1)) := col b 1 _ rfl inb_S512x4_S512x1_0_1
  rw [e]
  exact View.canon_cons_emb r0_5 p1 _ _
theorem col0 (b : Fin 512) : View.canon [(⟨r0_7, p3⟩ : View.Piece (Elt Ideal) S512x4 .i32), ⟨r0_6, p2⟩, ⟨r0_5, p1⟩, ⟨r0_4, p0⟩] (ix2 b (0 : Fin 4)) = p0 (ix2 b (0 : Fin 1)) := by
  have h3 : (ix2 b (0 : Fin 4) : S512x4.Idx) ∉ r0_7.set := col_not b 0 3 (by decide) inb_S512x4_S512x1_0_3
  rw [View.canon_cons_of_not_mem (⟨r0_7, p3⟩ : View.Piece (Elt Ideal) S512x4 .i32) _ h3]
  have h2 : (ix2 b (0 : Fin 4) : S512x4.Idx) ∉ r0_6.set := col_not b 0 2 (by decide) inb_S512x4_S512x1_0_2
  rw [View.canon_cons_of_not_mem (⟨r0_6, p2⟩ : View.Piece (Elt Ideal) S512x4 .i32) _ h2]
  have h1 : (ix2 b (0 : Fin 4) : S512x4.Idx) ∉ r0_5.set := col_not b 0 1 (by decide) inb_S512x4_S512x1_0_1
  rw [View.canon_cons_of_not_mem (⟨r0_5, p1⟩ : View.Piece (Elt Ideal) S512x4 .i32) _ h1]
  have e : (ix2 b (0 : Fin 4) : S512x4.Idx) = r0_4.emb (ix2 b (0 : Fin 1)) := col b 0 _ rfl inb_S512x4_S512x1_0_0
  rw [e]
  exact View.canon_cons_emb r0_4 p0 _ _
theorem column (v : IVec S512 32) (b : Fin 512) : shapeCast S512x1 v shapeCasts_S512_S512x1 (ix2 b (0 : Fin 1)) = v (ix1 b) := by
  pointwise

theorem choices0 (b : Fin 512) : out0_11 x0 x1 x2 x3 x4 x5 x6 (ix2 b (0 : Fin 4)) = name (pick (dists x0 x1 b)) := by
  have h := first_word x0 x1 x2 x3 x4 x5 x6
  rw [← row51 x0 x1 x2 x3 x4 x5 x6]
  unfold out0_11
  rw [col0]
  unfold k0_pay8; rw [column]
  exact h b

theorem choices1 (b : Fin 512) : out0_11 x0 x1 x2 x3 x4 x5 x6 (ix2 b (1 : Fin 4)) = name (pick (row1 (dists x0 x1 b))) := by
  have h := first_word x0 x1 x2 x3 x4 x5 x6
  rw [← row51 x0 x1 x2 x3 x4 x5 x6]
  unfold out0_11
  rw [col1]
  unfold k0_pay13; rw [column]
  exact word1 _ _ h b

theorem choices2 (b : Fin 512) : out0_11 x0 x1 x2 x3 x4 x5 x6 (ix2 b (2 : Fin 4)) = name (pick (row2 (dists x0 x1 b))) := by
  have h := first_word x0 x1 x2 x3 x4 x5 x6
  rw [← row51 x0 x1 x2 x3 x4 x5 x6]
  unfold out0_11
  rw [col2]
  unfold k0_pay18; rw [column]
  exact word2 _ _ h b

theorem choices3 (b : Fin 512) : out0_11 x0 x1 x2 x3 x4 x5 x6 (ix2 b (3 : Fin 4)) = name (pick (row3 (dists x0 x1 b))) := by
  have h := first_word x0 x1 x2 x3 x4 x5 x6
  rw [← row51 x0 x1 x2 x3 x4 x5 x6]
  unfold out0_11
  rw [col3]
  unfold k0_pay21; rw [column]
  exact word3 _ _ h b

theorem choices (b : Fin 512) (j : Fin 4) : out0_11 x0 x1 x2 x3 x4 x5 x6 (ix2 b j) = name (sel (dists x0 x1 b) j) := by
  rcases (by decide : ∀ j : Fin 4, j = 0 ∨ j = 1 ∨ j = 2 ∨ j = 3) j with rfl | rfl | rfl | rfl
  · exact choices0 x0 x1 x2 x3 x4 x5 x6 b
  · exact choices1 x0 x1 x2 x3 x4 x5 x6 b
  · exact choices2 x0 x1 x2 x3 x4 x5 x6 b
  · exact choices3 x0 x1 x2 x3 x4 x5 x6 b

theorem choices_lt (i : S512x4.Idx) : (out0_11 x0 x1 x2 x3 x4 x5 x6 i : BitVec 32).toNat < 71 := by
  obtain ⟨b, j, rfl⟩ : ∃ (b : Fin 512) (j : Fin 4), i = ix2 b j := ⟨i 0, i 1, (ix2_eta i).symm⟩
  rw [choices]
  have := (sel (dists x0 x1 b) j).isLt
  unfold name
  rw [BitVec.toNat_ofNat]
  omega
end

end Cert.OneSel
-- ==== Proof.OneRead.lean ====
/- What the buffers hold after the first call, as functions of the arguments; the page indices are in range. -/
module

public import proofs.«01_k».proof.Proof.Run
public import proofs.«01_k».proof.Proof.OneSel

@[expose] public section

set_option maxRecDepth 16384

noncomputable section

namespace Cert.OneRead

open Idealize.ShloMosaic Idealize.ShloMosaic.TcCoe Idealize.SL.Sem Cert.KernelIdeal Cert.KernelIdeal.Whole
open Cert.KernelIdeal.Gen hiding V0 V1 V2 V3 V4 V5

section
variable {F : FTy → Type} [FloatOps F]
variable (V : (c : Dev nD) → (b : Ref sig .tc) → Buf (Elt F) ((c : Thread nD τ).loc b)) (c : Dev nD)

def t0 : Fin cfg0.N := ⟨0, by decide⟩

theorem blk0 (t : Fin cfg0.N) : (iblk0 V c 0 t : Vec F S512x64 .f32) = V c main_arg0 := by
  funext y; unfold iblk0
  show V c main_arg0 _ = _
  congr 1
  funext a
  refine Fin.ext ?_
  exact Pipeline.Window.rect_emb_val_of_index_zero win0_0 t a ((by decide +kernel : ∀ (t : Fin cfg0.N) a, win0_0.index t a = 0) t a) y
theorem blk1 (t : Fin cfg0.N) : (iblk0 V c 1 t : Vec F S71x256x64 .f32) = V c main_arg1 := by
  funext y; unfold iblk0
  show V c main_arg1 _ = _
  congr 1
  funext a
  refine Fin.ext ?_
  exact Pipeline.Window.rect_emb_val_of_index_zero win0_1 t a ((by decide +kernel : ∀ (t : Fin cfg0.N) a, win0_1.index t a = 0) t a) y
theorem blk2 (t : Fin cfg0.N) : (iblk0 V c 2 t : Vec F S64x64 .f32) = V c main_arg2 := by
  funext y; unfold iblk0
  show V c main_arg2 _ = _
  congr 1
  funext a
  refine Fin.ext ?_
  exact Pipeline.Window.rect_emb_val_of_index_zero win0_2 t a ((by decide +kernel : ∀ (t : Fin cfg0.N) a, win0_2.index t a = 0) t a) y
theorem blk3 (t : Fin cfg0.N) : (iblk0 V c 3 t : Vec F S1x64 .f32) = V c main_v0 := by
  funext y; unfold iblk0
  show V c main_v0 _ = _
  congr 1
  funext a
  refine Fin.ext ?_
  exact Pipeline.Window.rect_emb_val_of_index_zero win0_3 t a ((by decide +kernel : ∀ (t : Fin cfg0.N) a, win0_3.index t a = 0) t a) y
theorem blk4 (t : Fin cfg0.N) : (iblk0 V c 4 t : Vec F S64x64 .f32) = V c main_arg4 := by
  funext y; unfold iblk0
  show V c main_arg4 _ = _
  congr 1
  funext a
  refine Fin.ext ?_
  exact Pipeline.Window.rect_emb_val_of_index_zero win0_4 t a ((by decide +kernel : ∀ (t : Fin cfg0.N) a, win0_4.index t a = 0) t a) y
theorem blk5 (t : Fin cfg0.N) : (iblk0 V c 5 t : Vec F S1x64 .f32) = V c main_v1 := by
  funext y; unfold iblk0
  show V c main_v1 _ = _
  congr 1
  funext a
  refine Fin.ext ?_
  exact Pipeline.Window.rect_emb_val_of_index_zero win0_5 t a ((by decide +kernel : ∀ (t : Fin cfg0.N) a, win0_5.index t a = 0) t a) y
theorem blk6 (t : Fin cfg0.N) : (iblk0 V c 6 t : Vec F S64x64 .f32) = V c main_arg10 := by
  funext y; unfold iblk0
  show V c main_arg10 _ = _
  congr 1
  funext a
  refine Fin.ext ?_
  exact Pipeline.Window.rect_emb_val_of_index_zero win0_6 t a ((by decide +kernel : ∀ (t : Fin cfg0.N) a, win0_6.index t a = 0) t a) y
theorem arr7 : (dat0 V c).arrAt 7 cfg0.N = out0_7 (V c main_arg0) (V c main_arg1) (V c main_arg2) (V c main_v0) (V c main_arg4) (V c main_v1) (V c main_arg10) := by
  refine (dat0 V c).arrAt_eq_of_after_last 7 t0 (by decide +kernel) _ fun j => ?_
  blk_simp
  rw [after0_7, blk0, blk1, blk2, blk3, blk4, blk5, blk6]
theorem arr8 : (dat0 V c).arrAt 8 cfg0.N = out0_8 (V c main_arg0) (V c main_arg1) (V c main_arg2) (V c main_v0) (V c main_arg4) (V c main_v1) (V c main_arg10) := by
  refine (dat0 V c).arrAt_eq_of_after_last 8 t0 (by decide +kernel) _ fun j => ?_
  blk_simp
  rw [after0_8, blk0, blk1, blk2, blk3, blk4, blk5, blk6]
theorem arr9 : (dat0 V c).arrAt 9 cfg0.N = out0_9 (V c main_arg0) (V c main_arg1) (V c main_arg2) (V c main_v0) (V c main_arg4) (V c main_v1) (V c main_arg10) := by
  refine (dat0 V c).arrAt_eq_of_after_last 9 t0 (by decide +kernel) _ fun j => ?_
  blk_simp
  rw [after0_9, blk0, blk1, blk2, blk3, blk4, blk5, blk6]
theorem arr10 : (dat0 V c).arrAt 10 cfg0.N = out0_10 (V c main_arg0) (V c main_arg1) (V c main_arg2) (V c main_v0) (V c main_arg4) (V c main_v1) (V c main_arg10) := by
  refine (dat0 V c).arrAt_eq_of_after_last 10 t0 (by decide +kernel) _ fun j => ?_
  blk_simp
  rw [after0_10, blk0, blk1, blk2, blk3, blk4, blk5, blk6]
theorem arr11 : (dat0 V c).arrAt 11 cfg0.N = out0_11 (V c main_arg0) (V c main_arg1) (V c main_arg2) (V c main_v0) (V c main_arg4) (V c main_v1) (V c main_arg10) := by
  refine (dat0 V c).arrAt_eq_of_after_last 11 t0 (by decide +kernel) _ fun j => ?_
  blk_simp
  rw [after0_11, blk0, blk1, blk2, blk3, blk4, blk5, blk6]
end

variable {F : FTy → Type} [FloatOps F]
variable (m : (ℓ : Loc nD τ sig) → Buf (Elt F) ℓ) (c : Dev nD)

abbrev bias (x : Vec F S64 .f32) : Vec F S1x64 .f32 := shapeCast S1x64 x shapeCasts_S64_S1x64
abbrev a0 : Vec F S512x64 .f32 := m ((c : Thread nD τ).loc main_arg0)
abbrev a1 : Vec F S71x256x64 .f32 := m ((c : Thread nD τ).loc main_arg1)
abbrev a2 : Vec F S64x64 .f32 := m ((c : Thread nD τ).loc main_arg2)
abbrev a3 : Vec F S64 .f32 := m ((c : Thread nD τ).loc main_arg3)
abbrev a4 : Vec F S64x64 .f32 := m ((c : Thread nD τ).loc main_arg4)
abbrev a5 : Vec F S64 .f32 := m ((c : Thread nD τ).loc main_arg5)
abbrev a6 : Vec F S64x64 .f32 := m ((c : Thread nD τ).loc main_arg6)
abbrev a7 : Vec F S64 .f32 := m ((c : Thread nD τ).loc main_arg7)
abbrev a8 : Vec F S64x64 .f32 := m ((c : Thread nD τ).loc main_arg8)
abbrev a9 : Vec F S64 .f32 := m ((c : Thread nD τ).loc main_arg9)
abbrev a10 : Vec F S64x64 .f32 := m ((c : Thread nD τ).loc main_arg10)
abbrev a11 : Vec F S64x64 .f32 := m ((c : Thread nD τ).loc main_arg11)
theorem W1_v0 : W1 m c (Proc.devRef .tc main_v0) = bias (a3 m c) := by
  unfold W1
  after_results_simp
  rfl
theorem W1_v1 : W1 m c (Proc.devRef .tc main_v1) = bias (a5 m c) := by
  unfold W1
  after_results_simp
  rfl
theorem W1_v2 : W1 m c (Proc.devRef .tc main_v2) = bias (a7 m c) := by
  unfold W1
  after_results_simp
  rfl
theorem W1_v3 : W1 m c (Proc.devRef .tc main_v3) = bias (a9 m c) := by
  unfold W1
  after_results_simp
  rfl
/-- What the first call leaves in its result 0. -/
def one7 : Vec F S512x64 .f32 := out0_7 (a0 m c) (a1 m c) (a2 m c) (bias (a3 m c)) (a4 m c) (bias (a5 m c)) (a10 m c)
theorem W2_v4_0 : W2 m c (Proc.devRef .tc main_v4_0) = one7 m c := by
  refine (W2_arr m c 7).trans ((arr7 (V1 m) c).trans ?_)
  have e0 : V1 m c main_arg0 = a0 m c := W1_of m c main_arg0 (by decide)
  have e1 : V1 m c main_arg1 = a1 m c := W1_of m c main_arg1 (by decide)
  have e2 : V1 m c main_arg2 = a2 m c := W1_of m c main_arg2 (by decide)
  have e4 : V1 m c main_arg4 = a4 m c := W1_of m c main_arg4 (by decide)
  have e10 : V1 m c main_arg10 = a10 m c := W1_of m c main_arg10 (by decide)
  have ev0 : V1 m c main_v0 = bias (a3 m c) := W1_v0 m c
  have ev1 : V1 m c main_v1 = bias (a5 m c) := W1_v1 m c
  rw [e0, e1, e2, e4, e10, ev0, ev1]; rfl
/-- What the first call leaves in its result 1. -/
def one8 : Vec F S512x64 .f32 := out0_8 (a0 m c) (a1 m c) (a2 m c) (bias (a3 m c)) (a4 m c) (bias (a5 m c)) (a10 m c)
theorem W2_v4_1 : W2 m c (Proc.devRef .tc main_v4_1) = one8 m c := by
  refine (W2_arr m c 8).trans ((arr8 (V1 m) c).trans ?_)
  have e0 : V1 m c main_arg0 = a0 m c := W1_of m c main_arg0 (by decide)
  have e1 : V1 m c main_arg1 = a1 m c := W1_of m c main_arg1 (by decide)
  have e2 : V1 m c main_arg2 = a2 m c := W1_of m c main_arg2 (by decide)
  have e4 : V1 m c main_arg4 = a4 m c := W1_of m c main_arg4 (by decide)
  have e10 : V1 m c main_arg10 = a10 m c := W1_of m c main_arg10 (by decide)
  have ev0 : V1 m c main_v0 = bias (a3 m c) := W1_v0 m c
  have ev1 : V1 m c main_v1 = bias (a5 m c) := W1_v1 m c
  rw [e0, e1, e2, e4, e10, ev0, ev1]; rfl
/-- What the first call leaves in its result 2. -/
def one9 : Vec F S512x64 .f32 := out0_9 (a0 m c) (a1 m c) (a2 m c) (bias (a3 m c)) (a4 m c) (bias (a5 m c)) (a10 m c)
theorem W2_v4_2 : W2 m c (Proc.devRef .tc main_v4_2) = one9 m c := by
  refine (W2_arr m c 9).trans ((arr9 (V1 m) c).trans ?_)
  have e0 : V1 m c main_arg0 = a0 m c := W1_of m c main_arg0 (by decide)
  have e1 : V1 m c main_arg1 = a1 m c := W1_of m c main_arg1 (by decide)
  have e2 : V1 m c main_arg2 = a2 m c := W1_of m c main_arg2 (by decide)
  have e4 : V1 m c main_arg4 = a4 m c := W1_of m c main_arg4 (by decide)
  have e10 : V1 m c main_arg10 = a10 m c := W1_of m c main_arg10 (by decide)
  have ev0 : V1 m c main_v0 = bias (a3 m c) := W1_v0 m c
  have ev1 : V1 m c main_v1 = bias (a5 m c) := W1_v1 m c
  rw [e0, e1, e2, e4, e10, ev0, ev1]; rfl
/-- What the first call leaves in its result 3. -/
def one10 : Vec F S512x64 .f32 := out0_10 (a0 m c) (a1 m c) (a2 m c) (bias (a3 m c)) (a4 m c) (bias (a5 m c)) (a10 m c)
theorem W2_v4_3 : W2 m c (Proc.devRef .tc main_v4_3) = one10 m c := by
  refine (W2_arr m c 10).trans ((arr10 (V1 m) c).trans ?_)
  have e0 : V1 m c main_arg0 = a0 m c := W1_of m c main_arg0 (by decide)
  have e1 : V1 m c main_arg1 = a1 m c := W1_of m c main_arg1 (by decide)
  have e2 : V1 m c main_arg2 = a2 m c := W1_of m c main_arg2 (by decide)
  have e4 : V1 m c main_arg4 = a4 m c := W1_of m c main_arg4 (by decide)
  have e10 : V1 m c main_arg10 = a10 m c := W1_of m c main_arg10 (by decide)
  have ev0 : V1 m c main_v0 = bias (a3 m c) := W1_v0 m c
  have ev1 : V1 m c main_v1 = bias (a5 m c) := W1_v1 m c
  rw [e0, e1, e2, e4, e10, ev0, ev1]; rfl
/-- What the first call leaves in its result 4. -/
def one11 : Vec F S512x4 .i32 := out0_11 (a0 m c) (a1 m c) (a2 m c) (bias (a3 m c)) (a4 m c) (bias (a5 m c)) (a10 m c)
theorem W2_v4_4 : W2 m c (Proc.devRef .tc main_v4_4) = one11 m c := by
  refine (W2_arr m c 11).trans ((arr11 (V1 m) c).trans ?_)
  have e0 : V1 m c main_arg0 = a0 m c := W1_of m c main_arg0 (by decide)
  have e1 : V1 m c main_arg1 = a1 m c := W1_of m c main_arg1 (by decide)
  have e2 : V1 m c main_arg2 = a2 m c := W1_of m c main_arg2 (by decide)
  have e4 : V1 m c main_arg4 = a4 m c := W1_of m c main_arg4 (by decide)
  have e10 : V1 m c main_arg10 = a10 m c := W1_of m c main_arg10 (by decide)
  have ev0 : V1 m c main_v0 = bias (a3 m c) := W1_v0 m c
  have ev1 : V1 m c main_v1 = bias (a5 m c) := W1_v1 m c
  rw [e0, e1, e2, e4, e10, ev0, ev1]; rfl

theorem W3_v4_4 : W3 m c (Proc.devRef .tc main_v4_4) = one11 m c := (W3_of m c main_v4_4 (by decide)).trans (W2_v4_4 m c)
theorem W3_v2 : W3 m c (Proc.devRef .tc main_v2) = bias (a7 m c) :=
  (W3_of m c main_v2 (by decide)).trans ((W2_of m c main_v2 (by decide +kernel)).trans (W1_v2 m c))
theorem W3_v3 : W3 m c (Proc.devRef .tc main_v3) = bias (a9 m c) :=
  (W3_of m c main_v3 (by decide)).trans ((W2_of m c main_v3 (by decide +kernel)).trans (W1_v3 m c))

/-- Four arrays stacked. -/
def stack (A B C D : Vec F S512x1x64 .f32) : Vec F S512x4x64 .f32 :=
  concatenate S512x4x64 1 [⟨S512x1x64, A⟩, ⟨S512x1x64, B⟩, ⟨S512x1x64, C⟩, ⟨S512x1x64, D⟩] concatenates_S512x1x64_S512x1x64_S512x1x64_S512x1x64_S512x4x64_d1
abbrev up (x : Vec F S512x64 .f32) : Vec F S512x1x64 .f32 := broadcastInDim S512x1x64 ![0, 2] bcast_S512x64_S512x1x64_0_2 x
/-- The four results stacked. -/
def stacked : Vec F S512x4x64 .f32 := stack (up (one7 m c)) (up (one8 m c)) (up (one9 m c)) (up (one10 m c))

theorem stack_of (u : Valuation τ sig (Elt F)) (A B C D : Vec F S512x1x64 .f32) (hA : u (Proc.devRef .tc main_v5) = A)
    (hB : u (Proc.devRef .tc main_v6) = B) (hC : u (Proc.devRef .tc main_v7) = C) (hD : u (Proc.devRef .tc main_v8) = D) :
    (fun w : (k : Fin 4) → (((![main_v5, main_v6, main_v7, main_v8] : Fin 4 → Ref sig .tc) k).ty).Contents (Elt F) =>
      stack (F := F) (w 0) (w 1) (w 2) (w 3)) (fun k => u (Proc.devRef .tc ((![main_v5, main_v6, main_v7, main_v8] : Fin 4 → Ref sig .tc) k))) = stack A B C D := by
  subst hA hB hC hD; rfl
theorem W3_v9 : W3 m c (Proc.devRef .tc main_v9) = stacked m c := by
  unfold W3
  after_results_simp
  refine stack_of _ _ _ _ _ ?_ ?_ ?_ ?_ <;> (after_results_simp; first | rw [W2_v4_0] | rw [W2_v4_1] | rw [W2_v4_2] | rw [W2_v4_3])
theorem W3_v10 : W3 m c (Proc.devRef .tc main_v10) = shapeCast S2048x64 (stacked m c) shapeCasts_S512x4x64_S2048x64 := by
  rw [← W3_v9]
  unfold W3
  after_results_simp
  rfl
theorem W3_v11 : W3 m c (Proc.devRef .tc main_v11) = shapeCast S18176x64 (a1 m c) shapeCasts_S71x256x64_S18176x64 := by
  unfold W3
  after_results_simp
  rw [W2_of m c main_arg1 (by decide +kernel), W1_of m c main_arg1 (by decide)]
  rfl

theorem inRange (m : (ℓ : Loc nD τ sig) → Buf (Elt Ideal) ℓ) : InRange (V3 m) := by
  intro c i
  have e : V3 m c main_v4_4 = one11 m c := W3_v4_4 m c
  show ((V3 m c main_v4_4 : S512x4.Idx → BitVec 32) i).toNat < 71
  rw [e]
  exact OneSel.choices_lt _ _ _ _ _ _ _ i

end Cert.OneRead
-- ==== Proof.Frames.lean ====
/- The two-call program leaves its arguments unchanged and no semaphore raised. -/
module

public import proofs.«01_k».proof.Defs
public import proofs.«01_k».proof.Proof.OneRead
public import proofs.«01_k».proof.Proof.Gen.KernelIdeal

@[expose] public section

set_option maxRecDepth 16384

noncomputable section

namespace Cert.Frames

open Idealize.ShloMosaic Idealize.ShloMosaic.TcCoe Idealize.SL.Sem Cert.KernelIdeal Cert.KernelIdeal.Whole

theorem kernel_unchanged : Cert.quiescent_KernelIdeal := fun m ρ _ =>
  (θ_run defs _ _).mono (fun r h => ⟨fun c => by
      have g := (h.1 c).1
      exact ⟨g main_arg0 (by decide), g main_arg1 (by decide), g main_arg2 (by decide), g main_arg3 (by decide), g main_arg4 (by decide),
        g main_arg5 (by decide), g main_arg6 (by decide), g main_arg7 (by decide), g main_arg8 (by decide), g main_arg9 (by decide),
        g main_arg10 (by decide), g main_arg11 (by decide)⟩, h.2⟩)
    (runs m ρ (OneRead.inRange m))

end Cert.Frames
-- ==== Proof.Spec.lean ====
/- The mathematics of the two calls, on plain functions of coordinates. -/
module

public import proofs.«01_k».proof.Proof.Pick
public import Idealize.ShloMosaic.Lib.Pointwise

@[expose] public section

noncomputable section

namespace Cert.Spec

open Idealize.ShloMosaic

/-- The Gaussian error linear unit. -/
def gelu (x : EReal) : EReal := Ideal.ofBits FTy.f32 1056964608#32 * x * (1 + Ideal.erf (x * Ideal.ofBits FTy.f32 1060439283#32))

/-- The mean of a class's 256 rows. -/
def mean (B : Fin 71 → Fin 256 → Fin 64 → EReal) (c : Fin 71) (k : Fin 64) : EReal :=
  Ideal.div (∑ s, B c s k) (Ideal.ofBits FTy.f32 1132462080#32)

/-- The distance of a token's row to a class's mean. -/
def dist (T : Fin 512 → Fin 64 → EReal) (B : Fin 71 → Fin 256 → Fin 64 → EReal) (b : Fin 512) (c : Fin 71) : EReal :=
  Ideal.sqrt (max (∑ k, T b k * T b k + ∑ k, mean B c k * mean B c k - Ideal.ofBits FTy.f32 1073741824#32 * ∑ k, T b k * mean B c k) 0)

section one

variable (T : Fin 512 → Fin 64 → EReal) (N : Fin 4 → Fin 512 → Fin 64 → EReal) (We : Fin 64 → Fin 64 → EReal) (be : Fin 64 → EReal)
  (Wo : Fin 64 → Fin 64 → EReal) (bo : Fin 64 → EReal) (Wf : Fin 64 → Fin 64 → EReal)

def e1 (j : Fin 4) (b : Fin 512) (d : Fin 64) : EReal := gelu (∑ k, (N j b k - T b k) * We k d + be d)
def w1 (j : Fin 4) (b : Fin 512) (d : Fin 64) : EReal := ∑ k, e1 T N We be j b k * Wf k d
def m1 (b : Fin 512) (d : Fin 64) : EReal :=
  max (max (w1 T N We be Wf 0 b d) (w1 T N We be Wf 1 b d)) (max (w1 T N We be Wf 2 b d) (w1 T N We be Wf 3 b d))
def x1 (j : Fin 4) (b : Fin 512) (d : Fin 64) : EReal := Ideal.exp (w1 T N We be Wf j b d - m1 T N We be Wf b d)
def s1 (b : Fin 512) (d : Fin 64) : EReal :=
  x1 T N We be Wf 0 b d + x1 T N We be Wf 1 b d + x1 T N We be Wf 2 b d + x1 T N We be Wf 3 b d
/-- The first result. -/
def one (j : Fin 4) (b : Fin 512) (d : Fin 64) : EReal :=
  (1 + Ideal.tanh (∑ k, (T b k + e1 T N We be j b k * Ideal.div (x1 T N We be Wf j b k) (s1 T N We be Wf b k)) * Wo k d + bo d)) * T b d

end one

section two

variable (x : Fin 256 → Fin 64 → EReal) (o : Fin 64 → EReal) (Wo : Fin 64 → Fin 64 → EReal) (bo : Fin 64 → EReal) (Wf : Fin 64 → Fin 64 → EReal)

def e2 (s : Fin 256) (d : Fin 64) : EReal := gelu (x s d)
def w2 (s : Fin 256) (d : Fin 64) : EReal := ∑ k, e2 x s k * Wf k d
def m2 (d : Fin 64) : EReal := Finset.univ.sup fun s => w2 x Wf s d
def x2 (s : Fin 256) (d : Fin 64) : EReal := Ideal.exp (w2 x Wf s d - m2 x Wf d)
def p2 (s : Fin 256) (d : Fin 64) : EReal := e2 x s d * Ideal.div (x2 x Wf s d) (∑ t, x2 x Wf t d)
/-- The offset of row `s`. -/
def off (s : Fin 256) (d : Fin 64) : EReal := Ideal.tanh (∑ k, p2 x Wf s k * Wo k d + (∑ k, o k * Wo k d + bo d))
/-- The second result. -/
def two (d : Fin 64) : EReal := o d * (Ideal.ofBits FTy.f32 1132462080#32 + ∑ s, off x o Wo bo Wf s d)

end two

end Cert.Spec

end

end
-- ==== Proof.Finite.lean ====
/- The precondition of the value claim read: each of six arguments holds real numbers; and what sums, products and the functions make of
   real numbers. -/
module

public import proofs.«01_k».proof.Proof.Spec
public import proofs.«01_k».proof.Defs
public import proofs.«01_k».proof.Proof.Gen.Pre_finite
public import Idealize.ShloMosaic.Lib.ReduceAll

@[expose] public section

noncomputable section

namespace Cert.Finite

open Idealize.ShloMosaic

/-- A real number among the extended reals. -/
def IsReal (x : EReal) : Prop := ∃ r : ℝ, x = (r : EReal)

theorem isReal_coe (r : ℝ) : IsReal (r : EReal) := ⟨r, rfl⟩
theorem isReal_of {x : EReal} (h0 : x ≠ ⊥) (h1 : x ≠ ⊤) : IsReal x := ⟨x.toReal, (EReal.coe_toReal h1 h0).symm⟩
theorem IsReal.lt_top {x : EReal} (h : IsReal x) : x < ⊤ := by
  obtain ⟨r, rfl⟩ := h
  exact EReal.coe_lt_top r
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem sum_coe {n : ℕ} (f : Fin n → ℝ) : ∑ i, (f i : EReal) = ((∑ i, f i : ℝ) : EReal) := by
  classical
  refine Finset.induction_on (Finset.univ : Finset (Fin n)) (by simp) fun a s ha h => ?_
  rw [Finset.sum_insert ha, Finset.sum_insert ha, h, EReal.coe_add]
theorem IsReal.sum {n : ℕ} {f : Fin n → EReal} (h : ∀ i, IsReal (f i)) : IsReal (∑ i, f i) := by
  choose g hg using h
  exact ⟨∑ i, g i, by simp only [hg]; exact sum_coe g⟩
theorem IsReal.max {x y : EReal} (hx : IsReal x) (hy : IsReal y) : IsReal (max x y) := by
  rcases max_choice x y with h | h <;> rw [h] <;> assumption
theorem word_256 : Ideal.ofBits FTy.f32 1132462080#32 = ((256 : ℝ) : EReal) := by
  simp [Ideal.ofBits, Ideal.ieee]
  rw [← EReal.coe_mul]
  congr 1
  norm_num
theorem word_2 : Ideal.ofBits FTy.f32 1073741824#32 = ((2 : ℝ) : EReal) := by
  simp [Ideal.ofBits, Ideal.ieee]
  rw [← EReal.coe_mul]
  congr 1
  norm_num
theorem word_half : IsReal (Ideal.ofBits FTy.f32 1056964608#32) := by
  simp [Ideal.ofBits, Ideal.ieee]
  exact isReal_coe _
theorem word_root : IsReal (Ideal.ofBits FTy.f32 1060439283#32) := by
  simp [Ideal.ofBits, Ideal.ieee]
  exact isReal_coe _
theorem IsReal.erf {x : EReal} (h : IsReal x) : IsReal (Ideal.erf x) := by
  obtain ⟨r, rfl⟩ := h
  exact ⟨_, rfl⟩
theorem isReal_tanh (x : EReal) : IsReal (Ideal.tanh x) := by
  induction x using EReal.rec with
  | bot => exact ⟨-1, rfl⟩
  | top => exact ⟨1, rfl⟩
  | coe r => exact ⟨_, rfl⟩
theorem isReal_one : IsReal 1 := ⟨1, rfl⟩
theorem IsReal.gelu {x : EReal} (h : IsReal x) : IsReal (Spec.gelu x) :=
  (word_half.mul h).mul (isReal_one.add (h.mul word_root).erf)
theorem IsReal.sqrt_lt {x : EReal} (h : IsReal x) : Ideal.sqrt x < ⊤ := by
  obtain ⟨r, rfl⟩ := h
  show (if r < 0 then (⊥ : EReal) else (Real.sqrt r : EReal)) < ⊤
  split
  · exact bot_lt_top
  · exact EReal.coe_lt_top _

/-! ## The precondition -/

theorem lt_of_bit {x : EReal} (h : Ideal.cmp .olt (max x (-x)) ⊤ = 1#1) : IsReal x := by
  have h' : max x (-x) < ⊤ := by
    by_contra hn
    rw [Ideal.cmp] at h
    simp [hn] at h
  induction x using EReal.rec with
  | bot => simp at h'
  | top => simp at h'
  | coe r => exact ⟨r, rfl⟩

section
open Cert.Pre_finite Cert.Pre_finite.Facts
variable [Cert.Pre_finite.Facts]
variable (y0 : FVec Ideal S512x64 .f32) (y1 : FVec Ideal S71x256x64 .f32) (y2 : FVec Ideal S64x64 .f32) (y3 : FVec Ideal S64 .f32)
  (y4 : FVec Ideal S64x64 .f32) (y5 : FVec Ideal S64 .f32) (y6 : FVec Ideal S64x64 .f32) (y7 : FVec Ideal S64 .f32)
  (y8 : FVec Ideal S64x64 .f32) (y9 : FVec Ideal S64 .f32) (y10 y11 : FVec Ideal S64x64 .f32)

theorem bits (i : S_.Idx) (h : Cert.Pre_finite.fn (F := Ideal) y0 y1 y2 y3 y4 y5 y6 y7 y8 y9 y10 y11 i = 1#1) :
    (∀ k, IsReal (y0 k)) ∧ (∀ k, IsReal (y1 k)) ∧ (∀ k, IsReal (y6 k)) ∧ (∀ k, IsReal (y7 k)) ∧ (∀ k, IsReal (y8 k)) ∧ (∀ k, IsReal (y11 k)) := by
  have sub : Subsingleton S_.Idx := ⟨fun a b => funext fun k => k.elim0⟩
  have top : Ideal.ofBits FTy.f32 2139095040#32 = ⊤ := by simp [Ideal.ofBits, Ideal.ieee]
  have both : ∀ a b : BitVec 1, IntOp.andi a b = 1#1 → a = 1#1 ∧ b = 1#1 := by decide
  unfold Cert.Pre_finite.fn Cert.Pre_finite.fn_part1 at h
  obtain ⟨h, h11⟩ := both _ _ h
  obtain ⟨h, h8⟩ := both _ _ h
  obtain ⟨h, h7⟩ := both _ _ h
  obtain ⟨h, h6⟩ := both _ _ h
  obtain ⟨h0, h1⟩ := both _ _ h
  refine ⟨fun k => ?_, fun k => ?_, fun k => ?_, fun k => ?_, fun k => ?_, fun k => ?_⟩ <;> refine lt_of_bit (top ▸ ?_)
  · exact Host.reduce_andi_all _ _ _ _ _ h0 k
  · exact Host.reduce_andi_all _ _ _ _ _ h1 k
  · exact Host.reduce_andi_all _ _ _ _ _ h6 k
  · exact Host.reduce_andi_all _ _ _ _ _ h7 k
  · exact Host.reduce_andi_all _ _ _ _ _ h8 k
  · exact Host.reduce_andi_all _ _ _ _ _ h11 k

end

end Cert.Finite

end

end
-- ==== Proof.RefOne.lean ====
/- The reference's first result, entry by entry, of real tokens and a real bank. -/
module

public import proofs.«01_k».proof.Proof.OneSel
public import proofs.«01_k».proof.Proof.Finite
public import proofs.«01_k».proof.Proof.Gen.ReferenceIdeal.Run

@[expose] public section

set_option maxRecDepth 16384

noncomputable section

namespace Cert.RefOne

open Idealize.ShloMosaic Idealize.ShloMosaic.StableHlo Cert.Pick Cert.Finite
open Cert.ReferenceIdeal Cert.ReferenceIdeal.Gen Cert.ReferenceIdeal.Value

/-! ## The two gathers -/

section gathers
variable {α : Type}

theorem gather_means (x : S71x64.Idx → α) (idx : IVec S512x4x1 32) (b : Fin 512) (j : Fin 4) (k : Fin 64) :
    Host.gather gather_S71x64_S512x4x1_S512x4x64_2_0_n_n_0_2_164 x idx (ix3 b j k)
      = x (ix2 (⟨min (idx (ix3 b j (0 : Fin 1))).toInt.toNat 70, by omega⟩ : Fin 71) k) := by
  unfold Host.gather
  congr 1
  funext a
  refine Fin.ext ?_
  match a with
  | ⟨0, _⟩ =>
    show gather_S71x64_S512x4x1_S512x4x64_2_0_n_n_0_2_164.start (ix3 b j k) idx 0 + gather_S71x64_S512x4x1_S512x4x64_2_0_n_n_0_2_164.batchCoord (ix3 b j k) 0 + gather_S71x64_S512x4x1_S512x4x64_2_0_n_n_0_2_164.offCoord (ix3 b j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S71x64_S512x4x1_S512x4x64_2_0_n_n_0_2_164.startIndexMap from List.mem_singleton.mpr rfl)]
    have hsi : gather_S71x64_S512x4x1_S512x4x64_2_0_n_n_0_2_164.siIdx (ix3 b j k) ⟨List.idxOf (0 : Fin 2) gather_S71x64_S512x4x1_S512x4x64_2_0_n_n_0_2_164.startIndexMap,
        List.idxOf_lt_length_iff.2 (List.mem_singleton.mpr rfl)⟩ = ix3 b j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S71x64_S512x4x1_S512x4x64_2_0_n_n_0_2_164.start (ix3 b j k) idx 1 + gather_S71x64_S512x4x1_S512x4x64_2_0_n_n_0_2_164.batchCoord (ix3 b j k) 1 + gather_S71x64_S512x4x1_S512x4x64_2_0_n_n_0_2_164.offCoord (ix3 b j k) 1 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

theorem gather_pages (x : S71x256x64.Idx → α) (idx : IVec S512x4x1 32) (b : Fin 512) (j : Fin 4) (s : Fin 256) (k : Fin 64) :
    Host.gather gather_S71x256x64_S512x4x1_S512x4x256x64_23_0_n_n_0_2_125664 x idx (ix4 b j s k)
      = x (ix3 (⟨min (idx (ix3 b j (0 : Fin 1))).toInt.toNat 70, by omega⟩ : Fin 71) s k) := by
  unfold Host.gather
  congr 1
  funext a
  refine Fin.ext ?_
  match a with
  | ⟨0, _⟩ =>
    show gather_S71x256x64_S512x4x1_S512x4x256x64_23_0_n_n_0_2_125664.start (ix4 b j s k) idx 0 + gather_S71x256x64_S512x4x1_S512x4x256x64_23_0_n_n_0_2_125664.batchCoord (ix4 b j s k) 0 + gather_S71x256x64_S512x4x1_S512x4x256x64_23_0_n_n_0_2_125664.offCoord (ix4 b j s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S71x256x64_S512x4x1_S512x4x256x64_23_0_n_n_0_2_125664.startIndexMap from List.mem_singleton.mpr rfl)]
    have hsi : gather_S71x256x64_S512x4x1_S512x4x256x64_23_0_n_n_0_2_125664.siIdx (ix4 b j s k) ⟨List.idxOf (0 : Fin 3) gather_S71x256x64_S512x4x1_S512x4x256x64_23_0_n_n_0_2_125664.startIndexMap,
        List.idxOf_lt_length_iff.2 (List.mem_singleton.mpr rfl)⟩ = ix3 b j (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S71x256x64_S512x4x1_S512x4x256x64_23_0_n_n_0_2_125664.start (ix4 b j s k) idx 1 + gather_S71x256x64_S512x4x1_S512x4x256x64_23_0_n_n_0_2_125664.batchCoord (ix4 b j s k) 1 + gather_S71x256x64_S512x4x1_S512x4x256x64_23_0_n_n_0_2_125664.offCoord (ix4 b j s k) 1 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨2, _⟩ =>
    show gather_S71x256x64_S512x4x1_S512x4x256x64_23_0_n_n_0_2_125664.start (ix4 b j s k) idx 2 + gather_S71x256x64_S512x4x1_S512x4x256x64_23_0_n_n_0_2_125664.batchCoord (ix4 b j s k) 2 + gather_S71x256x64_S512x4x1_S512x4x256x64_23_0_n_n_0_2_125664.offCoord (ix4 b j s k) 2 = _
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

end gathers

variable (V : Valuation τ sig (Elt Ideal))

abbrev b0 : FVec Ideal S512x64 .f32 := V (Proc.devRef .tc main_arg0)
abbrev b1 : FVec Ideal S71x256x64 .f32 := V (Proc.devRef .tc main_arg1)
abbrev b2 : FVec Ideal S64x64 .f32 := V (Proc.devRef .tc main_arg2)
abbrev b3 : FVec Ideal S64 .f32 := V (Proc.devRef .tc main_arg3)
abbrev b4 : FVec Ideal S64x64 .f32 := V (Proc.devRef .tc main_arg4)
abbrev b5 : FVec Ideal S64 .f32 := V (Proc.devRef .tc main_arg5)
abbrev b6 : FVec Ideal S64x64 .f32 := V (Proc.devRef .tc main_arg6)
abbrev b7 : FVec Ideal S64 .f32 := V (Proc.devRef .tc main_arg7)
abbrev b8 : FVec Ideal S64x64 .f32 := V (Proc.devRef .tc main_arg8)
abbrev b9 : FVec Ideal S64 .f32 := V (Proc.devRef .tc main_arg9)
abbrev b10 : FVec Ideal S64x64 .f32 := V (Proc.devRef .tc main_arg10)
abbrev b11 : FVec Ideal S64x64 .f32 := V (Proc.devRef .tc main_arg11)

abbrev T (b : Fin 512) (k : Fin 64) : EReal := b0 V (ix2 b k)
abbrev B (c : Fin 71) (s : Fin 256) (k : Fin 64) : EReal := b1 V (ix3 c s k)

variable (hT : ∀ i, IsReal (b0 V i)) (hB : ∀ i, IsReal (b1 V i))

include hB in
theorem mean_real (c : Fin 71) (k : Fin 64) : IsReal (Spec.mean (B V) c k) := by
  unfold Spec.mean
  rw [word_256, Ideal.div_coe (by norm_num)]
  exact (IsReal.sum fun s => hB _).mul (isReal_coe _)

theorem v2_read (c : Fin 71) (k : Fin 64) : (res_main_v2 V (ix2 c k) : EReal) = Spec.mean (B V) c k := by
  unfold res_main_v2
  pointwise
  rfl

theorem two_dot {t u : Fin 64 → EReal} (ht : ∀ k, IsReal (t k)) (hu : ∀ k, IsReal (u k)) :
    ∑ k, Ideal.ofBits FTy.f32 1073741824#32 * t k * u k = Ideal.ofBits FTy.f32 1073741824#32 * ∑ k, t k * u k := by
  choose f hf using ht
  choose g hg using hu
  simp only [hf, hg, word_2, ← EReal.coe_mul, sum_coe]
  rw [Finset.mul_sum]
  simp only [mul_assoc]

include hT hB in
theorem v19_read (b : Fin 512) (c : Fin 71) : (res_main_v19 V (ix2 b c) : EReal) = - Spec.dist (T V) (B V) b c := by
  unfold res_main_v19
  pointwise
  simp only [v2_read]
  rw [max_comm]
  unfold Spec.dist
  rw [← two_dot (fun k => hT _) (fun k => mean_real V hB c k)]
  have z : (id (constant S_ FTy.f32 0#32) : FVec Ideal S_ .f32) ix0 = 0 := Ideal.ofBits_zero_f32
  rw [z]

include hT hB in
theorem dist_lt (b : Fin 512) (c : Fin 71) : Spec.dist (T V) (B V) b c < ⊤ := by
  unfold Spec.dist
  refine IsReal.sqrt_lt (IsReal.max (((IsReal.sum fun k => (hT _).mul (hT _)).add (IsReal.sum fun k => ?_)).sub (IsReal.mul ?_ (IsReal.sum fun k => ?_))) ⟨0, rfl⟩)
  · exact (mean_real V hB c k).mul (mean_real V hB c k)
  · rw [word_2]; exact isReal_coe _
  · exact (hT _).mul (mean_real V hB c k)

/-- The chosen classes of row `b`. -/
abbrev picks (b : Fin 512) : Fin 4 → Fin 71 := sel (Spec.dist (T V) (B V) b)

theorem along_col (b : Fin 512) (l k : Fin 71) : (ix2 b l : S512x71.Idx).along 1 k = ix2 b k := by
  funext a
  match a with
  | ⟨0, _⟩ => rfl
  | ⟨1, _⟩ => rfl

theorem sort_read {α β : Type} (cmp : α × β → α × β → BitVec 1) (X : S512x71.Idx → α) (Y : S512x71.Idx → β) (b : Fin 512) (l : Fin 71) :
    (Host.sort2 S512x71 1 cmp X Y).2 (ix2 b l)
      = Y (ix2 b (sortedFrom (fun k k' : Fin 71 => cmp (X (ix2 b k), Y (ix2 b k)) (X (ix2 b k'), Y (ix2 b k')) == 1#1) l)) := by
  have h : (Host.sort2 S512x71 1 cmp X Y).2 (ix2 b l)
      = Y ((ix2 b l : S512x71.Idx).along 1 (sortedFrom (fun k k' : Fin 71 => cmp (X ((ix2 b l : S512x71.Idx).along 1 k), Y ((ix2 b l : S512x71.Idx).along 1 k))
          (X ((ix2 b l : S512x71.Idx).along 1 k'), Y ((ix2 b l : S512x71.Idx).along 1 k')) == 1#1) l)) := by
    unfold Host.sort2
    rw [dif_pos (by decide : 1 < S512x71.rank)]
    rfl
  rw [h]
  simp only [along_col]
  exact congrArg Y (along_col b l _)

theorem slice_read (X : IVec S512x71 32) (b : Fin 512) (j : Fin 4) :
    extractStridedSlice S512x4 (fun _ => 0) X sliceFits_S512x71_S512x4 (ix2 b j) = X (ix2 b (⟨j.val, by omega⟩ : Fin 71)) := by
  refine congrArg X (funext fun a => Fin.ext ?_)
  match a with
  | ⟨0, _⟩ => exact Nat.zero_add _
  | ⟨1, _⟩ => exact Nat.zero_add _

theorem iota_read (b : Fin 512) (k : Fin 71) :
    (if hd : 1 < S512x71.rank then iotaInDim S512x71 32 ⟨1, hd⟩ (ix2 b k) else 0#32) = OneSel.name k := rfl

theorem top_read (D : S512x71.Idx → EReal) (gt : EReal → EReal → BitVec 1) (b : Fin 512) (j : Fin 4) :
    (Host.topK S512x4 1 gt D sliceFits_S512x71_S512x4).2 (ix2 b j)
      = OneSel.name (sortedFrom (fun k k' : Fin 71 => gt (D (ix2 b k)) (D (ix2 b k')) == 1#1) ⟨j.val, by omega⟩) := by
  have h : (Host.topK S512x4 1 gt D sliceFits_S512x71_S512x4).2 = extractStridedSlice S512x4 (fun _ => 0)
      (Host.sort2 S512x71 1 (fun l r => gt l.1 r.1) D
        (fun i => if hd : 1 < S512x71.rank then iotaInDim S512x71 32 ⟨1, hd⟩ i else 0#32)).2 sliceFits_S512x71_S512x4 := rfl
  rw [h, slice_read, sort_read]
  exact iota_read b _

include hT hB in
theorem indices_read (b : Fin 512) (j : Fin 4) : (res_main_indices V (ix2 b j) : BitVec 32) = OneSel.name (picks V b j) := by
  unfold res_main_indices
  refine (top_read _ _ b j).trans ?_
  unfold picks
  rw [sorted_sel (Spec.dist (T V) (B V) b) (dist_lt V hT hB b) _ ?_ j]
  intro k k'
  rw [v19_read V hT hB, v19_read V hT hB]
  show (Ideal.cmp .ogt _ _ == 1#1) = true ↔ _
  rw [Ideal.cmp]
  by_cases h : Spec.dist (T V) (B V) b k < Spec.dist (T V) (B V) b k' <;> simp [h]

end Cert.RefOne

end

end
-- ==== Proof.RefTwo.lean ====
/- The reference's two results, entry by entry, of real tokens and a real bank. -/
module

public import proofs.«01_k».proof.Proof.RefOne
public import Idealize.ShloMosaic.Lib.ReduceAll

@[expose] public section

set_option maxRecDepth 16384

noncomputable section

namespace Cert.RefTwo

open Idealize.ShloMosaic Idealize.ShloMosaic.StableHlo Cert.Pick Cert.Finite Cert.RefOne
open Cert.ReferenceIdeal Cert.ReferenceIdeal.Gen Cert.ReferenceIdeal.Value

/-- Which entries lie in the bank. -/
def inBank (idx : IVec S512x4x1 32) : IVec S512x4 1 := Host.reduce IntOp.andi (andi (cmpi .sge idx (broadcastInDim S512x4x1 ![] bcast_S_S512x4x1 (constantI S_ 32 0#32))) (cmpi .sle idx (broadcastInDim S512x4x1 ![0, 1, 2] bcast_S1x1x1_S512x4x1_0_1_2 (broadcastInDim S1x1x1 ![2] bcast_S1_S1x1x1_2 (constantI S1 32 70#32))))) (constantI S_ 1 1#1) reducesTo_S512x4x1_S512x4_d2 h_S_

/-- A column of class names lies in the bank: the mask of in-range entries is all ones. -/
theorem mask_one (idx : IVec S512x4x1 32) (h : ∀ i, ∃ c : Fin 71, idx i = OneSel.name c) (i : S512x4.Idx) :
    inBank idx i = 1#1 := by
  refine Host.reduce_andi_one _ _ _ _ _ rfl fun i => ?_
  obtain ⟨c, hc⟩ := h i
  show IntOp.andi (IntOp.cmpi .sge (idx i) 0#32) (IntOp.cmpi .sle (idx i) 70#32) = 1#1
  rw [hc]
  have : ∀ c : Fin 71, IntOp.andi (IntOp.cmpi .sge (BitVec.ofNat 32 c.val) 0#32) (IntOp.cmpi .sle (BitVec.ofNat 32 c.val) 70#32) = 1#1 := by decide
  exact this c

theorem clamp_name : ∀ c : Fin 71, min (OneSel.name c).toInt.toNat 70 = c.val := by
  unfold OneSel.name
  decide

theorem plain_name : ∀ c : Fin 71, Scalar.select (IntOp.cmpi .slt (OneSel.name c) 0#32) (IntOp.addi (OneSel.name c) 71#32) (OneSel.name c) = OneSel.name c := by
  unfold OneSel.name
  decide

variable (V : Valuation τ sig (Elt Ideal))

/-- The means of the chosen classes. -/
def near : FVec Ideal S512x4x64 .f32 :=
  select (broadcastInDim S512x4x64 ![0, 1] bcast_S512x4_S512x4x64_0_1 (inBank (res_main_call1_v5 V))) (Host.gather gather_S71x64_S512x4x1_S512x4x64_2_0_n_n_0_2_164 (res_main_v2 V) (res_main_call1_v5 V)) (broadcastInDim S512x4x64 ![] bcast_S_S512x4x64 (constant S_ .f32 0x7FC00000#32))

/-- The pages of the chosen classes. -/
def pages : FVec Ideal S512x4x256x64 .f32 :=
  select (broadcastInDim S512x4x256x64 ![0, 1] bcast_S512x4_S512x4x256x64_0_1 (inBank (res_main_call2_v5 V))) (Host.gather gather_S71x256x64_S512x4x1_S512x4x256x64_23_0_n_n_0_2_125664 (V (Proc.devRef .tc main_arg1)) (res_main_call2_v5 V)) (broadcastInDim S512x4x256x64 ![] bcast_S_S512x4x256x64 (constant S_ .f32 0x7FC00000#32))

theorem v27_eq : res_main_v27 V = addf (Host.dotGeneral dot_S512x4x64_S64x64_S512x4x64_2_0_01_1_n_n none (subf (near V) (broadcastInDim S512x4x64 ![0, 1, 2] bcast_S512x1x64_S512x4x64_0_1_2 (broadcastInDim S512x1x64 ![0, 2] bcast_S512x64_S512x1x64_0_2 (V (Proc.devRef .tc main_arg0))))) (b2 V)) (broadcastInDim S512x4x64 ![0, 1, 2] bcast_S1x1x64_S512x4x64_0_1_2 (broadcastInDim S1x1x64 ![2] bcast_S64_S1x1x64_2 (V (Proc.devRef .tc main_arg3)))) := rfl

theorem v68_eq : res_main_v68 V = addf (Host.dotGeneral dot_S512x4x256x64_S64x64_S512x4x256x64_3_0_012_1_n_n none (subf (pages V) (broadcastInDim S512x4x256x64 ![0, 1, 2, 3] bcast_S512x4x1x64_S512x4x256x64_0_1_2_3 (broadcastInDim S512x4x1x64 ![0, 1, 3] bcast_S512x4x64_S512x4x1x64_0_1_3 (res_main_v60 V)))) (b6 V)) (broadcastInDim S512x4x256x64 ![0, 1, 2, 3] bcast_S1x1x1x64_S512x4x256x64_0_1_2_3 (broadcastInDim S1x1x1x64 ![3] bcast_S64_S1x1x1x64_3 (V (Proc.devRef .tc main_arg7)))) := rfl

theorem sel3 (m : IVec S512x4 1) (x y : FVec Ideal S512x4x64 .f32) (b : Fin 512) (j : Fin 4) (k : Fin 64) (h : m (ix2 b j) = 1#1) :
    (select (broadcastInDim S512x4x64 ![0, 1] bcast_S512x4_S512x4x64_0_1 m) x y (ix3 b j k) : EReal) = x (ix3 b j k) := by
  pointwise
  rw [h]
  rfl

theorem sel4 (m : IVec S512x4 1) (x y : FVec Ideal S512x4x256x64 .f32) (b : Fin 512) (j : Fin 4) (s : Fin 256) (k : Fin 64)
    (h : m (ix2 b j) = 1#1) :
    (select (broadcastInDim S512x4x256x64 ![0, 1] bcast_S512x4_S512x4x256x64_0_1 m) x y (ix4 b j s k) : EReal) = x (ix4 b j s k) := by
  pointwise
  rw [h]
  rfl

variable (hT : ∀ i, IsReal (b0 V i)) (hB : ∀ i, IsReal (b1 V i))

include hT hB in
theorem call1_read (b : Fin 512) (j : Fin 4) (q : Fin 1) : (res_main_call1_v5 V (ix3 b j q) : BitVec 32) = OneSel.name (picks V b j) := by
  unfold res_main_call1_v5
  pointwise
  rw [indices_read V hT hB]
  exact plain_name _

include hT hB in
theorem call2_read (b : Fin 512) (j : Fin 4) (q : Fin 1) : (res_main_call2_v5 V (ix3 b j q) : BitVec 32) = OneSel.name (picks V b j) := by
  unfold res_main_call2_v5
  pointwise
  rw [indices_read V hT hB]
  exact plain_name _

theorem ix_of (i : S512x4x1.Idx) : ∃ (b : Fin 512) (j : Fin 4) (q : Fin 1), i = ix3 b j q := ⟨i 0, i 1, i 2, (ix3_eta i).symm⟩

include hT hB in
theorem near_read (b : Fin 512) (j : Fin 4) (k : Fin 64) : (near V (ix3 b j k) : EReal) = Spec.mean (B V) (picks V b j) k := by
  have hm := mask_one (res_main_call1_v5 V) (fun i => by
    obtain ⟨b, j, q, rfl⟩ := ix_of i
    exact ⟨_, call1_read V hT hB b j q⟩) (ix2 b j)
  unfold near
  rw [sel3 _ _ _ b j k hm]
  rw [gather_means]
  refine (v2_read V _ k).trans ?_
  refine congrArg (fun c => Spec.mean (B V) c k) ?_
  exact Fin.ext ((congrArg (fun w : BitVec 32 => min w.toInt.toNat 70) (call1_read V hT hB b j 0)).trans (clamp_name _))

include hT hB in
theorem pages_read (b : Fin 512) (j : Fin 4) (s : Fin 256) (k : Fin 64) : (pages V (ix4 b j s k) : EReal) = B V (picks V b j) s k := by
  have hm := mask_one (res_main_call2_v5 V) (fun i => by
    obtain ⟨b, j, q, rfl⟩ := ix_of i
    exact ⟨_, call2_read V hT hB b j q⟩) (ix2 b j)
  unfold pages
  rw [sel4 _ _ _ b j s k hm]
  rw [gather_pages]
  refine congrArg (fun c => B V c s k) ?_
  exact Fin.ext ((congrArg (fun w : BitVec 32 => min w.toInt.toNat 70) (call2_read V hT hB b j 0)).trans (clamp_name _))

theorem word_bot : Ideal.ofBits FTy.f32 4286578688#32 = ⊥ := by simp [Ideal.ofBits, Ideal.ieee]

theorem fold_sup {n : ℕ} (f : Fin n → EReal) : Finset.fold max ⊥ f Finset.univ = Finset.univ.sup f := rfl

theorem erfc_gelu (x : EReal) : Ideal.ofBits FTy.f32 1056964608#32 * x * Ideal.erfc (-x * Ideal.ofBits FTy.f32 1060439283#32) = Spec.gelu x := by
  rw [EReal.neg_mul, Ideal.erfc_neg]
  rfl

theorem lift4 (b : Fin 512) (d : Fin 64) (j : Fin 4) :
    (show S512x4x64.Reduces [1] S512x64 by decide).lift (ix2 b d) j = ix3 b j d := by
  funext a
  match a with
  | ⟨0, _⟩ => rfl
  | ⟨1, _⟩ => rfl
  | ⟨2, _⟩ => rfl

theorem max4 (x : S512x4x64.Idx → EReal) (b : Fin 512) (d : Fin 64) :
    Finset.fold max ⊥ x {i | reducesTo_S512x4x64_S512x64_d1.drop i = ix2 b d} = Finset.univ.sup fun j => x (ix3 b j d) := by
  rw [Shape.ReducesTo.drop_eq_drop _ (show S512x4x64.Reduces [1] S512x64 by decide), Shape.Reduces.fold_filter_drop_single]
  exact congrArg (fun f : Fin 4 → EReal => Finset.fold max ⊥ f Finset.univ) (funext fun j => congrArg x (lift4 b d j))

theorem sup4 (f : Fin 4 → EReal) : Finset.univ.sup f = max (max (f 0) (f 1)) (max (f 2) (f 3)) := by
  simp [Fin.univ_succ, max_assoc]

/-! ## The first result -/

section first

/-- The chosen means of row `b`. -/
abbrev N (j : Fin 4) (b : Fin 512) (k : Fin 64) : EReal := Spec.mean (B V) (picks V b j) k
abbrev w2 (x : FVec Ideal S64x64 .f32) (k d : Fin 64) : EReal := x (ix2 k d)
abbrev w1 (x : FVec Ideal S64 .f32) (d : Fin 64) : EReal := x (ix1 d)

include hT hB in
theorem v34_read (b : Fin 512) (j : Fin 4) (d : Fin 64) :
    (res_main_v34 V (ix3 b j d) : EReal) = Spec.e1 (T V) (N V) (w2 (b2 V)) (w1 (b3 V)) j b d := by
  unfold res_main_v34
  rw [v27_eq]
  pointwise
  simp only [near_read V hT hB]
  exact erfc_gelu _

include hT hB in
theorem v35_read (b : Fin 512) (j : Fin 4) (d : Fin 64) :
    (res_main_v35 V (ix3 b j d) : EReal) = Spec.w1 (T V) (N V) (w2 (b2 V)) (w1 (b3 V)) (w2 (b10 V)) j b d := by
  unfold res_main_v35
  pointwise
  simp only [v34_read V hT hB]
  rfl

include hT hB in
theorem v42_read (b : Fin 512) (j : Fin 4) (d : Fin 64) :
    (res_main_v42 V (ix3 b j d) : EReal) = Spec.x1 (T V) (N V) (w2 (b2 V)) (w1 (b3 V)) (w2 (b10 V)) j b d := by
  unfold res_main_v42
  pointwise
  rw [word_bot, max_eq_right bot_le]
  have e := max4 (res_main_v35 V) b d
  rw [sup4] at e
  simp only [v35_read V hT hB] at e ⊢
  exact congrArg (fun t => Ideal.exp (_ - t)) e

include hT hB in
theorem v60_read (b : Fin 512) (j : Fin 4) (d : Fin 64) :
    (res_main_v60 V (ix3 b j d) : EReal)
      = Spec.one (T V) (N V) (w2 (b2 V)) (w1 (b3 V)) (w2 (b4 V)) (w1 (b5 V)) (w2 (b10 V)) j b d := by
  unfold res_main_v60
  pointwise
  simp only [v34_read V hT hB, v42_read V hT hB, Fin.sum_univ_four]
  rfl

end first

end Cert.RefTwo

end

end
-- ==== Proof.RefThree.lean ====
/- The reference's second result, entry by entry, of real tokens and a real bank. -/
module

public import proofs.«01_k».proof.Proof.RefTwo

@[expose] public section

set_option maxRecDepth 16384

noncomputable section

namespace Cert.RefThree

open Idealize.ShloMosaic Idealize.ShloMosaic.StableHlo Cert.Pick Cert.Finite Cert.RefOne Cert.RefTwo
open Cert.ReferenceIdeal Cert.ReferenceIdeal.Gen Cert.ReferenceIdeal.Value

variable (V : Valuation τ sig (Elt Ideal))
variable (hT : ∀ i, IsReal (b0 V i)) (hB : ∀ i, IsReal (b1 V i))

/-- The second result. -/
def last : FVec Ideal S512x4x64 .f32 :=
  Host.reduceAdd (mulf (addf (broadcastInDim S512x4x256x64 ![] bcast_S_S512x4x256x64 (constant S_ .f32 0x3F800000#32)) (Host.tanh (addf (Host.dotGeneral dot_S512x4x256x64_S64x64_S512x4x256x64_3_0_012_1_n_n none (addf (broadcastInDim S512x4x256x64 ![0, 1, 2, 3] bcast_S512x4x1x64_S512x4x256x64_0_1_2_3 (broadcastInDim S512x4x1x64 ![0, 1, 3] bcast_S512x4x64_S512x4x1x64_0_1_3 (res_main_v60 V))) (mulf (res_main_v75 V) (Host.divf (res_main_v83 V) (broadcastInDim S512x4x256x64 ![0, 1, 2, 3] bcast_S512x4x1x64_S512x4x256x64_0_1_2_3 (broadcastInDim S512x4x1x64 ![0, 1, 3] bcast_S512x4x64_S512x4x1x64_0_1_3 (Host.reduceAdd (res_main_v83 V) (constant S_ .f32 0x00000000#32) reducesTo_S512x4x256x64_S512x4x64_d2 h_S_)))))) (b8 V)) (broadcastInDim S512x4x256x64 ![0, 1, 2, 3] bcast_S1x1x1x64_S512x4x256x64_0_1_2_3 (broadcastInDim S1x1x1x64 ![3] bcast_S64_S1x1x1x64_3 (V (Proc.devRef .tc main_arg9))))))) (broadcastInDim S512x4x256x64 ![0, 1, 2, 3] bcast_S512x4x1x64_S512x4x256x64_0_1_2_3 (broadcastInDim S512x4x1x64 ![0, 1, 3] bcast_S512x4x64_S512x4x1x64_0_1_3 (res_main_v60 V)))) (constant S_ .f32 0x00000000#32) reducesTo_S512x4x256x64_S512x4x64_d2 h_S_

theorem red256 : S512x4x256x64.Reduces [2] S512x4x64 := by decide

theorem lift256 (b : Fin 512) (j : Fin 4) (d : Fin 64) (s : Fin 256) : red256.lift (ix3 b j d) s = ix4 b j s d := by
  funext a
  match a with
  | ⟨0, _⟩ => rfl
  | ⟨1, _⟩ => rfl
  | ⟨2, _⟩ => rfl
  | ⟨3, _⟩ => rfl

/-- The greatest of an array's rows, from the least extended real. -/
def tops (x : FVec Ideal S512x4x256x64 .f32) : FVec Ideal S512x4x64 .f32 :=
  Host.reduce FloatOps.maximumf x (constant S_ .f32 0xFF800000#32) reducesTo_S512x4x256x64_S512x4x64_d2 h_S_

theorem tops_fold (x : FVec Ideal S512x4x256x64 .f32) (i : S512x4x64.Idx) :
    tops x i = (Finset.univ : Finset (Fin (S512x4x256x64.size 2))).fold (FloatOps.maximumf (F := Ideal) (φ := .f32))
      (constant (F := Ideal) S_ .f32 0xFF800000#32 (Shape.Idx.first h_S_)) (x ∘ red256.lift i) := by
  unfold tops
  exact Host.reduce_eq_fold_single _ x _ _ red256 _ _

theorem fold_any {n : ℕ} (f : Fin n → EReal) :
    Finset.fold (FloatOps.maximumf (F := Ideal) (φ := .f32)) (Ideal.ofBits FTy.f32 4286578688#32) f Finset.univ = Finset.univ.sup f := by
  rw [word_bot]
  rfl

theorem tops_read (x : FVec Ideal S512x4x256x64 .f32) (b : Fin 512) (j : Fin 4) (d : Fin 64) :
    (tops x (ix3 b j d) : EReal) = Finset.univ.sup fun s => (x (ix4 b j s d) : EReal) := by
  have e : (fun s : Fin 256 => (x (ix4 b j s d) : EReal)) = x ∘ red256.lift (ix3 b j d) := funext fun s => congrArg x (lift256 b j d s).symm
  rw [e, tops_fold]
  exact fold_any _

/-- The first result's row. -/
abbrev o (b : Fin 512) (j : Fin 4) (d : Fin 64) : EReal := res_main_v60 V (ix3 b j d)

/-- The page's rows less the first result's, through the second layer. -/
def inner (b : Fin 512) (j : Fin 4) (s : Fin 256) (d : Fin 64) : EReal :=
  ∑ k, (B V (picks V b j) s k - o V b j k) * w2 (b6 V) k d + w1 (b7 V) d

include hT hB in
theorem v75_read (b : Fin 512) (j : Fin 4) (s : Fin 256) (d : Fin 64) :
    (res_main_v75 V (ix4 b j s d) : EReal) = Spec.e2 (inner V b j) s d := by
  unfold res_main_v75
  rw [v68_eq]
  pointwise
  simp only [pages_read V hT hB]
  exact erfc_gelu _

include hT hB in
theorem v76_read (b : Fin 512) (j : Fin 4) (s : Fin 256) (d : Fin 64) :
    (res_main_v76 V (ix4 b j s d) : EReal) = Spec.w2 (inner V b j) (w2 (b11 V)) s d := by
  unfold res_main_v76
  pointwise
  simp only [v75_read V hT hB]
  rfl

theorem v83_eq : res_main_v83 V = Host.exp (subf (res_main_v76 V) (broadcastInDim S512x4x256x64 ![0, 1, 2, 3] bcast_S512x4x1x64_S512x4x256x64_0_1_2_3 (broadcastInDim S512x4x1x64 ![0, 1, 3] bcast_S512x4x64_S512x4x1x64_0_1_3 (maximumf (broadcastInDim S512x4x64 ![] bcast_S_S512x4x64 (constant S_ .f32 0xFF800000#32)) (tops (res_main_v76 V)))))) := rfl

theorem exp_read (x : FVec Ideal S512x4x256x64 .f32) (t : FVec Ideal S512x4x64 .f32) (b : Fin 512) (j : Fin 4) (s : Fin 256) (d : Fin 64) :
    ((Host.exp (subf x (broadcastInDim S512x4x256x64 ![0, 1, 2, 3] bcast_S512x4x1x64_S512x4x256x64_0_1_2_3 (broadcastInDim S512x4x1x64 ![0, 1, 3] bcast_S512x4x64_S512x4x1x64_0_1_3 (maximumf (broadcastInDim S512x4x64 ![] bcast_S_S512x4x64 (constant S_ .f32 0xFF800000#32)) t)))) : FVec Ideal S512x4x256x64 .f32) (ix4 b j s d) : EReal)
      = Ideal.exp (x (ix4 b j s d) - max (Ideal.ofBits FTy.f32 4286578688#32) (t (ix3 b j d))) := by
  pointwise
  try rfl

include hT hB in
theorem v83_read (b : Fin 512) (j : Fin 4) (s : Fin 256) (d : Fin 64) :
    (res_main_v83 V (ix4 b j s d) : EReal) = Spec.x2 (inner V b j) (w2 (b11 V)) s d := by
  rw [v83_eq]
  refine (exp_read _ _ b j s d).trans ?_
  rw [word_bot, max_eq_right bot_le, tops_read]
  simp only [v76_read V hT hB]
  rfl

include hT hB in
theorem last_read (b : Fin 512) (j : Fin 4) (d : Fin 64) :
    (last V (ix3 b j d) : EReal)
      = ∑ s, (1 + Ideal.tanh (∑ k, (o V b j k + Spec.p2 (inner V b j) (w2 (b11 V)) s k) * w2 (b8 V) k d + w1 (b9 V) d)) * o V b j d := by
  unfold last
  pointwise
  simp only [v75_read V hT hB, v83_read V hT hB]
  rfl

end Cert.RefThree

end

end
-- ==== Proof.OneValue.lean ====
/- The first call's four arrays of values, entry by entry. -/
module

public import proofs.«01_k».proof.Proof.OneSel
public import proofs.«01_k».proof.Proof.Spec

@[expose] public section

set_option maxRecDepth 16384

noncomputable section

namespace Cert.OneValue

open Idealize.ShloMosaic Cert.KernelIdeal Cert.KernelIdeal.Gen Cert.KernelIdeal.Whole Cert.Pick Cert.OneSel

section pays

variable (T : Vec Ideal S512x64 .f32) (We : Vec Ideal S64x64 .f32) (be : FVec Ideal S1x64 .f32) (Wo : Vec Ideal S64x64 .f32) (bo : FVec Ideal S1x64 .f32)
  (Wf : Vec Ideal S64x64 .f32) (n0 n1 n2 n3 : FVec Ideal S512x64 .f32)

abbrev cur2 {p q : ℕ} (X : FVec Ideal ⟨2, ![p, q]⟩ .f32) : Fin p → Fin q → EReal := fun i j => X (ix2 i j)
abbrev cur1 (X : FVec Ideal S1x64 .f32) : Fin 64 → EReal := fun d => X (ix2 (0 : Fin 1) d)
/-- The four nearest means, as one function. -/
def near4 : Fin 4 → Fin 512 → Fin 64 → EReal := ![cur2 n0, cur2 n1, cur2 n2, cur2 n3]

abbrev E (j : Fin 4) (b : Fin 512) (d : Fin 64) := Spec.e1 (cur2 T) (near4 n0 n1 n2 n3) (cur2 We) (cur1 be) j b d
abbrev Wt (j : Fin 4) (b : Fin 512) (d : Fin 64) := Spec.w1 (cur2 T) (near4 n0 n1 n2 n3) (cur2 We) (cur1 be) (cur2 Wf) j b d

theorem e_0 (b : Fin 512) (d : Fin 64) : k0_pay23 T We be n0 (ix2 b d) = E T We be n0 n1 n2 n3 0 b d := by
  unfold k0_pay23
  pointwise
  rfl
theorem e_1 (b : Fin 512) (d : Fin 64) : k0_pay29 (k0_pay26 T We be n1) (k0_pay27 T We be n1) k0_pay28 (ix2 b d) = E T We be n0 n1 n2 n3 1 b d := by
  unfold k0_pay29 k0_pay26 k0_pay27 k0_pay28 k0_pay25
  pointwise
  rfl
theorem e_2 (b : Fin 512) (d : Fin 64) : k0_pay31 T We be n2 (ix2 b d) = E T We be n0 n1 n2 n3 2 b d := by
  unfold k0_pay31
  pointwise
  rfl
theorem e_3 (b : Fin 512) (d : Fin 64) : k0_pay33 T We be n3 (ix2 b d) = E T We be n0 n1 n2 n3 3 b d := by
  unfold k0_pay33
  pointwise
  rfl
theorem w_0 (b : Fin 512) (d : Fin 64) : k0_pay24 T We be Wf n0 (ix2 b d) = Wt T We be Wf n0 n1 n2 n3 0 b d := by
  unfold k0_pay24
  pointwise
  simp only [e_0 T We be n0 n1 n2 n3]
  rfl
theorem w_1 (b : Fin 512) (d : Fin 64) :
    k0_pay30 Wf (k0_pay26 T We be n1) (k0_pay27 T We be n1) k0_pay28 (ix2 b d) = Wt T We be Wf n0 n1 n2 n3 1 b d := by
  unfold k0_pay30
  pointwise
  simp only [e_1 T We be n0 n1 n2 n3]
  rfl
theorem w_2 (b : Fin 512) (d : Fin 64) : k0_pay32 T We be Wf n2 (ix2 b d) = Wt T We be Wf n0 n1 n2 n3 2 b d := by
  unfold k0_pay32
  pointwise
  simp only [e_2 T We be n0 n1 n2 n3]
  rfl
theorem w_3 (b : Fin 512) (d : Fin 64) : k0_pay34 T We be Wf n3 (ix2 b d) = Wt T We be Wf n0 n1 n2 n3 3 b d := by
  unfold k0_pay34
  pointwise
  simp only [e_3 T We be n0 n1 n2 n3]
  rfl

abbrev X (j : Fin 4) (b : Fin 512) (d : Fin 64) := Spec.x1 (cur2 T) (near4 n0 n1 n2 n3) (cur2 We) (cur1 be) (cur2 Wf) j b d
abbrev One (j : Fin 4) (b : Fin 512) (d : Fin 64) :=
  Spec.one (cur2 T) (near4 n0 n1 n2 n3) (cur2 We) (cur1 be) (cur2 Wo) (cur1 bo) (cur2 Wf) j b d

theorem m_ (b : Fin 512) (d : Fin 64) :
    k0_pay35 T We be Wf n2 n3 (k0_pay24 T We be Wf n0) (k0_pay26 T We be n1) (k0_pay27 T We be n1) k0_pay28 (ix2 b d)
      = Spec.m1 (cur2 T) (near4 n0 n1 n2 n3) (cur2 We) (cur1 be) (cur2 Wf) b d := by
  unfold k0_pay35
  pointwise
  rw [w_0 T We be Wf n0 n1 n2 n3, w_1 T We be Wf n0 n1 n2 n3, w_2 T We be Wf n0 n1 n2 n3, w_3 T We be Wf n0 n1 n2 n3]
  rfl
theorem x_0 (b : Fin 512) (d : Fin 64) :
    k0_pay36 T We be Wf n2 n3 (k0_pay24 T We be Wf n0) (k0_pay26 T We be n1) (k0_pay27 T We be n1) k0_pay28 (ix2 b d) = X T We be Wf n0 n1 n2 n3 0 b d := by
  unfold k0_pay36
  pointwise
  rw [m_, w_0 T We be Wf n0 n1 n2 n3]
  rfl
theorem x_1 (b : Fin 512) (d : Fin 64) :
    k0_pay37 T We be Wf n2 n3 (k0_pay24 T We be Wf n0) (k0_pay26 T We be n1) (k0_pay27 T We be n1) k0_pay28 (ix2 b d) = X T We be Wf n0 n1 n2 n3 1 b d := by
  unfold k0_pay37
  pointwise
  rw [m_, w_1 T We be Wf n0 n1 n2 n3]
  rfl
theorem x_2 (b : Fin 512) (d : Fin 64) :
    k0_pay38 T We be Wf n2 n3 (k0_pay24 T We be Wf n0) (k0_pay26 T We be n1) (k0_pay27 T We be n1) k0_pay28 (ix2 b d) = X T We be Wf n0 n1 n2 n3 2 b d := by
  unfold k0_pay38
  pointwise
  rw [m_, w_2 T We be Wf n0 n1 n2 n3]
  rfl
theorem x_3 (b : Fin 512) (d : Fin 64) :
    k0_pay39 T We be Wf n2 n3 (k0_pay24 T We be Wf n0) (k0_pay26 T We be n1) (k0_pay27 T We be n1) k0_pay28 (ix2 b d) = X T We be Wf n0 n1 n2 n3 3 b d := by
  unfold k0_pay39
  pointwise
  rw [m_, w_3 T We be Wf n0 n1 n2 n3]
  rfl
theorem s_ (b : Fin 512) (d : Fin 64) :
    k0_pay40 T We be Wf n2 n3 (k0_pay24 T We be Wf n0) (k0_pay26 T We be n1) (k0_pay27 T We be n1) k0_pay28 (ix2 b d)
      = Spec.s1 (cur2 T) (near4 n0 n1 n2 n3) (cur2 We) (cur1 be) (cur2 Wf) b d := by
  unfold k0_pay40
  pointwise
  rw [x_0, x_1, x_2, x_3]
  rfl

theorem one_0 (b : Fin 512) (d : Fin 64) :
    k0_pay43 T (k0_pay41 T We be Wo Wf n2 n3 (k0_pay23 T We be n0) (k0_pay24 T We be Wf n0) (k0_pay26 T We be n1) (k0_pay27 T We be n1) k0_pay28) (k0_pay42 bo) (ix2 b d)
      = One T We be Wo bo Wf n0 n1 n2 n3 0 b d := by
  unfold k0_pay43 k0_pay41 k0_pay42
  pointwise
  simp only [e_0 T We be n0 n1 n2 n3, x_0, s_]
  rfl
theorem one_1 (b : Fin 512) (d : Fin 64) :
    k0_pay44 T Wo bo (k0_pay29 (k0_pay26 T We be n1) (k0_pay27 T We be n1) k0_pay28)
        (k0_pay37 T We be Wf n2 n3 (k0_pay24 T We be Wf n0) (k0_pay26 T We be n1) (k0_pay27 T We be n1) k0_pay28)
        (k0_pay40 T We be Wf n2 n3 (k0_pay24 T We be Wf n0) (k0_pay26 T We be n1) (k0_pay27 T We be n1) k0_pay28) (ix2 b d)
      = One T We be Wo bo Wf n0 n1 n2 n3 1 b d := by
  unfold k0_pay44
  pointwise
  simp only [e_1 T We be n0 n1 n2 n3, x_1, s_]
  rfl
theorem one_2 (b : Fin 512) (d : Fin 64) :
    k0_pay45 T Wo bo (k0_pay31 T We be n2)
        (k0_pay38 T We be Wf n2 n3 (k0_pay24 T We be Wf n0) (k0_pay26 T We be n1) (k0_pay27 T We be n1) k0_pay28)
        (k0_pay40 T We be Wf n2 n3 (k0_pay24 T We be Wf n0) (k0_pay26 T We be n1) (k0_pay27 T We be n1) k0_pay28) (ix2 b d)
      = One T We be Wo bo Wf n0 n1 n2 n3 2 b d := by
  unfold k0_pay45
  pointwise
  simp only [e_2 T We be n0 n1 n2 n3, x_2, s_]
  rfl
theorem one_3 (b : Fin 512) (d : Fin 64) :
    k0_pay46 T Wo bo (k0_pay33 T We be n3)
        (k0_pay39 T We be Wf n2 n3 (k0_pay24 T We be Wf n0) (k0_pay26 T We be n1) (k0_pay27 T We be n1) k0_pay28)
        (k0_pay40 T We be Wf n2 n3 (k0_pay24 T We be Wf n0) (k0_pay26 T We be n1) (k0_pay27 T We be n1) k0_pay28) (ix2 b d)
      = One T We be Wo bo Wf n0 n1 n2 n3 3 b d := by
  unfold k0_pay46
  pointwise
  simp only [e_3 T We be n0 n1 n2 n3, x_3, s_]
  rfl

end pays

end Cert.OneValue

end

end
-- ==== Proof.TwoTree.lean ====
/- The trees of halves of the second call: a level adds, or takes the greater of, an array's two halves; eight levels
   give the sum, or the greatest, of 256 rows. -/
module

public import proofs.«01_k».proof.Proof.OneValue

@[expose] public section

set_option maxRecDepth 16384

noncomputable section

namespace Cert.TwoTree

open Idealize.ShloMosaic
open Cert.KernelIdeal Cert.KernelIdeal.Gen

theorem sum_half (h : ℕ) (f : Fin (h + h) → EReal) : ∑ s : Fin h, (f (Fin.castAdd h s) + f (Fin.natAdd h s)) = ∑ s, f s := by
  rw [Fin.sum_univ_add, Finset.sum_add_distrib]

theorem sup_half (h : ℕ) (f : Fin (h + h) → EReal) :
    (Finset.univ.sup fun s : Fin h => max (f (Fin.castAdd h s)) (f (Fin.natAdd h s))) = Finset.univ.sup f := by
  refine le_antisymm (Finset.sup_le fun s _ => max_le (Finset.le_sup (f := f) (Finset.mem_univ _)) (Finset.le_sup (f := f) (Finset.mem_univ _)))
    (Finset.sup_le fun s _ => ?_)
  refine Fin.addCases (fun i => ?_) (fun i => ?_) s
  · exact (le_max_left _ _).trans (Finset.le_sup (f := fun s : Fin h => max (f (Fin.castAdd h s)) (f (Fin.natAdd h s))) (Finset.mem_univ i))
  · exact (le_max_right _ _).trans (Finset.le_sup (f := fun s : Fin h => max (f (Fin.castAdd h s)) (f (Fin.natAdd h s))) (Finset.mem_univ i))

def add128 (X : FVec Ideal S32x256x64 .f32) : FVec Ideal S32x128x64 .f32 :=
  addf (extractStridedSlice S32x128x64 ![0, 0, 0] X slices_S32x256x64_o0_0_0_S32x128x64) (extractStridedSlice S32x128x64 ![0, 128, 0] X slices_S32x256x64_o0_128_0_S32x128x64)

theorem add128_read (X : FVec Ideal S32x256x64 .f32) (r : Fin 32) (s : Fin 128) (d : Fin 64) :
    (add128 X (ix3 r s d) : EReal) = (X (ix3 r (Fin.castAdd 128 s : Fin 256) d) : EReal) + X (ix3 r (Fin.natAdd 128 s : Fin 256) d) := by
  have e0 : extractStridedSlice S32x128x64 ![0, 0, 0] X slices_S32x256x64_o0_0_0_S32x128x64 (ix3 r s d) = X (ix3 r (Fin.castAdd 128 s : Fin 256) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x128x64 ![0, 128, 0] X slices_S32x256x64_o0_128_0_S32x128x64 (ix3 r s d) = X (ix3 r (Fin.natAdd 128 s : Fin 256) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big128 (X : FVec Ideal S32x256x64 .f32) : FVec Ideal S32x128x64 .f32 :=
  maximumf (extractStridedSlice S32x128x64 ![0, 0, 0] X slices_S32x256x64_o0_0_0_S32x128x64) (extractStridedSlice S32x128x64 ![0, 128, 0] X slices_S32x256x64_o0_128_0_S32x128x64)

theorem big128_read (X : FVec Ideal S32x256x64 .f32) (r : Fin 32) (s : Fin 128) (d : Fin 64) :
    (big128 X (ix3 r s d) : EReal) = max (X (ix3 r (Fin.castAdd 128 s : Fin 256) d) : EReal) (X (ix3 r (Fin.natAdd 128 s : Fin 256) d)) := by
  have e0 : extractStridedSlice S32x128x64 ![0, 0, 0] X slices_S32x256x64_o0_0_0_S32x128x64 (ix3 r s d) = X (ix3 r (Fin.castAdd 128 s : Fin 256) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x128x64 ![0, 128, 0] X slices_S32x256x64_o0_128_0_S32x128x64 (ix3 r s d) = X (ix3 r (Fin.natAdd 128 s : Fin 256) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add64 (X : FVec Ideal S32x128x64 .f32) : FVec Ideal S32x64x64 .f32 :=
  addf (extractStridedSlice S32x64x64 ![0, 0, 0] X slices_S32x128x64_o0_0_0_S32x64x64) (extractStridedSlice S32x64x64 ![0, 64, 0] X slices_S32x128x64_o0_64_0_S32x64x64)

theorem add64_read (X : FVec Ideal S32x128x64 .f32) (r : Fin 32) (s : Fin 64) (d : Fin 64) :
    (add64 X (ix3 r s d) : EReal) = (X (ix3 r (Fin.castAdd 64 s : Fin 128) d) : EReal) + X (ix3 r (Fin.natAdd 64 s : Fin 128) d) := by
  have e0 : extractStridedSlice S32x64x64 ![0, 0, 0] X slices_S32x128x64_o0_0_0_S32x64x64 (ix3 r s d) = X (ix3 r (Fin.castAdd 64 s : Fin 128) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x64x64 ![0, 64, 0] X slices_S32x128x64_o0_64_0_S32x64x64 (ix3 r s d) = X (ix3 r (Fin.natAdd 64 s : Fin 128) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big64 (X : FVec Ideal S32x128x64 .f32) : FVec Ideal S32x64x64 .f32 :=
  maximumf (extractStridedSlice S32x64x64 ![0, 0, 0] X slices_S32x128x64_o0_0_0_S32x64x64) (extractStridedSlice S32x64x64 ![0, 64, 0] X slices_S32x128x64_o0_64_0_S32x64x64)

theorem big64_read (X : FVec Ideal S32x128x64 .f32) (r : Fin 32) (s : Fin 64) (d : Fin 64) :
    (big64 X (ix3 r s d) : EReal) = max (X (ix3 r (Fin.castAdd 64 s : Fin 128) d) : EReal) (X (ix3 r (Fin.natAdd 64 s : Fin 128) d)) := by
  have e0 : extractStridedSlice S32x64x64 ![0, 0, 0] X slices_S32x128x64_o0_0_0_S32x64x64 (ix3 r s d) = X (ix3 r (Fin.castAdd 64 s : Fin 128) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x64x64 ![0, 64, 0] X slices_S32x128x64_o0_64_0_S32x64x64 (ix3 r s d) = X (ix3 r (Fin.natAdd 64 s : Fin 128) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add32 (X : FVec Ideal S32x64x64 .f32) : FVec Ideal S32x32x64 .f32 :=
  addf (extractStridedSlice S32x32x64 ![0, 0, 0] X slices_S32x64x64_o0_0_0_S32x32x64) (extractStridedSlice S32x32x64 ![0, 32, 0] X slices_S32x64x64_o0_32_0_S32x32x64)

theorem add32_read (X : FVec Ideal S32x64x64 .f32) (r : Fin 32) (s : Fin 32) (d : Fin 64) :
    (add32 X (ix3 r s d) : EReal) = (X (ix3 r (Fin.castAdd 32 s : Fin 64) d) : EReal) + X (ix3 r (Fin.natAdd 32 s : Fin 64) d) := by
  have e0 : extractStridedSlice S32x32x64 ![0, 0, 0] X slices_S32x64x64_o0_0_0_S32x32x64 (ix3 r s d) = X (ix3 r (Fin.castAdd 32 s : Fin 64) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x32x64 ![0, 32, 0] X slices_S32x64x64_o0_32_0_S32x32x64 (ix3 r s d) = X (ix3 r (Fin.natAdd 32 s : Fin 64) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big32 (X : FVec Ideal S32x64x64 .f32) : FVec Ideal S32x32x64 .f32 :=
  maximumf (extractStridedSlice S32x32x64 ![0, 0, 0] X slices_S32x64x64_o0_0_0_S32x32x64) (extractStridedSlice S32x32x64 ![0, 32, 0] X slices_S32x64x64_o0_32_0_S32x32x64)

theorem big32_read (X : FVec Ideal S32x64x64 .f32) (r : Fin 32) (s : Fin 32) (d : Fin 64) :
    (big32 X (ix3 r s d) : EReal) = max (X (ix3 r (Fin.castAdd 32 s : Fin 64) d) : EReal) (X (ix3 r (Fin.natAdd 32 s : Fin 64) d)) := by
  have e0 : extractStridedSlice S32x32x64 ![0, 0, 0] X slices_S32x64x64_o0_0_0_S32x32x64 (ix3 r s d) = X (ix3 r (Fin.castAdd 32 s : Fin 64) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x32x64 ![0, 32, 0] X slices_S32x64x64_o0_32_0_S32x32x64 (ix3 r s d) = X (ix3 r (Fin.natAdd 32 s : Fin 64) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add16 (X : FVec Ideal S32x32x64 .f32) : FVec Ideal S32x16x64 .f32 :=
  addf (extractStridedSlice S32x16x64 ![0, 0, 0] X slices_S32x32x64_o0_0_0_S32x16x64) (extractStridedSlice S32x16x64 ![0, 16, 0] X slices_S32x32x64_o0_16_0_S32x16x64)

theorem add16_read (X : FVec Ideal S32x32x64 .f32) (r : Fin 32) (s : Fin 16) (d : Fin 64) :
    (add16 X (ix3 r s d) : EReal) = (X (ix3 r (Fin.castAdd 16 s : Fin 32) d) : EReal) + X (ix3 r (Fin.natAdd 16 s : Fin 32) d) := by
  have e0 : extractStridedSlice S32x16x64 ![0, 0, 0] X slices_S32x32x64_o0_0_0_S32x16x64 (ix3 r s d) = X (ix3 r (Fin.castAdd 16 s : Fin 32) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x16x64 ![0, 16, 0] X slices_S32x32x64_o0_16_0_S32x16x64 (ix3 r s d) = X (ix3 r (Fin.natAdd 16 s : Fin 32) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big16 (X : FVec Ideal S32x32x64 .f32) : FVec Ideal S32x16x64 .f32 :=
  maximumf (extractStridedSlice S32x16x64 ![0, 0, 0] X slices_S32x32x64_o0_0_0_S32x16x64) (extractStridedSlice S32x16x64 ![0, 16, 0] X slices_S32x32x64_o0_16_0_S32x16x64)

theorem big16_read (X : FVec Ideal S32x32x64 .f32) (r : Fin 32) (s : Fin 16) (d : Fin 64) :
    (big16 X (ix3 r s d) : EReal) = max (X (ix3 r (Fin.castAdd 16 s : Fin 32) d) : EReal) (X (ix3 r (Fin.natAdd 16 s : Fin 32) d)) := by
  have e0 : extractStridedSlice S32x16x64 ![0, 0, 0] X slices_S32x32x64_o0_0_0_S32x16x64 (ix3 r s d) = X (ix3 r (Fin.castAdd 16 s : Fin 32) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x16x64 ![0, 16, 0] X slices_S32x32x64_o0_16_0_S32x16x64 (ix3 r s d) = X (ix3 r (Fin.natAdd 16 s : Fin 32) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add8 (X : FVec Ideal S32x16x64 .f32) : FVec Ideal S32x8x64 .f32 :=
  addf (extractStridedSlice S32x8x64 ![0, 0, 0] X slices_S32x16x64_o0_0_0_S32x8x64) (extractStridedSlice S32x8x64 ![0, 8, 0] X slices_S32x16x64_o0_8_0_S32x8x64)

theorem add8_read (X : FVec Ideal S32x16x64 .f32) (r : Fin 32) (s : Fin 8) (d : Fin 64) :
    (add8 X (ix3 r s d) : EReal) = (X (ix3 r (Fin.castAdd 8 s : Fin 16) d) : EReal) + X (ix3 r (Fin.natAdd 8 s : Fin 16) d) := by
  have e0 : extractStridedSlice S32x8x64 ![0, 0, 0] X slices_S32x16x64_o0_0_0_S32x8x64 (ix3 r s d) = X (ix3 r (Fin.castAdd 8 s : Fin 16) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x8x64 ![0, 8, 0] X slices_S32x16x64_o0_8_0_S32x8x64 (ix3 r s d) = X (ix3 r (Fin.natAdd 8 s : Fin 16) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big8 (X : FVec Ideal S32x16x64 .f32) : FVec Ideal S32x8x64 .f32 :=
  maximumf (extractStridedSlice S32x8x64 ![0, 0, 0] X slices_S32x16x64_o0_0_0_S32x8x64) (extractStridedSlice S32x8x64 ![0, 8, 0] X slices_S32x16x64_o0_8_0_S32x8x64)

theorem big8_read (X : FVec Ideal S32x16x64 .f32) (r : Fin 32) (s : Fin 8) (d : Fin 64) :
    (big8 X (ix3 r s d) : EReal) = max (X (ix3 r (Fin.castAdd 8 s : Fin 16) d) : EReal) (X (ix3 r (Fin.natAdd 8 s : Fin 16) d)) := by
  have e0 : extractStridedSlice S32x8x64 ![0, 0, 0] X slices_S32x16x64_o0_0_0_S32x8x64 (ix3 r s d) = X (ix3 r (Fin.castAdd 8 s : Fin 16) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x8x64 ![0, 8, 0] X slices_S32x16x64_o0_8_0_S32x8x64 (ix3 r s d) = X (ix3 r (Fin.natAdd 8 s : Fin 16) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add4 (X : FVec Ideal S32x8x64 .f32) : FVec Ideal S32x4x64 .f32 :=
  addf (extractStridedSlice S32x4x64 ![0, 0, 0] X slices_S32x8x64_o0_0_0_S32x4x64) (extractStridedSlice S32x4x64 ![0, 4, 0] X slices_S32x8x64_o0_4_0_S32x4x64)

theorem add4_read (X : FVec Ideal S32x8x64 .f32) (r : Fin 32) (s : Fin 4) (d : Fin 64) :
    (add4 X (ix3 r s d) : EReal) = (X (ix3 r (Fin.castAdd 4 s : Fin 8) d) : EReal) + X (ix3 r (Fin.natAdd 4 s : Fin 8) d) := by
  have e0 : extractStridedSlice S32x4x64 ![0, 0, 0] X slices_S32x8x64_o0_0_0_S32x4x64 (ix3 r s d) = X (ix3 r (Fin.castAdd 4 s : Fin 8) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x4x64 ![0, 4, 0] X slices_S32x8x64_o0_4_0_S32x4x64 (ix3 r s d) = X (ix3 r (Fin.natAdd 4 s : Fin 8) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big4 (X : FVec Ideal S32x8x64 .f32) : FVec Ideal S32x4x64 .f32 :=
  maximumf (extractStridedSlice S32x4x64 ![0, 0, 0] X slices_S32x8x64_o0_0_0_S32x4x64) (extractStridedSlice S32x4x64 ![0, 4, 0] X slices_S32x8x64_o0_4_0_S32x4x64)

theorem big4_read (X : FVec Ideal S32x8x64 .f32) (r : Fin 32) (s : Fin 4) (d : Fin 64) :
    (big4 X (ix3 r s d) : EReal) = max (X (ix3 r (Fin.castAdd 4 s : Fin 8) d) : EReal) (X (ix3 r (Fin.natAdd 4 s : Fin 8) d)) := by
  have e0 : extractStridedSlice S32x4x64 ![0, 0, 0] X slices_S32x8x64_o0_0_0_S32x4x64 (ix3 r s d) = X (ix3 r (Fin.castAdd 4 s : Fin 8) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x4x64 ![0, 4, 0] X slices_S32x8x64_o0_4_0_S32x4x64 (ix3 r s d) = X (ix3 r (Fin.natAdd 4 s : Fin 8) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add2 (X : FVec Ideal S32x4x64 .f32) : FVec Ideal S32x2x64 .f32 :=
  addf (extractStridedSlice S32x2x64 ![0, 0, 0] X slices_S32x4x64_o0_0_0_S32x2x64) (extractStridedSlice S32x2x64 ![0, 2, 0] X slices_S32x4x64_o0_2_0_S32x2x64)

theorem add2_read (X : FVec Ideal S32x4x64 .f32) (r : Fin 32) (s : Fin 2) (d : Fin 64) :
    (add2 X (ix3 r s d) : EReal) = (X (ix3 r (Fin.castAdd 2 s : Fin 4) d) : EReal) + X (ix3 r (Fin.natAdd 2 s : Fin 4) d) := by
  have e0 : extractStridedSlice S32x2x64 ![0, 0, 0] X slices_S32x4x64_o0_0_0_S32x2x64 (ix3 r s d) = X (ix3 r (Fin.castAdd 2 s : Fin 4) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x2x64 ![0, 2, 0] X slices_S32x4x64_o0_2_0_S32x2x64 (ix3 r s d) = X (ix3 r (Fin.natAdd 2 s : Fin 4) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big2 (X : FVec Ideal S32x4x64 .f32) : FVec Ideal S32x2x64 .f32 :=
  maximumf (extractStridedSlice S32x2x64 ![0, 0, 0] X slices_S32x4x64_o0_0_0_S32x2x64) (extractStridedSlice S32x2x64 ![0, 2, 0] X slices_S32x4x64_o0_2_0_S32x2x64)

theorem big2_read (X : FVec Ideal S32x4x64 .f32) (r : Fin 32) (s : Fin 2) (d : Fin 64) :
    (big2 X (ix3 r s d) : EReal) = max (X (ix3 r (Fin.castAdd 2 s : Fin 4) d) : EReal) (X (ix3 r (Fin.natAdd 2 s : Fin 4) d)) := by
  have e0 : extractStridedSlice S32x2x64 ![0, 0, 0] X slices_S32x4x64_o0_0_0_S32x2x64 (ix3 r s d) = X (ix3 r (Fin.castAdd 2 s : Fin 4) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x2x64 ![0, 2, 0] X slices_S32x4x64_o0_2_0_S32x2x64 (ix3 r s d) = X (ix3 r (Fin.natAdd 2 s : Fin 4) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def add1 (X : FVec Ideal S32x2x64 .f32) : FVec Ideal S32x1x64 .f32 :=
  addf (extractStridedSlice S32x1x64 ![0, 0, 0] X slices_S32x2x64_o0_0_0_S32x1x64) (extractStridedSlice S32x1x64 ![0, 1, 0] X slices_S32x2x64_o0_1_0_S32x1x64)

theorem add1_read (X : FVec Ideal S32x2x64 .f32) (r : Fin 32) (s : Fin 1) (d : Fin 64) :
    (add1 X (ix3 r s d) : EReal) = (X (ix3 r (Fin.castAdd 1 s : Fin 2) d) : EReal) + X (ix3 r (Fin.natAdd 1 s : Fin 2) d) := by
  have e0 : extractStridedSlice S32x1x64 ![0, 0, 0] X slices_S32x2x64_o0_0_0_S32x1x64 (ix3 r s d) = X (ix3 r (Fin.castAdd 1 s : Fin 2) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x1x64 ![0, 1, 0] X slices_S32x2x64_o0_1_0_S32x1x64 (ix3 r s d) = X (ix3 r (Fin.natAdd 1 s : Fin 2) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

def big1 (X : FVec Ideal S32x2x64 .f32) : FVec Ideal S32x1x64 .f32 :=
  maximumf (extractStridedSlice S32x1x64 ![0, 0, 0] X slices_S32x2x64_o0_0_0_S32x1x64) (extractStridedSlice S32x1x64 ![0, 1, 0] X slices_S32x2x64_o0_1_0_S32x1x64)

theorem big1_read (X : FVec Ideal S32x2x64 .f32) (r : Fin 32) (s : Fin 1) (d : Fin 64) :
    (big1 X (ix3 r s d) : EReal) = max (X (ix3 r (Fin.castAdd 1 s : Fin 2) d) : EReal) (X (ix3 r (Fin.natAdd 1 s : Fin 2) d)) := by
  have e0 : extractStridedSlice S32x1x64 ![0, 0, 0] X slices_S32x2x64_o0_0_0_S32x1x64 (ix3 r s d) = X (ix3 r (Fin.castAdd 1 s : Fin 2) d) := by
    refine congrArg X (funext fun a => Fin.ext ?_)
    match a with
    | ⟨0, _⟩ => exact Nat.zero_add _
    | ⟨1, _⟩ => exact Nat.zero_add _
    | ⟨2, _⟩ => exact Nat.zero_add _
  have e1 : extractStridedSlice S32x1x64 ![0, 1, 0] X slices_S32x2x64_o0_1_0_S32x1x64 (ix3 r s d) = X (ix3 r (Fin.natAdd 1 s : Fin 2) d) := by
    refine congrArg X (funext fun a => Fin.ext ?_)
    match a with
    | ⟨0, _⟩ => exact Nat.zero_add _
    | ⟨1, _⟩ => rfl
    | ⟨2, _⟩ => exact Nat.zero_add _
  rw [← e0, ← e1]
  rfl

/-- The sum of 256 rows. -/
def addAll (X : FVec Ideal S32x256x64 .f32) : FVec Ideal S32x1x64 .f32 := add1 (add2 (add4 (add8 (add16 (add32 (add64 (add128 X)))))))

/-- The greatest of 256 rows. -/
def bigAll (X : FVec Ideal S32x256x64 .f32) : FVec Ideal S32x1x64 .f32 := big1 (big2 (big4 (big8 (big16 (big32 (big64 (big128 X)))))))

theorem addAll_read (X : FVec Ideal S32x256x64 .f32) (r : Fin 32) (d : Fin 64) :
    (addAll X (ix3 r (0 : Fin 1) d) : EReal) = ∑ s : Fin 256, (X (ix3 r s d) : EReal) := by
  have e128 : ∑ s : Fin 128, (add128 X (ix3 r s d) : EReal) = ∑ s : Fin 256, (X (ix3 r s d) : EReal) := by
    simp only [add128_read]
    exact sum_half 128 fun s => X (ix3 r s d)
  have e64 : ∑ s : Fin 64, (add64 (add128 X) (ix3 r s d) : EReal) = ∑ s : Fin 128, (add128 X (ix3 r s d) : EReal) := by
    simp only [add64_read]
    exact sum_half 64 fun s => add128 X (ix3 r s d)
  have e32 : ∑ s : Fin 32, (add32 (add64 (add128 X)) (ix3 r s d) : EReal) = ∑ s : Fin 64, (add64 (add128 X) (ix3 r s d) : EReal) := by
    simp only [add32_read]
    exact sum_half 32 fun s => add64 (add128 X) (ix3 r s d)
  have e16 : ∑ s : Fin 16, (add16 (add32 (add64 (add128 X))) (ix3 r s d) : EReal) = ∑ s : Fin 32, (add32 (add64 (add128 X)) (ix3 r s d) : EReal) := by
    simp only [add16_read]
    exact sum_half 16 fun s => add32 (add64 (add128 X)) (ix3 r s d)
  have e8 : ∑ s : Fin 8, (add8 (add16 (add32 (add64 (add128 X)))) (ix3 r s d) : EReal) = ∑ s : Fin 16, (add16 (add32 (add64 (add128 X))) (ix3 r s d) : EReal) := by
    simp only [add8_read]
    exact sum_half 8 fun s => add16 (add32 (add64 (add128 X))) (ix3 r s d)
  have e4 : ∑ s : Fin 4, (add4 (add8 (add16 (add32 (add64 (add128 X))))) (ix3 r s d) : EReal) = ∑ s : Fin 8, (add8 (add16 (add32 (add64 (add128 X)))) (ix3 r s d) : EReal) := by
    simp only [add4_read]
    exact sum_half 4 fun s => add8 (add16 (add32 (add64 (add128 X)))) (ix3 r s d)
  have e2 : ∑ s : Fin 2, (add2 (add4 (add8 (add16 (add32 (add64 (add128 X)))))) (ix3 r s d) : EReal) = ∑ s : Fin 4, (add4 (add8 (add16 (add32 (add64 (add128 X))))) (ix3 r s d) : EReal) := by
    simp only [add2_read]
    exact sum_half 2 fun s => add4 (add8 (add16 (add32 (add64 (add128 X))))) (ix3 r s d)
  have e1 : ∑ s : Fin 1, (add1 (add2 (add4 (add8 (add16 (add32 (add64 (add128 X))))))) (ix3 r s d) : EReal) = ∑ s : Fin 2, (add2 (add4 (add8 (add16 (add32 (add64 (add128 X)))))) (ix3 r s d) : EReal) := by
    simp only [add1_read]
    exact sum_half 1 fun s => add2 (add4 (add8 (add16 (add32 (add64 (add128 X)))))) (ix3 r s d)
  refine (Fin.sum_univ_one (fun s : Fin 1 => (addAll X (ix3 r s d) : EReal))).symm.trans ?_
  unfold addAll
  rw [e1, e2, e4, e8, e16, e32, e64, e128]

theorem bigAll_read (X : FVec Ideal S32x256x64 .f32) (r : Fin 32) (d : Fin 64) :
    (bigAll X (ix3 r (0 : Fin 1) d) : EReal) = Finset.univ.sup fun s : Fin 256 => (X (ix3 r s d) : EReal) := by
  have e128 : (Finset.univ.sup fun s : Fin 128 => (big128 X (ix3 r s d) : EReal)) = Finset.univ.sup fun s : Fin 256 => (X (ix3 r s d) : EReal) := by
    simp only [big128_read]
    exact sup_half 128 fun s => X (ix3 r s d)
  have e64 : (Finset.univ.sup fun s : Fin 64 => (big64 (big128 X) (ix3 r s d) : EReal)) = Finset.univ.sup fun s : Fin 128 => (big128 X (ix3 r s d) : EReal) := by
    simp only [big64_read]
    exact sup_half 64 fun s => big128 X (ix3 r s d)
  have e32 : (Finset.univ.sup fun s : Fin 32 => (big32 (big64 (big128 X)) (ix3 r s d) : EReal)) = Finset.univ.sup fun s : Fin 64 => (big64 (big128 X) (ix3 r s d) : EReal) := by
    simp only [big32_read]
    exact sup_half 32 fun s => big64 (big128 X) (ix3 r s d)
  have e16 : (Finset.univ.sup fun s : Fin 16 => (big16 (big32 (big64 (big128 X))) (ix3 r s d) : EReal)) = Finset.univ.sup fun s : Fin 32 => (big32 (big64 (big128 X)) (ix3 r s d) : EReal) := by
    simp only [big16_read]
    exact sup_half 16 fun s => big32 (big64 (big128 X)) (ix3 r s d)
  have e8 : (Finset.univ.sup fun s : Fin 8 => (big8 (big16 (big32 (big64 (big128 X)))) (ix3 r s d) : EReal)) = Finset.univ.sup fun s : Fin 16 => (big16 (big32 (big64 (big128 X))) (ix3 r s d) : EReal) := by
    simp only [big8_read]
    exact sup_half 8 fun s => big16 (big32 (big64 (big128 X))) (ix3 r s d)
  have e4 : (Finset.univ.sup fun s : Fin 4 => (big4 (big8 (big16 (big32 (big64 (big128 X))))) (ix3 r s d) : EReal)) = Finset.univ.sup fun s : Fin 8 => (big8 (big16 (big32 (big64 (big128 X)))) (ix3 r s d) : EReal) := by
    simp only [big4_read]
    exact sup_half 4 fun s => big8 (big16 (big32 (big64 (big128 X)))) (ix3 r s d)
  have e2 : (Finset.univ.sup fun s : Fin 2 => (big2 (big4 (big8 (big16 (big32 (big64 (big128 X)))))) (ix3 r s d) : EReal)) = Finset.univ.sup fun s : Fin 4 => (big4 (big8 (big16 (big32 (big64 (big128 X))))) (ix3 r s d) : EReal) := by
    simp only [big2_read]
    exact sup_half 2 fun s => big4 (big8 (big16 (big32 (big64 (big128 X))))) (ix3 r s d)
  have e1 : (Finset.univ.sup fun s : Fin 1 => (big1 (big2 (big4 (big8 (big16 (big32 (big64 (big128 X))))))) (ix3 r s d) : EReal)) = Finset.univ.sup fun s : Fin 2 => (big2 (big4 (big8 (big16 (big32 (big64 (big128 X)))))) (ix3 r s d) : EReal) := by
    simp only [big1_read]
    exact sup_half 1 fun s => big2 (big4 (big8 (big16 (big32 (big64 (big128 X)))))) (ix3 r s d)
  refine (show (bigAll X (ix3 r (0 : Fin 1) d) : EReal) = Finset.univ.sup fun s : Fin 1 => (bigAll X (ix3 r s d) : EReal) by simp).trans ?_
  unfold bigAll
  rw [e1, e2, e4, e8, e16, e32, e64, e128]

end Cert.TwoTree

end

end
-- ==== Proof.Algebra.lean ====
/- The second result's two forms agree, of real numbers everywhere but the last bias. -/
module

public import proofs.«01_k».proof.Proof.Finite

@[expose] public section

noncomputable section

namespace Cert.Algebra

open Idealize.ShloMosaic Cert.Finite

/-- A bank's row projected, its bias added, less the projected first result, is the projected difference with the bias. -/
theorem project_sub {n : ℕ} {P o W : Fin n → EReal} {be : EReal} (hP : ∀ k, IsReal (P k)) (ho : ∀ k, IsReal (o k)) (hW : ∀ k, IsReal (W k))
    (hb : IsReal be) : (∑ k, P k * W k + be) - ∑ k, o k * W k = ∑ k, (P k - o k) * W k + be := by
  choose p hp using hP
  choose q hq using ho
  choose w hw using hW
  obtain ⟨c, rfl⟩ := hb
  simp only [hp, hq, hw, ← EReal.coe_mul, ← EReal.coe_sub, sum_coe, ← EReal.coe_add]
  congr 1
  simp only [sub_mul, Finset.sum_sub_distrib]
  ring

theorem project_add {n : ℕ} {p o W : Fin n → EReal} (bo : EReal) (hp : ∀ k, IsReal (p k)) (ho : ∀ k, IsReal (o k)) (hW : ∀ k, IsReal (W k)) :
    ∑ k, (o k + p k) * W k + bo = ∑ k, p k * W k + (∑ k, o k * W k + bo) := by
  rw [← add_assoc]
  congr 1
  choose a ha using hp
  choose q hq using ho
  choose w hw using hW
  simp only [ha, hq, hw, ← EReal.coe_mul, sum_coe, ← EReal.coe_add]
  congr 1
  simp only [add_mul, Finset.sum_add_distrib]
  ring

theorem scaled_sum (t : Fin 256 → EReal) (o : EReal) (ht : ∀ s, IsReal (t s)) (ho : IsReal o) :
    ∑ s, (1 + t s) * o = o * (Ideal.ofBits FTy.f32 1132462080#32 + ∑ s, t s) := by
  choose a ha using ht
  obtain ⟨r, rfl⟩ := ho
  have one : (1 : EReal) = ((1 : ℝ) : EReal) := rfl
  simp only [ha, word_256, one, ← EReal.coe_mul, sum_coe, ← EReal.coe_add]
  congr 1
  rw [← Finset.sum_mul, Finset.sum_add_distrib]
  simp
  ring

section

variable {x : Fin 256 → Fin 64 → EReal} {Wf : Fin 64 → Fin 64 → EReal} (hx : ∀ s d, IsReal (x s d)) (hW : ∀ k d, IsReal (Wf k d))

include hx in
theorem e2_real (s : Fin 256) (d : Fin 64) : IsReal (Spec.e2 x s d) := (hx s d).gelu

include hx hW in
theorem w2_real (s : Fin 256) (d : Fin 64) : IsReal (Spec.w2 x Wf s d) := IsReal.sum fun k => (e2_real hx s k).mul (hW k d)

theorem exists_sup (f : Fin 256 → EReal) : ∃ s, Finset.univ.sup f = f s := by
  obtain ⟨s, _, h⟩ := Finset.exists_mem_eq_sup Finset.univ ⟨0, Finset.mem_univ _⟩ f
  exact ⟨s, h⟩

include hx hW in
/-- The exponentials are positive reals, and so is their sum. -/
theorem x2_pos (d : Fin 64) : (∃ r : Fin 256 → ℝ, (∀ s, Spec.x2 x Wf s d = (r s : EReal)) ∧ ∀ s, 0 < r s) := by
  obtain ⟨s0, h0⟩ := exists_sup fun s => Spec.w2 x Wf s d
  obtain ⟨m, hm⟩ := w2_real hx hW s0 d
  have hw := fun s => w2_real hx hW s d
  choose w hw using hw
  refine ⟨fun s => Real.exp (w s - m), fun s => ?_, fun s => Real.exp_pos _⟩
  unfold Spec.x2 Spec.m2
  rw [h0, hm, hw, ← EReal.coe_sub]
  rfl

include hx hW in
theorem sum_pos (d : Fin 64) : ∃ r : ℝ, r ≠ 0 ∧ ∑ t, Spec.x2 x Wf t d = (r : EReal) := by
  obtain ⟨r, h, hr⟩ := x2_pos hx hW d
  refine ⟨∑ s, r s, (Finset.sum_pos (fun s _ => hr s) ⟨0, Finset.mem_univ _⟩).ne', ?_⟩
  simp only [h, sum_coe]

include hx hW in
theorem p2_eq (s : Fin 256) (d : Fin 64) :
    (Spec.e2 x s d * Spec.x2 x Wf s d) * Ideal.div 1 (∑ t, Spec.x2 x Wf t d) = Spec.p2 x Wf s d := by
  obtain ⟨r, h0, h⟩ := sum_pos hx hW d
  unfold Spec.p2
  rw [h, Ideal.div_coe h0, Ideal.div_coe h0, one_mul, mul_assoc]

include hx hW in
theorem p2_real (s : Fin 256) (d : Fin 64) : IsReal (Spec.p2 x Wf s d) := by
  obtain ⟨r, h0, h⟩ := sum_pos hx hW d
  obtain ⟨q, hq, -⟩ := x2_pos hx hW d
  unfold Spec.p2
  rw [h, Ideal.div_coe h0, hq]
  exact (e2_real hx s d).mul ((isReal_coe _).mul (isReal_coe _))

include hx hW in
theorem two_eq {o : Fin 64 → EReal} {Wo : Fin 64 → Fin 64 → EReal} (bo : Fin 64 → EReal) (ho : ∀ k, IsReal (o k)) (hWo : ∀ k d, IsReal (Wo k d))
    (d : Fin 64) :
    ∑ s, (1 + Ideal.tanh (∑ k, (o k + Spec.p2 x Wf s k) * Wo k d + bo d)) * o d = Spec.two x o Wo bo Wf d := by
  unfold Spec.two Spec.off
  rw [scaled_sum _ _ (fun s => isReal_tanh _) (ho d)]
  simp only [project_add (bo d) (fun k => p2_real hx hW _ k) ho (fun k => hWo k d)]

end

end Cert.Algebra

end

end
-- ==== Proof.TwoValue.lean ====
/- The second call's trip: what its payload computes of 32 rows and their pages, entry by entry. -/
module

public import proofs.«01_k».proof.Proof.TwoTree
public import proofs.«01_k».proof.Proof.Algebra

@[expose] public section

set_option maxRecDepth 16384

noncomputable section

namespace Cert.TwoValue

open Idealize.ShloMosaic Cert.TwoTree Cert.Finite
open Cert.KernelIdeal Cert.KernelIdeal.Gen

/-- Row `s` of page `r`, among the rows of 32 pages. -/
def row (r : Fin 32) (s : Fin 256) : Fin 8192 := ⟨r.val * 256 + s.val, by omega⟩

theorem row_div (r : Fin 32) (s : Fin 256) (h : (row r s).val / 256 < 32) : (⟨(row r s).val / 256, h⟩ : Fin 32) = r :=
  Fin.ext (by show (r.val * 256 + s.val) / 256 = r.val; omega)
theorem row_mod (r : Fin 32) (s : Fin 256) (h : (row r s).val % 256 < 256) : (⟨(row r s).val % 256, h⟩ : Fin 256) = s :=
  Fin.ext (by show (r.val * 256 + s.val) % 256 = s.val; omega)

variable (v1 v4 : FVec Ideal S64x64 .f32) (v3 : FVec Ideal S1x64 .f32) (v218 v219 : FVec Ideal S32x64 .f32) (v220 : FVec Ideal S32x256x64 .f32)

abbrev cur (x : FVec Ideal S64x64 .f32) (k d : Fin 64) : EReal := x (ix2 k d)
abbrev curRow (x : FVec Ideal S32x64 .f32) (r : Fin 32) (d : Fin 64) : EReal := x (ix2 r d)
abbrev curBias (x : FVec Ideal S1x64 .f32) (d : Fin 64) : EReal := x (ix2 (0 : Fin 1) d)

/-- The projected pages less the projected row. -/
def diff (r : Fin 32) (s : Fin 256) (d : Fin 64) : EReal := (v220 (ix3 r s d) : EReal) - v219 (ix2 r d)

theorem pay13_read (r : Fin 32) (s : Fin 256) (d : Fin 64) :
    (k1_pay13 v219 v220 (ix2 (row r s) d) : EReal) = Spec.e2 (diff v219 v220 r) s d := by
  unfold k1_pay13
  pointwise
  simp only [row_div, row_mod]
  rfl

/-- The softmax's weights before their greatest is taken off. -/
def scores (X : FVec Ideal S8192x64 .f32) : FVec Ideal S32x256x64 .f32 :=
  shapeCast S32x256x64 (matmul dot_S8192x64_S64x64_S8192x64_1_0_0_1_n_n none X v4 (constant S8192x64 .f32 0x00000000#32)) shapeCasts_S8192x64_S32x256x64

theorem scores_read (X : FVec Ideal S8192x64 .f32) (r : Fin 32) (s : Fin 256) (d : Fin 64) :
    (scores v4 X (ix3 r s d) : EReal) = ∑ k, (X (ix2 (row r s) k) : EReal) * v4 (ix2 k d) := by
  unfold scores
  pointwise
  rfl

/-- The exponentials of an array less its greatest row. -/
def expo (X : FVec Ideal S32x256x64 .f32) (M : FVec Ideal S32x1x64 .f32) : FVec Ideal S32x256x64 .f32 :=
  exp (subf X (broadcastTo S32x256x64 M broadcasts_S32x1x64_S32x256x64))

theorem expo_read (X : FVec Ideal S32x256x64 .f32) (M : FVec Ideal S32x1x64 .f32) (r : Fin 32) (s : Fin 256) (d : Fin 64) :
    (expo X M (ix3 r s d) : EReal) = Ideal.exp ((X (ix3 r s d) : EReal) - M (ix3 r (0 : Fin 1) d)) := by
  unfold expo
  pointwise
  try rfl

theorem pay14_eq : k1_pay14 v4 v219 v220 = expo (scores v4 (k1_pay13 v219 v220)) (bigAll (scores v4 (k1_pay13 v219 v220))) := rfl

theorem score (r : Fin 32) (s : Fin 256) (d : Fin 64) :
    (scores v4 (k1_pay13 v219 v220) (ix3 r s d) : EReal) = Spec.w2 (diff v219 v220 r) (cur v4) s d := by
  rw [scores_read]
  simp only [pay13_read]
  rfl

theorem pay14_read (r : Fin 32) (s : Fin 256) (d : Fin 64) :
    (k1_pay14 v4 v219 v220 (ix3 r s d) : EReal) = Spec.x2 (diff v219 v220 r) (cur v4) s d := by
  rw [pay14_eq, expo_read, bigAll_read]
  simp only [score]
  rfl

theorem pay15_eq : add1 (add2 (add4 (k1_pay15 v4 v219 v220))) = addAll (k1_pay14 v4 v219 v220) := rfl

/-- The weighted activations. -/
def prob (v232 : FVec Ideal S8192x64 .f32) (v261 : FVec Ideal S32x256x64 .f32) (t : FVec Ideal S32x1x64 .f32) : FVec Ideal S8192x64 .f32 :=
  shapeCast S8192x64 (mulf (mulf (shapeCast S32x256x64 v232 shapeCasts_S8192x64_S32x256x64) v261)
    (broadcastTo S32x256x64 (divf (broadcast S32x1x64 (Scalar.ofBits .f32 0x3F800000#32)) t) broadcasts_S32x1x64_S32x256x64)) shapeCasts_S32x256x64_S8192x64

theorem prob_read (v232 : FVec Ideal S8192x64 .f32) (v261 : FVec Ideal S32x256x64 .f32) (t : FVec Ideal S32x1x64 .f32) (r : Fin 32) (s : Fin 256) (d : Fin 64) :
    (prob v232 v261 t (ix2 (row r s) d) : EReal)
      = (v232 (ix2 (row r s) d) : EReal) * v261 (ix3 r s d) * Ideal.div 1 (t (ix3 r (0 : Fin 1) d)) := by
  unfold prob
  pointwise
  simp only [row_div, row_mod]

/-- The offsets. -/
def offs (P : FVec Ideal S8192x64 .f32) : FVec Ideal S32x256x64 .f32 :=
  tanh (addf (scores v1 P) (broadcastTo S32x256x64 (shapeCast S32x1x64 (addf (matmul dot_S32x64_S64x64_S32x64_1_0_0_1_n_n none v218 v1 (constant S32x64 .f32 0x00000000#32))
    (broadcastTo S32x64 v3 broadcasts_S1x64_S32x64)) shapeCasts_S32x64_S32x1x64) broadcasts_S32x1x64_S32x256x64))

theorem offs_read (P : FVec Ideal S8192x64 .f32) (r : Fin 32) (s : Fin 256) (d : Fin 64) :
    (offs v1 v3 v218 P (ix3 r s d) : EReal)
      = Ideal.tanh (∑ k, (P (ix2 (row r s) k) : EReal) * v1 (ix2 k d) + (∑ k, (v218 (ix2 r k) : EReal) * v1 (ix2 k d) + v3 (ix2 (0 : Fin 1) d))) := by
  have e := scores_read v1 P r s d
  unfold offs
  generalize scores v1 P = X at e ⊢
  rw [← e]
  pointwise
  try rfl

/-- The rows scaled. -/
def fin (S : FVec Ideal S32x1x64 .f32) : FVec Ideal S32x64 .f32 :=
  mulf v218 (addf (broadcast S32x64 (Scalar.ofBits .f32 0x43800000#32)) (shapeCast S32x64 S shapeCasts_S32x1x64_S32x64))

theorem fin_read (S : FVec Ideal S32x1x64 .f32) (r : Fin 32) (d : Fin 64) :
    (fin v218 S (ix2 r d) : EReal) = (v218 (ix2 r d) : EReal) * (Ideal.ofBits FTy.f32 1132462080#32 + S (ix3 r (0 : Fin 1) d)) := by
  unfold fin
  pointwise
  try rfl

theorem pay16_eq (v232 : FVec Ideal S8192x64 .f32) (v261 : FVec Ideal S32x256x64 .f32) (v276 : FVec Ideal S32x8x64 .f32) :
    k1_pay16 v1 v3 v218 v232 v261 v276 = fin v218 (addAll (offs v1 v3 v218 (prob v232 v261 (add1 (add2 (add4 v276)))))) := rfl

/-- A trip's payload, of real projected pages and rows. -/
theorem trip_read (hx : ∀ r s d, IsReal (diff v219 v220 r s d)) (hW : ∀ k d, IsReal (cur v4 k d)) (r : Fin 32) (d : Fin 64) :
    (k1_pay16 v1 v3 v218 (k1_pay13 v219 v220) (k1_pay14 v4 v219 v220) (k1_pay15 v4 v219 v220) (ix2 r d) : EReal)
      = Spec.two (diff v219 v220 r) (curRow v218 r) (cur v1) (curBias v3) (cur v4) d := by
  rw [pay16_eq, fin_read, addAll_read, pay15_eq]
  simp only [offs_read, prob_read, addAll_read, pay13_read, pay14_read, Algebra.p2_eq (hx r) hW]
  rfl

end Cert.TwoValue

end

end
-- ==== Proof.TwoTrip.lean ====
/- One trip of the second call's loop: the rows it loads, the pages it loads, and the piece it writes. -/
module

public import proofs.«01_k».proof.Proof.TwoValue
public import proofs.«01_k».proof.Proof.RegionOne

@[expose] public section

set_option maxRecDepth 16384

noncomputable section

namespace Cert.TwoTrip

open Idealize.ShloMosaic Idealize.ShloMosaic.TcCoe Idealize.ShloMosaic.Tactic
open Cert.KernelIdeal Cert.KernelIdeal.Gen

/-- The number of a trip, below 64. -/
theorem trip_lt (k : Fin k1_t1_loop.trips) : k.val < 64 := lt_of_lt_of_le k.isLt (by decide +kernel)

/-- The `g`-th group of four rows that trip `k` loads. -/
def rowsOf (Z : FVec Ideal S2048x64 .f32) (k : Fin k1_t1_loop.trips) (g : Fin 8) : FVec Ideal S4x64 .f32 :=
  fun i => Z (ix2 ⟨32 * k.val + 4 * g.val + (i 0).val, by
    have := trip_lt k; have := g.isLt; have h : (i 0).val < 4 := (i 0).isLt; omega⟩ ⟨(i 1).val, (i 1).isLt⟩)

/-- The row of the table that page `r` of trip `k` is read from. -/
def tableRow (k : Fin k1_t1_loop.trips) (r : Fin 32) : Fin 512 := ⟨8 * k.val + r.val / 4, by
  have := trip_lt k; have := r.isLt; omega⟩

/-- The column of the table that page `r` is read from. -/
def tableCol (r : Fin 32) : Fin 4 := ⟨r.val % 4, Nat.mod_lt _ (by decide)⟩

/-- The `r`-th page that trip `k` loads. -/
def pageOf (Z : FVec Ideal S18176x64 .f32) (page : Fin 512 → Fin 4 → Fin 71) (k : Fin k1_t1_loop.trips) (r : Fin 32) :
    FVec Ideal S256x64 .f32 :=
  fun i => Z (ix2 ⟨(page (tableRow k r) (tableCol r)).val * 256 + (i 0).val, by
    have := (page (tableRow k r) (tableCol r)).isLt; have h : (i 0).val < 256 := (i 0).isLt; omega⟩ ⟨(i 1).val, (i 1).isLt⟩)

/-- A load of four rows. -/
theorem rows_load {arg1 : Memref sig .tc .vmem S2048x64 .f32} {X : BufTy.Contents (Elt Ideal) arg1.view.ty}
    {Z : FVec Ideal S2048x64 .f32} (hZ : arg1.view.read (Elt Ideal) X = Z) (k : Fin k1_t1_loop.trips) (g : Fin 8)
    (off : Fin 2 → Nat) (inb : ∀ a, off a + S4x64.size a ≤ S2048x64.size a)
    (h0 : off 0 = 32 * k.val + 4 * g.val) (h1 : off 1 = 0) :
    (arg1.view.readAt (Elt Ideal) (Rect.unit (s := S2048x64) off S4x64.size inb).toLoadRect X : FVec Ideal S4x64 .f32) = rowsOf Z k g := by
  subst hZ
  funext i
  rw [View.readAt_apply]
  unfold rowsOf
  refine congrArg (arg1.view.read (Elt Ideal) X) ?_
  funext a
  apply Fin.ext
  fin_cases a
  · show off 0 + 1 * (i 0).val = 32 * k.val + 4 * g.val + (i 0).val
    rw [h0]; omega
  · show off 1 + 1 * (i 1).val = (i 1).val
    rw [h1]; omega

/-- The word a load of one word of the table gives. -/
theorem word_load {arg0 : Memref sig .tc .smem S512x4 .i32} {X : BufTy.Contents (Elt Ideal) arg0.view.ty}
    {page : Fin 512 → Fin 4 → Fin 71} (hp : ∀ b j, (arg0.view.read (Elt Ideal) X (ix2 b j) : BitVec 32).toNat = (page b j).val)
    (k : Fin k1_t1_loop.trips) (r : Fin 32)
    (off : Fin 2 → Nat) (inb : ∀ a, off a + S1x1.size a ≤ S512x4.size a)
    (h0 : off 0 = 8 * k.val + r.val / 4) (h1 : off 1 = r.val % 4) :
    (arg0.view.readAt (Elt Ideal) (Rect.unit (s := S512x4) off S1x1.size inb).toLoadRect X (Shape.Idx.first (numel1_S1x1.symm ▸ Nat.one_pos)) : BitVec 32).toNat
      = (page (tableRow k r) (tableCol r)).val := by
  rw [View.readAt_apply, ← hp]
  refine congrArg (fun y => (arg0.view.read (Elt Ideal) X y : BitVec 32).toNat) ?_
  funext a
  apply Fin.ext
  have hf : ∀ q : S1x1.Idx, ∀ c, (q c).val = 0 := fun q c => by
    have h : (q c).val < 1 := by
      have := (q c).isLt
      fin_cases c <;> exact this
    omega
  fin_cases a
  · show off 0 + 1 * ((Shape.Idx.first (numel1_S1x1.symm ▸ Nat.one_pos) : S1x1.Idx) 0).val = 8 * k.val + r.val / 4
    rw [hf, h0]; omega
  · show off 1 + 1 * ((Shape.Idx.first (numel1_S1x1.symm ▸ Nat.one_pos) : S1x1.Idx) 1).val = r.val % 4
    rw [hf, h1]; omega

/-- A load of one page. -/
theorem page_load {arg9 : Memref sig .tc .vmem S18176x64 .f32} {X : BufTy.Contents (Elt Ideal) arg9.view.ty}
    {Z : FVec Ideal S18176x64 .f32} (hZ : arg9.view.read (Elt Ideal) X = Z) {page : Fin 512 → Fin 4 → Fin 71}
    (k : Fin k1_t1_loop.trips) (r : Fin 32) (w : BitVec 32) (hw : w.toNat = (page (tableRow k r) (tableCol r)).val)
    (inb : ∀ a, k1_off3 w a + S256x64.size a ≤ S18176x64.size a) :
    (arg9.view.readAt (Elt Ideal) (Rect.unit (s := S18176x64) (k1_off3 w) S256x64.size inb).toLoadRect X : FVec Ideal S256x64 .f32)
      = pageOf Z page k r := by
  subst hZ
  funext i
  rw [View.readAt_apply]
  unfold pageOf
  have hlt := (page (tableRow k r) (tableCol r)).isLt
  have e : (Scalar.indexCast (Scalar.muli w 256#32) : BitVec 32).toNat = w.toNat * 256 := by
    show (w * 256#32).toNat = w.toNat * 256
    rw [BitVec.toNat_mul]
    exact Nat.mod_eq_of_lt (by show w.toNat * 256 < 2 ^ 32; omega)
  refine congrArg (arg9.view.read (Elt Ideal) X) ?_
  funext a
  apply Fin.ext
  fin_cases a
  · show (Scalar.indexCast (Scalar.muli w 256#32) : BitVec 32).toNat + 1 * (i 0).val = (page (tableRow k r) (tableCol r)).val * 256 + (i 0).val
    rw [e, hw]; omega
  · show 0 + 1 * (i 1).val = (i 1).val
    omega

/-- The 32 rows of a trip. -/
def rows32 (O : Fin 8 → FVec Ideal S4x64 .f32) : FVec Ideal S32x64 .f32 := k1_pay10 (O 0) (O 1) (O 2) (O 3) (O 4) (O 5) (O 6) (O 7)

/-- Their product with the first matrix. -/
def prod32 (v0 : Vec Ideal S64x64 .f32) (O : Fin 8 → FVec Ideal S4x64 .f32) : FVec Ideal S32x64 .f32 := k1_pay11 v0 (O 0) (O 1) (O 2) (O 3) (O 4) (O 5) (O 6) (O 7)

/-- The 32 pages of a trip. -/
def pages32 (P : Fin 32 → FVec Ideal S256x64 .f32) : FVec Ideal S32x256x64 .f32 := k1_pay12 (P 0) (P 1) (P 2) (P 3) (P 4) (P 5) (P 6) (P 7) (P 8) (P 9) (P 10) (P 11) (P 12) (P 13) (P 14) (P 15) (P 16) (P 17) (P 18) (P 19) (P 20) (P 21) (P 22) (P 23) (P 24) (P 25) (P 26) (P 27) (P 28) (P 29) (P 30) (P 31)

/-- What a trip writes, from its rows and its pages. -/
def payload (v0 v1 : Vec Ideal S64x64 .f32) (v2 : Vec Ideal S1x64 .f32) (v4 : Vec Ideal S64x64 .f32) (O : Fin 8 → FVec Ideal S4x64 .f32)
    (P : Fin 32 → FVec Ideal S256x64 .f32) : FVec Ideal S32x64 .f32 :=
  k1_pay16 v1 (k1_pay1 v2) (rows32 O) (k1_pay13 (prod32 v0 O) (pages32 P)) (k1_pay14 v4 (prod32 v0 O) (pages32 P)) (k1_pay15 v4 (prod32 v0 O) (pages32 P))

theorem off1 : ∀ k : Fin k1_t1_loop.trips, k1_off1 k 0 = 32 * k.val + 4 * 0 ∧ k1_off1 k 1 = 0 := by decide +kernel
theorem off2 : ∀ k : Fin k1_t1_loop.trips, k1_off2 k 0 = 8 * k.val + 0 / 4 ∧ k1_off2 k 1 = 0 % 4 := by decide +kernel
theorem off4 : ∀ k : Fin k1_t1_loop.trips, k1_off4 k 0 = 8 * k.val + 1 / 4 ∧ k1_off4 k 1 = 1 % 4 := by decide +kernel
theorem off6 : ∀ k : Fin k1_t1_loop.trips, k1_off6 k 0 = 8 * k.val + 2 / 4 ∧ k1_off6 k 1 = 2 % 4 := by decide +kernel
theorem off8 : ∀ k : Fin k1_t1_loop.trips, k1_off8 k 0 = 8 * k.val + 3 / 4 ∧ k1_off8 k 1 = 3 % 4 := by decide +kernel
theorem off10 : ∀ k : Fin k1_t1_loop.trips, k1_off10 k 0 = 32 * k.val + 4 * 1 ∧ k1_off10 k 1 = 0 := by decide +kernel
theorem off11 : ∀ k : Fin k1_t1_loop.trips, k1_off11 k 0 = 8 * k.val + 4 / 4 ∧ k1_off11 k 1 = 4 % 4 := by decide +kernel
theorem off13 : ∀ k : Fin k1_t1_loop.trips, k1_off13 k 0 = 8 * k.val + 5 / 4 ∧ k1_off13 k 1 = 5 % 4 := by decide +kernel
theorem off15 : ∀ k : Fin k1_t1_loop.trips, k1_off15 k 0 = 8 * k.val + 6 / 4 ∧ k1_off15 k 1 = 6 % 4 := by decide +kernel
theorem off17 : ∀ k : Fin k1_t1_loop.trips, k1_off17 k 0 = 8 * k.val + 7 / 4 ∧ k1_off17 k 1 = 7 % 4 := by decide +kernel
theorem off19 : ∀ k : Fin k1_t1_loop.trips, k1_off19 k 0 = 32 * k.val + 4 * 2 ∧ k1_off19 k 1 = 0 := by decide +kernel
theorem off20 : ∀ k : Fin k1_t1_loop.trips, k1_off20 k 0 = 8 * k.val + 8 / 4 ∧ k1_off20 k 1 = 8 % 4 := by decide +kernel
theorem off22 : ∀ k : Fin k1_t1_loop.trips, k1_off22 k 0 = 8 * k.val + 9 / 4 ∧ k1_off22 k 1 = 9 % 4 := by decide +kernel
theorem off24 : ∀ k : Fin k1_t1_loop.trips, k1_off24 k 0 = 8 * k.val + 10 / 4 ∧ k1_off24 k 1 = 10 % 4 := by decide +kernel
theorem off26 : ∀ k : Fin k1_t1_loop.trips, k1_off26 k 0 = 8 * k.val + 11 / 4 ∧ k1_off26 k 1 = 11 % 4 := by decide +kernel
theorem off28 : ∀ k : Fin k1_t1_loop.trips, k1_off28 k 0 = 32 * k.val + 4 * 3 ∧ k1_off28 k 1 = 0 := by decide +kernel
theorem off29 : ∀ k : Fin k1_t1_loop.trips, k1_off29 k 0 = 8 * k.val + 12 / 4 ∧ k1_off29 k 1 = 12 % 4 := by decide +kernel
theorem off31 : ∀ k : Fin k1_t1_loop.trips, k1_off31 k 0 = 8 * k.val + 13 / 4 ∧ k1_off31 k 1 = 13 % 4 := by decide +kernel
theorem off33 : ∀ k : Fin k1_t1_loop.trips, k1_off33 k 0 = 8 * k.val + 14 / 4 ∧ k1_off33 k 1 = 14 % 4 := by decide +kernel
theorem off35 : ∀ k : Fin k1_t1_loop.trips, k1_off35 k 0 = 8 * k.val + 15 / 4 ∧ k1_off35 k 1 = 15 % 4 := by decide +kernel
theorem off37 : ∀ k : Fin k1_t1_loop.trips, k1_off37 k 0 = 32 * k.val + 4 * 4 ∧ k1_off37 k 1 = 0 := by decide +kernel
theorem off38 : ∀ k : Fin k1_t1_loop.trips, k1_off38 k 0 = 8 * k.val + 16 / 4 ∧ k1_off38 k 1 = 16 % 4 := by decide +kernel
theorem off40 : ∀ k : Fin k1_t1_loop.trips, k1_off40 k 0 = 8 * k.val + 17 / 4 ∧ k1_off40 k 1 = 17 % 4 := by decide +kernel
theorem off42 : ∀ k : Fin k1_t1_loop.trips, k1_off42 k 0 = 8 * k.val + 18 / 4 ∧ k1_off42 k 1 = 18 % 4 := by decide +kernel
theorem off44 : ∀ k : Fin k1_t1_loop.trips, k1_off44 k 0 = 8 * k.val + 19 / 4 ∧ k1_off44 k 1 = 19 % 4 := by decide +kernel
theorem off46 : ∀ k : Fin k1_t1_loop.trips, k1_off46 k 0 = 32 * k.val + 4 * 5 ∧ k1_off46 k 1 = 0 := by decide +kernel
theorem off47 : ∀ k : Fin k1_t1_loop.trips, k1_off47 k 0 = 8 * k.val + 20 / 4 ∧ k1_off47 k 1 = 20 % 4 := by decide +kernel
theorem off49 : ∀ k : Fin k1_t1_loop.trips, k1_off49 k 0 = 8 * k.val + 21 / 4 ∧ k1_off49 k 1 = 21 % 4 := by decide +kernel
theorem off51 : ∀ k : Fin k1_t1_loop.trips, k1_off51 k 0 = 8 * k.val + 22 / 4 ∧ k1_off51 k 1 = 22 % 4 := by decide +kernel
theorem off53 : ∀ k : Fin k1_t1_loop.trips, k1_off53 k 0 = 8 * k.val + 23 / 4 ∧ k1_off53 k 1 = 23 % 4 := by decide +kernel
theorem off55 : ∀ k : Fin k1_t1_loop.trips, k1_off55 k 0 = 32 * k.val + 4 * 6 ∧ k1_off55 k 1 = 0 := by decide +kernel
theorem off56 : ∀ k : Fin k1_t1_loop.trips, k1_off56 k 0 = 8 * k.val + 24 / 4 ∧ k1_off56 k 1 = 24 % 4 := by decide +kernel
theorem off58 : ∀ k : Fin k1_t1_loop.trips, k1_off58 k 0 = 8 * k.val + 25 / 4 ∧ k1_off58 k 1 = 25 % 4 := by decide +kernel
theorem off60 : ∀ k : Fin k1_t1_loop.trips, k1_off60 k 0 = 8 * k.val + 26 / 4 ∧ k1_off60 k 1 = 26 % 4 := by decide +kernel
theorem off62 : ∀ k : Fin k1_t1_loop.trips, k1_off62 k 0 = 8 * k.val + 27 / 4 ∧ k1_off62 k 1 = 27 % 4 := by decide +kernel
theorem off64 : ∀ k : Fin k1_t1_loop.trips, k1_off64 k 0 = 32 * k.val + 4 * 7 ∧ k1_off64 k 1 = 0 := by decide +kernel
theorem off65 : ∀ k : Fin k1_t1_loop.trips, k1_off65 k 0 = 8 * k.val + 28 / 4 ∧ k1_off65 k 1 = 28 % 4 := by decide +kernel
theorem off67 : ∀ k : Fin k1_t1_loop.trips, k1_off67 k 0 = 8 * k.val + 29 / 4 ∧ k1_off67 k 1 = 29 % 4 := by decide +kernel
theorem off69 : ∀ k : Fin k1_t1_loop.trips, k1_off69 k 0 = 8 * k.val + 30 / 4 ∧ k1_off69 k 1 = 30 % 4 := by decide +kernel
theorem off71 : ∀ k : Fin k1_t1_loop.trips, k1_off71 k 0 = 8 * k.val + 31 / 4 ∧ k1_off71 k 1 = 31 % 4 := by decide +kernel

set_option maxHeartbeats 4000000 in
/-- The piece a trip writes. -/
theorem trip_at (𝒱 : Variants) (c : Dev nD) (bd : Option 𝒱.V) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole) (v0 : Vec Ideal S64x64 .f32) (v1 : Vec Ideal S64x64 .f32) (v2 : Vec Ideal S1x64 .f32) (v4 : Vec Ideal S64x64 .f32) (X_arg0 : BufTy.Contents (Elt Ideal) arg0.view.ty) (X_arg1 : BufTy.Contents (Elt Ideal) arg1.view.ty) (X_arg9 : BufTy.Contents (Elt Ideal) arg9.view.ty) (k : Fin k1_t1_loop.trips) (k1_hw1 : k1_chk1 (arg0.view.readAt (Elt Ideal) (Rect.unit (s := S512x4) (k1_off2 k) S1x1.size (k1_off2_inb k)).toLoadRect X_arg0 (Shape.Idx.first (numel1_S1x1.symm ▸ Nat.one_pos)))) (k1_hw2 : k1_chk2 (arg0.view.readAt (Elt Ideal) (Rect.unit (s := S512x4) (k1_off4 k) S1x1.size (k1_off4_inb k)).toLoadRect X_arg0 (Shape.Idx.first (numel1_S1x1.symm ▸ Nat.one_pos)))) (k1_hw3 : k1_chk3 (arg0.view.readAt (Elt Ideal) (Rect.unit (s := S512x4) (k1_off6 k) S1x1.size (k1_off6_inb k)).toLoadRect X_arg0 (Shape.Idx.first (numel1_S1x1.symm ▸ Nat.one_pos)))) (k1_hw4 : k1_chk4 (arg0.view.readAt (Elt Ideal) (Rect.unit (s := S512x4) (k1_off8 k) S1x1.size (k1_off8_inb k)).toLoadRect X_arg0 (Shape.Idx.first (numel1_S1x1.symm ▸ Nat.one_pos)))) (k1_hw5 : k1_chk5 (arg0.view.readAt (Elt Ideal) (Rect.unit (s := S512x4) (k1_off11 k) S1x1.size (k1_off11_inb k)).toLoadRect X_arg0 (Shape.Idx.first (numel1_S1x1.symm ▸ Nat.one_pos)))) (k1_hw6 : k1_chk6 (arg0.view.readAt (Elt Ideal) (Rect.unit (s := S512x4) (k1_off13 k) S1x1.size (k1_off13_inb k)).toLoadRect X_arg0 (Shape.Idx.first (numel1_S1x1.symm ▸ Nat.one_pos)))) (k1_hw7 : k1_chk7 (arg0.view.readAt (Elt Ideal) (Rect.unit (s := S512x4) (k1_off15 k) S1x1.size (k1_off15_inb k)).toLoadRect X_arg0 (Shape.Idx.first (numel1_S1x1.symm ▸ Nat.one_pos)))) (k1_hw8 : k1_chk8 (arg0.view.readAt (Elt Ideal) (Rect.unit (s := S512x4) (k1_off17 k) S1x1.size (k1_off17_inb k)).toLoadRect X_arg0 (Shape.Idx.first (numel1_S1x1.symm ▸ Nat.one_pos)))) (k1_hw9 : k1_chk9 (arg0.view.readAt (Elt Ideal) (Rect.unit (s := S512x4) (k1_off20 k) S1x1.size (k1_off20_inb k)).toLoadRect X_arg0 (Shape.Idx.first (numel1_S1x1.symm ▸ Nat.one_pos)))) (k1_hw10 : k1_chk10 (arg0.view.readAt (Elt Ideal) (Rect.unit (s := S512x4) (k1_off22 k) S1x1.size (k1_off22_inb k)).toLoadRect X_arg0 (Shape.Idx.first (numel1_S1x1.symm ▸ Nat.one_pos)))) (k1_hw11 : k1_chk11 (arg0.view.readAt (Elt Ideal) (Rect.unit (s := S512x4) (k1_off24 k) S1x1.size (k1_off24_inb k)).toLoadRect X_arg0 (Shape.Idx.first (numel1_S1x1.symm ▸ Nat.one_pos)))) (k1_hw12 : k1_chk12 (arg0.view.readAt (Elt Ideal) (Rect.unit (s := S512x4) (k1_off26 k) S1x1.size (k1_off26_inb k)).toLoadRect X_arg0 (Shape.Idx.first (numel1_S1x1.symm ▸ Nat.one_pos)))) (k1_hw13 : k1_chk13 (arg0.view.readAt (Elt Ideal) (Rect.unit (s := S512x4) (k1_off29 k) S1x1.size (k1_off29_inb k)).toLoadRect X_arg0 (Shape.Idx.first (numel1_S1x1.symm ▸ Nat.one_pos)))) (k1_hw14 : k1_chk14 (arg0.view.readAt (Elt Ideal) (Rect.unit (s := S512x4) (k1_off31 k) S1x1.size (k1_off31_inb k)).toLoadRect X_arg0 (Shape.Idx.first (numel1_S1x1.symm ▸ Nat.one_pos)))) (k1_hw15 : k1_chk15 (arg0.view.readAt (Elt Ideal) (Rect.unit (s := S512x4) (k1_off33 k) S1x1.size (k1_off33_inb k)).toLoadRect X_arg0 (Shape.Idx.first (numel1_S1x1.symm ▸ Nat.one_pos)))) (k1_hw16 : k1_chk16 (arg0.view.readAt (Elt Ideal) (Rect.unit (s := S512x4) (k1_off35 k) S1x1.size (k1_off35_inb k)).toLoadRect X_arg0 (Shape.Idx.first (numel1_S1x1.symm ▸ Nat.one_pos)))) (k1_hw17 : k1_chk17 (arg0.view.readAt (Elt Ideal) (Rect.unit (s := S512x4) (k1_off38 k) S1x1.size (k1_off38_inb k)).toLoadRect X_arg0 (Shape.Idx.first (numel1_S1x1.symm ▸ Nat.one_pos)))) (k1_hw18 : k1_chk18 (arg0.view.readAt (Elt Ideal) (Rect.unit (s := S512x4) (k1_off40 k) S1x1.size (k1_off40_inb k)).toLoadRect X_arg0 (Shape.Idx.first (numel1_S1x1.symm ▸ Nat.one_pos)))) (k1_hw19 : k1_chk19 (arg0.view.readAt (Elt Ideal) (Rect.unit (s := S512x4) (k1_off42 k) S1x1.size (k1_off42_inb k)).toLoadRect X_arg0 (Shape.Idx.first (numel1_S1x1.symm ▸ Nat.one_pos)))) (k1_hw20 : k1_chk20 (arg0.view.readAt (Elt Ideal) (Rect.unit (s := S512x4) (k1_off44 k) S1x1.size (k1_off44_inb k)).toLoadRect X_arg0 (Shape.Idx.first (numel1_S1x1.symm ▸ Nat.one_pos)))) (k1_hw21 : k1_chk21 (arg0.view.readAt (Elt Ideal) (Rect.unit (s := S512x4) (k1_off47 k) S1x1.size (k1_off47_inb k)).toLoadRect X_arg0 (Shape.Idx.first (numel1_S1x1.symm ▸ Nat.one_pos)))) (k1_hw22 : k1_chk22 (arg0.view.readAt (Elt Ideal) (Rect.unit (s := S512x4) (k1_off49 k) S1x1.size (k1_off49_inb k)).toLoadRect X_arg0 (Shape.Idx.first (numel1_S1x1.symm ▸ Nat.one_pos)))) (k1_hw23 : k1_chk23 (arg0.view.readAt (Elt Ideal) (Rect.unit (s := S512x4) (k1_off51 k) S1x1.size (k1_off51_inb k)).toLoadRect X_arg0 (Shape.Idx.first (numel1_S1x1.symm ▸ Nat.one_pos)))) (k1_hw24 : k1_chk24 (arg0.view.readAt (Elt Ideal) (Rect.unit (s := S512x4) (k1_off53 k) S1x1.size (k1_off53_inb k)).toLoadRect X_arg0 (Shape.Idx.first (numel1_S1x1.symm ▸ Nat.one_pos)))) (k1_hw25 : k1_chk25 (arg0.view.readAt (Elt Ideal) (Rect.unit (s := S512x4) (k1_off56 k) S1x1.size (k1_off56_inb k)).toLoadRect X_arg0 (Shape.Idx.first (numel1_S1x1.symm ▸ Nat.one_pos)))) (k1_hw26 : k1_chk26 (arg0.view.readAt (Elt Ideal) (Rect.unit (s := S512x4) (k1_off58 k) S1x1.size (k1_off58_inb k)).toLoadRect X_arg0 (Shape.Idx.first (numel1_S1x1.symm ▸ Nat.one_pos)))) (k1_hw27 : k1_chk27 (arg0.view.readAt (Elt Ideal) (Rect.unit (s := S512x4) (k1_off60 k) S1x1.size (k1_off60_inb k)).toLoadRect X_arg0 (Shape.Idx.first (numel1_S1x1.symm ▸ Nat.one_pos)))) (k1_hw28 : k1_chk28 (arg0.view.readAt (Elt Ideal) (Rect.unit (s := S512x4) (k1_off62 k) S1x1.size (k1_off62_inb k)).toLoadRect X_arg0 (Shape.Idx.first (numel1_S1x1.symm ▸ Nat.one_pos)))) (k1_hw29 : k1_chk29 (arg0.view.readAt (Elt Ideal) (Rect.unit (s := S512x4) (k1_off65 k) S1x1.size (k1_off65_inb k)).toLoadRect X_arg0 (Shape.Idx.first (numel1_S1x1.symm ▸ Nat.one_pos)))) (k1_hw30 : k1_chk30 (arg0.view.readAt (Elt Ideal) (Rect.unit (s := S512x4) (k1_off67 k) S1x1.size (k1_off67_inb k)).toLoadRect X_arg0 (Shape.Idx.first (numel1_S1x1.symm ▸ Nat.one_pos)))) (k1_hw31 : k1_chk31 (arg0.view.readAt (Elt Ideal) (Rect.unit (s := S512x4) (k1_off69 k) S1x1.size (k1_off69_inb k)).toLoadRect X_arg0 (Shape.Idx.first (numel1_S1x1.symm ▸ Nat.one_pos)))) (k1_hw32 : k1_chk32 (arg0.view.readAt (Elt Ideal) (Rect.unit (s := S512x4) (k1_off71 k) S1x1.size (k1_off71_inb k)).toLoadRect X_arg0 (Shape.Idx.first (numel1_S1x1.symm ▸ Nat.one_pos))))
    {Z1 : FVec Ideal S2048x64 .f32} (h1 : arg1.view.read (Elt Ideal) X_arg1 = Z1) {Z9 : FVec Ideal S18176x64 .f32} (h9 : arg9.view.read (Elt Ideal) X_arg9 = Z9)
    {page : Fin 512 → Fin 4 → Fin 71} (hp : ∀ b j, (arg0.view.read (Elt Ideal) X_arg0 (ix2 b j) : BitVec 32).toNat = (page b j).val) :
    tripL_k1_t1 (F := Ideal) 𝒱 c bd arg0 harg0 arg1 harg1 arg2 harg2 arg3 harg3 arg4 harg4 arg5 harg5 arg6 harg6 arg7 harg7 arg8 harg8 arg9 harg9 v0 v1 v2 v4 X_arg0 X_arg1 X_arg9 k k1_hw1 k1_hw2 k1_hw3 k1_hw4 k1_hw5 k1_hw6 k1_hw7 k1_hw8 k1_hw9 k1_hw10 k1_hw11 k1_hw12 k1_hw13 k1_hw14 k1_hw15 k1_hw16 k1_hw17 k1_hw18 k1_hw19 k1_hw20 k1_hw21 k1_hw22 k1_hw23 k1_hw24 k1_hw25 k1_hw26 k1_hw27 k1_hw28 k1_hw29 k1_hw30 k1_hw31 k1_hw32
      = [⟨Rect.unit (s := S2048x64) (k1_off73 k) S32x64.size (k1_off73_inb k), payload v0 v1 v2 v4 (rowsOf Z1 k) (pageOf Z9 page k)⟩] := by
  unfold tripL_k1_t1 trip_k1_t1
  dsimp only
  unfold payload rows32 prod32 pages32
  have o0 : trip_k1_t1.sl.v21 arg1 X_arg1 k = rowsOf Z1 k 0 := by
    unfold trip_k1_t1.sl.v21
    rw [rows_load h1 k 0 (k1_off1 k) (k1_off1_inb k) (off1 k).1 (off1 k).2]
    exact shapeCast_self _ _
  have o1 : trip_k1_t1.sl.v46 arg1 X_arg1 k = rowsOf Z1 k 1 := by
    unfold trip_k1_t1.sl.v46
    rw [rows_load h1 k 1 (k1_off10 k) (k1_off10_inb k) (off10 k).1 (off10 k).2]
    exact shapeCast_self _ _
  have o2 : trip_k1_t1.sl.v71 arg1 X_arg1 k = rowsOf Z1 k 2 := by
    unfold trip_k1_t1.sl.v71
    rw [rows_load h1 k 2 (k1_off19 k) (k1_off19_inb k) (off19 k).1 (off19 k).2]
    exact shapeCast_self _ _
  have o3 : trip_k1_t1.sl.v96 arg1 X_arg1 k = rowsOf Z1 k 3 := by
    unfold trip_k1_t1.sl.v96
    rw [rows_load h1 k 3 (k1_off28 k) (k1_off28_inb k) (off28 k).1 (off28 k).2]
    exact shapeCast_self _ _
  have o4 : trip_k1_t1.sl.v121 arg1 X_arg1 k = rowsOf Z1 k 4 := by
    unfold trip_k1_t1.sl.v121
    rw [rows_load h1 k 4 (k1_off37 k) (k1_off37_inb k) (off37 k).1 (off37 k).2]
    exact shapeCast_self _ _
  have o5 : trip_k1_t1.sl.v146 arg1 X_arg1 k = rowsOf Z1 k 5 := by
    unfold trip_k1_t1.sl.v146
    rw [rows_load h1 k 5 (k1_off46 k) (k1_off46_inb k) (off46 k).1 (off46 k).2]
    exact shapeCast_self _ _
  have o6 : trip_k1_t1.sl.v171 arg1 X_arg1 k = rowsOf Z1 k 6 := by
    unfold trip_k1_t1.sl.v171
    rw [rows_load h1 k 6 (k1_off55 k) (k1_off55_inb k) (off55 k).1 (off55 k).2]
    exact shapeCast_self _ _
  have o7 := rows_load h1 k 7 (k1_off64 k) (k1_off64_inb k) (off64 k).1 (off64 k).2
  have p0 : trip_k1_t1.sl.r_5 arg0 arg9 X_arg0 X_arg9 k k1_hw1 = pageOf Z9 page k 0 := by
    unfold trip_k1_t1.sl.r_5
    exact page_load h9 k 0 _ (word_load hp k 0 (k1_off2 k) (k1_off2_inb k) (off2 k).1 (off2 k).2) k1_hw1
  have p1 : trip_k1_t1.sl.r_6 arg0 arg9 X_arg0 X_arg9 k k1_hw2 = pageOf Z9 page k 1 := by
    unfold trip_k1_t1.sl.r_6
    exact page_load h9 k 1 _ (word_load hp k 1 (k1_off4 k) (k1_off4_inb k) (off4 k).1 (off4 k).2) k1_hw2
  have p2 : trip_k1_t1.sl.r_7 arg0 arg9 X_arg0 X_arg9 k k1_hw3 = pageOf Z9 page k 2 := by
    unfold trip_k1_t1.sl.r_7
    exact page_load h9 k 2 _ (word_load hp k 2 (k1_off6 k) (k1_off6_inb k) (off6 k).1 (off6 k).2) k1_hw3
  have p3 : trip_k1_t1.sl.r_8 arg0 arg9 X_arg0 X_arg9 k k1_hw4 = pageOf Z9 page k 3 := by
    unfold trip_k1_t1.sl.r_8
    exact page_load h9 k 3 _ (word_load hp k 3 (k1_off8 k) (k1_off8_inb k) (off8 k).1 (off8 k).2) k1_hw4
  have p4 : trip_k1_t1.sl.r_15 arg0 arg9 X_arg0 X_arg9 k k1_hw5 = pageOf Z9 page k 4 := by
    unfold trip_k1_t1.sl.r_15
    exact page_load h9 k 4 _ (word_load hp k 4 (k1_off11 k) (k1_off11_inb k) (off11 k).1 (off11 k).2) k1_hw5
  have p5 : trip_k1_t1.sl.r_16 arg0 arg9 X_arg0 X_arg9 k k1_hw6 = pageOf Z9 page k 5 := by
    unfold trip_k1_t1.sl.r_16
    exact page_load h9 k 5 _ (word_load hp k 5 (k1_off13 k) (k1_off13_inb k) (off13 k).1 (off13 k).2) k1_hw6
  have p6 : trip_k1_t1.sl.r_17 arg0 arg9 X_arg0 X_arg9 k k1_hw7 = pageOf Z9 page k 6 := by
    unfold trip_k1_t1.sl.r_17
    exact page_load h9 k 6 _ (word_load hp k 6 (k1_off15 k) (k1_off15_inb k) (off15 k).1 (off15 k).2) k1_hw7
  have p7 : trip_k1_t1.sl.r_18 arg0 arg9 X_arg0 X_arg9 k k1_hw8 = pageOf Z9 page k 7 := by
    unfold trip_k1_t1.sl.r_18
    exact page_load h9 k 7 _ (word_load hp k 7 (k1_off17 k) (k1_off17_inb k) (off17 k).1 (off17 k).2) k1_hw8
  have p8 : trip_k1_t1.sl.r_19 arg0 arg9 X_arg0 X_arg9 k k1_hw9 = pageOf Z9 page k 8 := by
    unfold trip_k1_t1.sl.r_19
    exact page_load h9 k 8 _ (word_load hp k 8 (k1_off20 k) (k1_off20_inb k) (off20 k).1 (off20 k).2) k1_hw9
  have p9 : trip_k1_t1.sl.r_20 arg0 arg9 X_arg0 X_arg9 k k1_hw10 = pageOf Z9 page k 9 := by
    unfold trip_k1_t1.sl.r_20
    exact page_load h9 k 9 _ (word_load hp k 9 (k1_off22 k) (k1_off22_inb k) (off22 k).1 (off22 k).2) k1_hw10
  have p10 : trip_k1_t1.sl.r_26 arg0 arg9 X_arg0 X_arg9 k k1_hw11 = pageOf Z9 page k 10 := by
    unfold trip_k1_t1.sl.r_26
    exact page_load h9 k 10 _ (word_load hp k 10 (k1_off24 k) (k1_off24_inb k) (off24 k).1 (off24 k).2) k1_hw11
  have p11 : trip_k1_t1.sl.r_27 arg0 arg9 X_arg0 X_arg9 k k1_hw12 = pageOf Z9 page k 11 := by
    unfold trip_k1_t1.sl.r_27
    exact page_load h9 k 11 _ (word_load hp k 11 (k1_off26 k) (k1_off26_inb k) (off26 k).1 (off26 k).2) k1_hw12
  have p12 : trip_k1_t1.sl.r_28 arg0 arg9 X_arg0 X_arg9 k k1_hw13 = pageOf Z9 page k 12 := by
    unfold trip_k1_t1.sl.r_28
    exact page_load h9 k 12 _ (word_load hp k 12 (k1_off29 k) (k1_off29_inb k) (off29 k).1 (off29 k).2) k1_hw13
  have p13 : trip_k1_t1.sl.r_29 arg0 arg9 X_arg0 X_arg9 k k1_hw14 = pageOf Z9 page k 13 := by
    unfold trip_k1_t1.sl.r_29
    exact page_load h9 k 13 _ (word_load hp k 13 (k1_off31 k) (k1_off31_inb k) (off31 k).1 (off31 k).2) k1_hw14
  have p14 : trip_k1_t1.sl.r_30 arg0 arg9 X_arg0 X_arg9 k k1_hw15 = pageOf Z9 page k 14 := by
    unfold trip_k1_t1.sl.r_30
    exact page_load h9 k 14 _ (word_load hp k 14 (k1_off33 k) (k1_off33_inb k) (off33 k).1 (off33 k).2) k1_hw15
  have p15 : trip_k1_t1.sl.r_31 arg0 arg9 X_arg0 X_arg9 k k1_hw16 = pageOf Z9 page k 15 := by
    unfold trip_k1_t1.sl.r_31
    exact page_load h9 k 15 _ (word_load hp k 15 (k1_off35 k) (k1_off35_inb k) (off35 k).1 (off35 k).2) k1_hw16
  have p16 : trip_k1_t1.sl.r_37 arg0 arg9 X_arg0 X_arg9 k k1_hw17 = pageOf Z9 page k 16 := by
    unfold trip_k1_t1.sl.r_37
    exact page_load h9 k 16 _ (word_load hp k 16 (k1_off38 k) (k1_off38_inb k) (off38 k).1 (off38 k).2) k1_hw17
  have p17 : trip_k1_t1.sl.r_38 arg0 arg9 X_arg0 X_arg9 k k1_hw18 = pageOf Z9 page k 17 := by
    unfold trip_k1_t1.sl.r_38
    exact page_load h9 k 17 _ (word_load hp k 17 (k1_off40 k) (k1_off40_inb k) (off40 k).1 (off40 k).2) k1_hw18
  have p18 : trip_k1_t1.sl.r_39 arg0 arg9 X_arg0 X_arg9 k k1_hw19 = pageOf Z9 page k 18 := by
    unfold trip_k1_t1.sl.r_39
    exact page_load h9 k 18 _ (word_load hp k 18 (k1_off42 k) (k1_off42_inb k) (off42 k).1 (off42 k).2) k1_hw19
  have p19 : trip_k1_t1.sl.r_40 arg0 arg9 X_arg0 X_arg9 k k1_hw20 = pageOf Z9 page k 19 := by
    unfold trip_k1_t1.sl.r_40
    exact page_load h9 k 19 _ (word_load hp k 19 (k1_off44 k) (k1_off44_inb k) (off44 k).1 (off44 k).2) k1_hw20
  have p20 : trip_k1_t1.sl.r_41 arg0 arg9 X_arg0 X_arg9 k k1_hw21 = pageOf Z9 page k 20 := by
    unfold trip_k1_t1.sl.r_41
    exact page_load h9 k 20 _ (word_load hp k 20 (k1_off47 k) (k1_off47_inb k) (off47 k).1 (off47 k).2) k1_hw21
  have p21 : trip_k1_t1.sl.r_48 arg0 arg9 X_arg0 X_arg9 k k1_hw22 = pageOf Z9 page k 21 := by
    unfold trip_k1_t1.sl.r_48
    exact page_load h9 k 21 _ (word_load hp k 21 (k1_off49 k) (k1_off49_inb k) (off49 k).1 (off49 k).2) k1_hw22
  have p22 : trip_k1_t1.sl.r_49 arg0 arg9 X_arg0 X_arg9 k k1_hw23 = pageOf Z9 page k 22 := by
    unfold trip_k1_t1.sl.r_49
    exact page_load h9 k 22 _ (word_load hp k 22 (k1_off51 k) (k1_off51_inb k) (off51 k).1 (off51 k).2) k1_hw23
  have p23 : trip_k1_t1.sl.r_50 arg0 arg9 X_arg0 X_arg9 k k1_hw24 = pageOf Z9 page k 23 := by
    unfold trip_k1_t1.sl.r_50
    exact page_load h9 k 23 _ (word_load hp k 23 (k1_off53 k) (k1_off53_inb k) (off53 k).1 (off53 k).2) k1_hw24
  have p24 : trip_k1_t1.sl.r_51 arg0 arg9 X_arg0 X_arg9 k k1_hw25 = pageOf Z9 page k 24 := by
    unfold trip_k1_t1.sl.r_51
    exact page_load h9 k 24 _ (word_load hp k 24 (k1_off56 k) (k1_off56_inb k) (off56 k).1 (off56 k).2) k1_hw25
  have p25 : trip_k1_t1.sl.r_52 arg0 arg9 X_arg0 X_arg9 k k1_hw26 = pageOf Z9 page k 25 := by
    unfold trip_k1_t1.sl.r_52
    exact page_load h9 k 25 _ (word_load hp k 25 (k1_off58 k) (k1_off58_inb k) (off58 k).1 (off58 k).2) k1_hw26
  have p26 := page_load h9 k 26 _ (word_load hp k 26 (k1_off60 k) (k1_off60_inb k) (off60 k).1 (off60 k).2) k1_hw27
  have p27 := page_load h9 k 27 _ (word_load hp k 27 (k1_off62 k) (k1_off62_inb k) (off62 k).1 (off62 k).2) k1_hw28
  have p28 := page_load h9 k 28 _ (word_load hp k 28 (k1_off65 k) (k1_off65_inb k) (off65 k).1 (off65 k).2) k1_hw29
  have p29 := page_load h9 k 29 _ (word_load hp k 29 (k1_off67 k) (k1_off67_inb k) (off67 k).1 (off67 k).2) k1_hw30
  have p30 := page_load h9 k 30 _ (word_load hp k 30 (k1_off69 k) (k1_off69_inb k) (off69 k).1 (off69 k).2) k1_hw31
  have p31 := page_load h9 k 31 _ (word_load hp k 31 (k1_off71 k) (k1_off71_inb k) (off71 k).1 (off71 k).2) k1_hw32
  rw [← o0, ← o1, ← o2, ← o3, ← o4, ← o5, ← o6, ← o7, ← p0, ← p1, ← p2, ← p3, ← p4, ← p5, ← p6, ← p7, ← p8, ← p9, ← p10, ← p11, ← p12, ← p13, ← p14, ← p15, ← p16, ← p17, ← p18, ← p19, ← p20, ← p21, ← p22, ← p23, ← p24, ← p25, ← p26, ← p27, ← p28, ← p29, ← p30, ← p31]
  rfl

end Cert.TwoTrip

end

end
-- ==== Proof.TwoPay.lean ====
/- What a trip of the second call writes, read at an index from the arrays it loads. -/
module

public import proofs.«01_k».proof.Proof.TwoTrip

@[expose] public section

set_option maxRecDepth 16384

noncomputable section

namespace Cert.TwoTrip

open Idealize.ShloMosaic Idealize.ShloMosaic.TcCoe Idealize.ShloMosaic.Tactic
open Cert.KernelIdeal Cert.KernelIdeal.Gen

/-- The pieces of the 32 rows. -/
def pieces8 (O : Fin 8 → FVec Ideal S4x64 .f32) : List ((s : Shape) × (s.Idx → EReal)) := [⟨S4x64, O 0⟩, ⟨S4x64, O 1⟩, ⟨S4x64, O 2⟩, ⟨S4x64, O 3⟩, ⟨S4x64, O 4⟩, ⟨S4x64, O 5⟩, ⟨S4x64, O 6⟩, ⟨S4x64, O 7⟩]

/-- The pieces of the 32 pages. -/
def pieces32 (P : Fin 32 → FVec Ideal S256x64 .f32) : List ((s : Shape) × (s.Idx → EReal)) := [⟨S256x64, P 0⟩, ⟨S256x64, P 1⟩, ⟨S256x64, P 2⟩, ⟨S256x64, P 3⟩, ⟨S256x64, P 4⟩, ⟨S256x64, P 5⟩, ⟨S256x64, P 6⟩, ⟨S256x64, P 7⟩, ⟨S256x64, P 8⟩, ⟨S256x64, P 9⟩, ⟨S256x64, P 10⟩, ⟨S256x64, P 11⟩, ⟨S256x64, P 12⟩, ⟨S256x64, P 13⟩, ⟨S256x64, P 14⟩, ⟨S256x64, P 15⟩, ⟨S256x64, P 16⟩, ⟨S256x64, P 17⟩, ⟨S256x64, P 18⟩, ⟨S256x64, P 19⟩, ⟨S256x64, P 20⟩, ⟨S256x64, P 21⟩, ⟨S256x64, P 22⟩, ⟨S256x64, P 23⟩, ⟨S256x64, P 24⟩, ⟨S256x64, P 25⟩, ⟨S256x64, P 26⟩, ⟨S256x64, P 27⟩, ⟨S256x64, P 28⟩, ⟨S256x64, P 29⟩, ⟨S256x64, P 30⟩, ⟨S256x64, P 31⟩]

/-- The rows of a trip, stacked: row `r` is row `r % 4` of group `r / 4`. -/
theorem rows32_read (O : Fin 8 → FVec Ideal S4x64 .f32) (g : Fin 8) (a : Fin 4) (r : Fin 32) (hr : r.val = 4 * g.val + a.val) (d : Fin 64) :
    rows32 O (ix2 r d) = O g (ix2 a d) := by
  unfold rows32 k1_pay10
  rw [shapeCast_self]
  have hn : (pieces8 O).length = 8 := rfl
  have hl : ∀ g : Fin 8, (pieces8 O)[g.val]'(lt_of_lt_of_eq g.isLt hn.symm) = ⟨S4x64, O g⟩ := fun g => by
    fin_cases g <;> rfl
  have hs : ∀ g : Fin 8, ((((pieces8 O).take g.val).map (·.1)).map fun s => if h : s.rank = S32x64.rank then s.size ((0 : Fin S32x64.rank).cast h.symm) else 0).sum = 4 * g.val := fun g => by
    fin_cases g <;> rfl
  refine concatenate_apply_piece (t := S32x64) 0 (pieces8 O) _ (ix2 r d) g.val (lt_of_lt_of_eq g.isLt hn.symm) S4x64 (O g) (hl g) rfl (4 * g.val) (hs g) (ix2 a d) ?_ ?_
  · intro b hb
    fin_cases b
    · exact absurd rfl hb
    · rfl
  · exact hr.symm

/-- 8192 rows read as 32 pages. -/
theorem cast_read (x : FVec Ideal S8192x64 .f32) (r : Fin 32) (s : Fin 256) (d : Fin 64) :
    (shapeCast S32x256x64 x shapeCasts_S8192x64_S32x256x64 (ix3 r s d) : EReal) = x (ix2 (TwoValue.row r s) d) := by
  pointwise
  rfl

/-- The pages of a trip, stacked. -/
theorem pages32_read (P : Fin 32 → FVec Ideal S256x64 .f32) (r : Fin 32) (s : Fin 256) (d : Fin 64) :
    pages32 P (ix3 r s d) = P r (ix2 s d) := by
  have hn : (pieces32 P).length = 32 := rfl
  have hl : ∀ g : Fin 32, (pieces32 P)[g.val]'(lt_of_lt_of_eq g.isLt hn.symm) = ⟨S256x64, P g⟩ := fun g => by
    fin_cases g <;> rfl
  have hs : ∀ g : Fin 32, ((((pieces32 P).take g.val).map (·.1)).map fun s => if h : s.rank = S8192x64.rank then s.size ((0 : Fin S8192x64.rank).cast h.symm) else 0).sum = 256 * g.val := fun g => by
    have e : ((pieces32 P).map (·.1)).map (fun s => if h : s.rank = S8192x64.rank then s.size ((0 : Fin S8192x64.rank).cast h.symm) else 0)
        = List.replicate 32 256 := rfl
    rw [List.map_take, List.map_take, e, List.take_replicate, List.sum_replicate]
    have := g.isLt
    rw [min_eq_left (by omega), smul_eq_mul]; omega
  have key : ∀ h, concatenate S8192x64 0 (pieces32 P) h (ix2 (TwoValue.row r s) d) = P r (ix2 s d) := fun h =>
    concatenate_apply_piece (t := S8192x64) 0 (pieces32 P) h (ix2 (TwoValue.row r s) d) r.val (lt_of_lt_of_eq r.isLt hn.symm) S256x64 (P r) (hl r) rfl (256 * r.val) (hs r) (ix2 s d)
      (by
        intro b hb
        fin_cases b
        · exact absurd rfl hb
        · rfl)
      (by show 256 * r.val + s.val = (TwoValue.row r s).val
          show 256 * r.val + s.val = r.val * 256 + s.val
          omega)
  unfold pages32 k1_pay12
  refine Eq.trans ?_ (key concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S8192x64_d0)
  exact cast_read _ r s d

/-- The rows of trip `k`, stacked, are rows `32 k + r` of the array. -/
theorem rowsOf_read (Z : FVec Ideal S2048x64 .f32) (k : Fin k1_t1_loop.trips) (r : Fin 32) (d : Fin 64) (q : Fin 2048) (hq : q.val = 32 * k.val + r.val) :
    (rows32 (rowsOf Z k) (ix2 r d) : EReal) = Z (ix2 q d) := by
  rw [rows32_read (rowsOf Z k) ⟨r.val / 4, by omega⟩ ⟨r.val % 4, by omega⟩ r (by show r.val = 4 * (r.val / 4) + r.val % 4; omega) d]
  unfold rowsOf
  refine congrArg Z ?_
  funext a
  apply Fin.ext
  fin_cases a
  · show 32 * k.val + 4 * (r.val / 4) + r.val % 4 = q.val
    omega
  · rfl

theorem mat32_read (v0 : FVec Ideal S64x64 .f32) (X : FVec Ideal S32x64 .f32) (r : Fin 32) (d : Fin 64) :
    (matmul dot_S32x64_S64x64_S32x64_1_0_0_1_n_n none X v0 (constant S32x64 .f32 0x00000000#32) (ix2 r d) : EReal)
      = ∑ j, (X (ix2 r j) : EReal) * v0 (ix2 j d) := by
  pointwise

/-- The product of the rows with the first matrix. -/
theorem prod32_read (v0 : FVec Ideal S64x64 .f32) (O : Fin 8 → FVec Ideal S4x64 .f32) (r : Fin 32) (d : Fin 64) :
    (prod32 v0 O (ix2 r d) : EReal) = ∑ j, (rows32 O (ix2 r j) : EReal) * v0 (ix2 j d) :=
  mat32_read v0 (rows32 O) r d

/-- What a trip writes, entry by entry. -/
theorem payload_read (v0 v1 v4 : FVec Ideal S64x64 .f32) (v2 : FVec Ideal S1x64 .f32) (Z1 : FVec Ideal S2048x64 .f32) (Z9 : FVec Ideal S18176x64 .f32)
    (page : Fin 512 → Fin 4 → Fin 71) (h0 : ∀ i, Finite.IsReal (v0 i)) (h4 : ∀ i, Finite.IsReal (v4 i)) (h1 : ∀ i, Finite.IsReal (Z1 i)) (h9 : ∀ i, Finite.IsReal (Z9 i))
    (k : Fin k1_t1_loop.trips) (r : Fin 32) (d : Fin 64) (q : Fin 2048) (hq : q.val = 32 * k.val + r.val)
    (b : Fin 512) (j : Fin 4) (hb : q.val = 4 * b.val + j.val) :
    (payload v0 v1 v2 v4 (rowsOf Z1 k) (pageOf Z9 page k) (ix2 r d) : EReal)
      = Spec.two (fun s d => (Z9 (ix2 ⟨(page b j).val * 256 + s.val, by have := (page b j).isLt; omega⟩ d) : EReal) - ∑ i, (Z1 (ix2 q i) : EReal) * v0 (ix2 i d))
          (fun i => Z1 (ix2 q i)) (TwoValue.cur v1) (TwoValue.curBias v2) (TwoValue.cur v4) d := by
  have hd : ∀ (r : Fin 32) (q : Fin 2048) (hq : q.val = 32 * k.val + r.val), TwoValue.diff (prod32 v0 (rowsOf Z1 k)) (pages32 (pageOf Z9 page k)) r
      = fun s d => (pageOf Z9 page k r (ix2 s d) : EReal) - ∑ i, (Z1 (ix2 q i) : EReal) * v0 (ix2 i d) := fun r q hq => by
    funext s d
    unfold TwoValue.diff
    rw [pages32_read, prod32_read]
    simp only [rowsOf_read Z1 k r _ q hq]
  unfold payload k1_pay1
  rw [shapeCast_self, TwoValue.trip_read v1 v4 v2 _ _ _ ?_ (fun k d => h4 _) r d, hd r q hq]
  · have e1 : TwoValue.curRow (rows32 (rowsOf Z1 k)) r = fun i => Z1 (ix2 q i) := funext fun i => rowsOf_read Z1 k r i q hq
    rw [e1]
    have hbk : tableRow k r = b := Fin.ext (by show 8 * k.val + r.val / 4 = b.val; omega)
    have hjr : tableCol r = j := Fin.ext (by show r.val % 4 = j.val; omega)
    subst hbk hjr
    rfl
  · intro r s d
    rw [hd r ⟨32 * k.val + r.val, by have := trip_lt k; omega⟩ rfl]
    exact Finite.IsReal.sub (h9 _) (Finite.IsReal.sum fun i => Finite.IsReal.mul (h1 _) (h0 _))

end Cert.TwoTrip

end

end
-- ==== Proof.TwoLoop.lean ====
/- The second call's loop: its 64 pieces read back. -/
module

public import proofs.«01_k».proof.Proof.TwoPay
public import Idealize.ShloMosaic.Lib.Pipeline.ReadBack

@[expose] public section

set_option maxRecDepth 16384

noncomputable section

namespace Cert.TwoLoop

open Idealize.ShloMosaic Idealize.ShloMosaic.TcCoe Idealize.ShloMosaic.Tactic
open Cert.TwoTrip
open Cert.KernelIdeal Cert.KernelIdeal.Gen Cert.KernelIdeal.Whole

/-- What the pages and the rows of a trip give, at row `q` of the result. -/
def two (Z1 : FVec Ideal S2048x64 .f32) (Z9 : FVec Ideal S18176x64 .f32) (page : Fin 512 → Fin 4 → Fin 71)
    (v0 v1 : FVec Ideal S64x64 .f32) (v2 : FVec Ideal S1x64 .f32) (v4 : FVec Ideal S64x64 .f32) (q : Fin 2048) (d : Fin 64) : EReal :=
  Spec.two (fun s d => (Z9 (ix2 ⟨(page ⟨q.val / 4, by omega⟩ ⟨q.val % 4, by omega⟩).val * 256 + s.val,
        by have := (page ⟨q.val / 4, by omega⟩ ⟨q.val % 4, by omega⟩).isLt; omega⟩ d) : EReal) - ∑ i, (Z1 (ix2 q i) : EReal) * v0 (ix2 i d))
    (fun i => Z1 (ix2 q i)) (TwoValue.cur v1) (TwoValue.curBias v2) (TwoValue.cur v4) d

/-- The same as an array. -/
def twoArr (Z1 : FVec Ideal S2048x64 .f32) (Z9 : FVec Ideal S18176x64 .f32) (page : Fin 512 → Fin 4 → Fin 71)
    (v0 v1 : FVec Ideal S64x64 .f32) (v2 : FVec Ideal S1x64 .f32) (v4 : FVec Ideal S64x64 .f32) : FVec Ideal S2048x64 .f32 :=
  fun y => two Z1 Z9 page v0 v1 v2 v4 ⟨(y 0).val, (y 0).isLt⟩ ⟨(y 1).val, (y 1).isLt⟩

theorem off73 : ∀ k : Fin k1_t1_loop.trips, k1_off73 k 0 = 32 * k.val ∧ k1_off73 k 1 = 0 := by decide +kernel

/-- A trip's piece is a block of that array. -/
theorem block (Z1 : FVec Ideal S2048x64 .f32) (Z9 : FVec Ideal S18176x64 .f32) (page : Fin 512 → Fin 4 → Fin 71)
    (v0 v1 : FVec Ideal S64x64 .f32) (v2 : FVec Ideal S1x64 .f32) (v4 : FVec Ideal S64x64 .f32)
    (r0 : ∀ i, Finite.IsReal (v0 i)) (r4 : ∀ i, Finite.IsReal (v4 i)) (r1 : ∀ i, Finite.IsReal (Z1 i)) (r9 : ∀ i, Finite.IsReal (Z9 i))
    (k : Fin k1_t1_loop.trips) (x : S32x64.Idx) :
    payload v0 v1 v2 v4 (rowsOf Z1 k) (pageOf Z9 page k) x
      = twoArr Z1 Z9 page v0 v1 v2 v4 ((Rect.unit (s := S2048x64) (k1_off73 k) S32x64.size (k1_off73_inb k)).emb x) := by
  obtain ⟨r, hr⟩ : ∃ r : Fin 32, r = ⟨(x 0).val, (x 0).isLt⟩ := ⟨_, rfl⟩
  obtain ⟨d, hd⟩ : ∃ d : Fin 64, d = ⟨(x 1).val, (x 1).isLt⟩ := ⟨_, rfl⟩
  have ex : x = ix2 r d := by
    subst hr hd
    funext a
    fin_cases a <;> rfl
  rw [ex]
  have hk := trip_lt k
  have h := payload_read v0 v1 v4 v2 Z1 Z9 page r0 r4 r1 r9 k r d ⟨32 * k.val + r.val, by omega⟩ rfl
    ⟨(32 * k.val + r.val) / 4, by omega⟩ ⟨(32 * k.val + r.val) % 4, by omega⟩ (by show 32 * k.val + r.val = 4 * ((32 * k.val + r.val) / 4) + (32 * k.val + r.val) % 4; omega)
  refine h.trans ?_
  have e0 : (((Rect.unit (s := S2048x64) (k1_off73 k) S32x64.size (k1_off73_inb k)).emb (ix2 r d)) 0).val = 32 * k.val + r.val := by
    show k1_off73 k 0 + 1 * r.val = _
    rw [(off73 k).1]; omega
  have e1 : (((Rect.unit (s := S2048x64) (k1_off73 k) S32x64.size (k1_off73_inb k)).emb (ix2 r d)) 1).val = d.val := by
    show k1_off73 k 1 + 1 * d.val = _
    rw [(off73 k).2]; omega
  unfold twoArr
  rw [show (⟨(((Rect.unit (s := S2048x64) (k1_off73 k) S32x64.size (k1_off73_inb k)).emb (ix2 r d)) 0).val, (((Rect.unit (s := S2048x64) (k1_off73 k) S32x64.size (k1_off73_inb k)).emb (ix2 r d)) 0).isLt⟩ : Fin 2048) = ⟨32 * k.val + r.val, by omega⟩ from Fin.ext e0,
    show (⟨(((Rect.unit (s := S2048x64) (k1_off73 k) S32x64.size (k1_off73_inb k)).emb (ix2 r d)) 1).val, (((Rect.unit (s := S2048x64) (k1_off73 k) S32x64.size (k1_off73_inb k)).emb (ix2 r d)) 1).isLt⟩ : Fin 64) = d from Fin.ext e1]
  rfl

set_option maxHeartbeats 1000000 in
/-- The pieces of the first `n` trips are blocks of that array. -/
theorem pieces_of (𝒱 : Variants) (c : Dev nD) (bd : Option 𝒱.V) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole) (v0 : Vec Ideal S64x64 .f32) (v1 : Vec Ideal S64x64 .f32) (v2 : Vec Ideal S1x64 .f32) (v4 : Vec Ideal S64x64 .f32) (X_arg0 : BufTy.Contents (Elt Ideal) arg0.view.ty) (X_arg1 : BufTy.Contents (Elt Ideal) arg1.view.ty) (X_arg9 : BufTy.Contents (Elt Ideal) arg9.view.ty) (k1_hw1L : ∀ (kq : ℕ) (hkq : kq < k1_t1_loop.trips), k1_chk1 (arg0.view.readAt (Elt Ideal) (Rect.unit (s := S512x4) (k1_off2 ⟨kq, hkq⟩) S1x1.size (k1_off2_inb ⟨kq, hkq⟩)).toLoadRect X_arg0 (Shape.Idx.first (numel1_S1x1.symm ▸ Nat.one_pos)))) (k1_hw2L : ∀ (kq : ℕ) (hkq : kq < k1_t1_loop.trips), k1_chk2 (arg0.view.readAt (Elt Ideal) (Rect.unit (s := S512x4) (k1_off4 ⟨kq, hkq⟩) S1x1.size (k1_off4_inb ⟨kq, hkq⟩)).toLoadRect X_arg0 (Shape.Idx.first (numel1_S1x1.symm ▸ Nat.one_pos)))) (k1_hw3L : ∀ (kq : ℕ) (hkq : kq < k1_t1_loop.trips), k1_chk3 (arg0.view.readAt (Elt Ideal) (Rect.unit (s := S512x4) (k1_off6 ⟨kq, hkq⟩) S1x1.size (k1_off6_inb ⟨kq, hkq⟩)).toLoadRect X_arg0 (Shape.Idx.first (numel1_S1x1.symm ▸ Nat.one_pos)))) (k1_hw4L : ∀ (kq : ℕ) (hkq : kq < k1_t1_loop.trips), k1_chk4 (arg0.view.readAt (Elt Ideal) (Rect.unit (s := S512x4) (k1_off8 ⟨kq, hkq⟩) S1x1.size (k1_off8_inb ⟨kq, hkq⟩)).toLoadRect X_arg0 (Shape.Idx.first (numel1_S1x1.symm ▸ Nat.one_pos)))) (k1_hw5L : ∀ (kq : ℕ) (hkq : kq < k1_t1_loop.trips), k1_chk5 (arg0.view.readAt (Elt Ideal) (Rect.unit (s := S512x4) (k1_off11 ⟨kq, hkq⟩) S1x1.size (k1_off11_inb ⟨kq, hkq⟩)).toLoadRect X_arg0 (Shape.Idx.first (numel1_S1x1.symm ▸ Nat.one_pos)))) (k1_hw6L : ∀ (kq : ℕ) (hkq : kq < k1_t1_loop.trips), k1_chk6 (arg0.view.readAt (Elt Ideal) (Rect.unit (s := S512x4) (k1_off13 ⟨kq, hkq⟩) S1x1.size (k1_off13_inb ⟨kq, hkq⟩)).toLoadRect X_arg0 (Shape.Idx.first (numel1_S1x1.symm ▸ Nat.one_pos)))) (k1_hw7L : ∀ (kq : ℕ) (hkq : kq < k1_t1_loop.trips), k1_chk7 (arg0.view.readAt (Elt Ideal) (Rect.unit (s := S512x4) (k1_off15 ⟨kq, hkq⟩) S1x1.size (k1_off15_inb ⟨kq, hkq⟩)).toLoadRect X_arg0 (Shape.Idx.first (numel1_S1x1.symm ▸ Nat.one_pos)))) (k1_hw8L : ∀ (kq : ℕ) (hkq : kq < k1_t1_loop.trips), k1_chk8 (arg0.view.readAt (Elt Ideal) (Rect.unit (s := S512x4) (k1_off17 ⟨kq, hkq⟩) S1x1.size (k1_off17_inb ⟨kq, hkq⟩)).toLoadRect X_arg0 (Shape.Idx.first (numel1_S1x1.symm ▸ Nat.one_pos)))) (k1_hw9L : ∀ (kq : ℕ) (hkq : kq < k1_t1_loop.trips), k1_chk9 (arg0.view.readAt (Elt Ideal) (Rect.unit (s := S512x4) (k1_off20 ⟨kq, hkq⟩) S1x1.size (k1_off20_inb ⟨kq, hkq⟩)).toLoadRect X_arg0 (Shape.Idx.first (numel1_S1x1.symm ▸ Nat.one_pos)))) (k1_hw10L : ∀ (kq : ℕ) (hkq : kq < k1_t1_loop.trips), k1_chk10 (arg0.view.readAt (Elt Ideal) (Rect.unit (s := S512x4) (k1_off22 ⟨kq, hkq⟩) S1x1.size (k1_off22_inb ⟨kq, hkq⟩)).toLoadRect X_arg0 (Shape.Idx.first (numel1_S1x1.symm ▸ Nat.one_pos)))) (k1_hw11L : ∀ (kq : ℕ) (hkq : kq < k1_t1_loop.trips), k1_chk11 (arg0.view.readAt (Elt Ideal) (Rect.unit (s := S512x4) (k1_off24 ⟨kq, hkq⟩) S1x1.size (k1_off24_inb ⟨kq, hkq⟩)).toLoadRect X_arg0 (Shape.Idx.first (numel1_S1x1.symm ▸ Nat.one_pos)))) (k1_hw12L : ∀ (kq : ℕ) (hkq : kq < k1_t1_loop.trips), k1_chk12 (arg0.view.readAt (Elt Ideal) (Rect.unit (s := S512x4) (k1_off26 ⟨kq, hkq⟩) S1x1.size (k1_off26_inb ⟨kq, hkq⟩)).toLoadRect X_arg0 (Shape.Idx.first (numel1_S1x1.symm ▸ Nat.one_pos)))) (k1_hw13L : ∀ (kq : ℕ) (hkq : kq < k1_t1_loop.trips), k1_chk13 (arg0.view.readAt (Elt Ideal) (Rect.unit (s := S512x4) (k1_off29 ⟨kq, hkq⟩) S1x1.size (k1_off29_inb ⟨kq, hkq⟩)).toLoadRect X_arg0 (Shape.Idx.first (numel1_S1x1.symm ▸ Nat.one_pos)))) (k1_hw14L : ∀ (kq : ℕ) (hkq : kq < k1_t1_loop.trips), k1_chk14 (arg0.view.readAt (Elt Ideal) (Rect.unit (s := S512x4) (k1_off31 ⟨kq, hkq⟩) S1x1.size (k1_off31_inb ⟨kq, hkq⟩)).toLoadRect X_arg0 (Shape.Idx.first (numel1_S1x1.symm ▸ Nat.one_pos)))) (k1_hw15L : ∀ (kq : ℕ) (hkq : kq < k1_t1_loop.trips), k1_chk15 (arg0.view.readAt (Elt Ideal) (Rect.unit (s := S512x4) (k1_off33 ⟨kq, hkq⟩) S1x1.size (k1_off33_inb ⟨kq, hkq⟩)).toLoadRect X_arg0 (Shape.Idx.first (numel1_S1x1.symm ▸ Nat.one_pos)))) (k1_hw16L : ∀ (kq : ℕ) (hkq : kq < k1_t1_loop.trips), k1_chk16 (arg0.view.readAt (Elt Ideal) (Rect.unit (s := S512x4) (k1_off35 ⟨kq, hkq⟩) S1x1.size (k1_off35_inb ⟨kq, hkq⟩)).toLoadRect X_arg0 (Shape.Idx.first (numel1_S1x1.symm ▸ Nat.one_pos)))) (k1_hw17L : ∀ (kq : ℕ) (hkq : kq < k1_t1_loop.trips), k1_chk17 (arg0.view.readAt (Elt Ideal) (Rect.unit (s := S512x4) (k1_off38 ⟨kq, hkq⟩) S1x1.size (k1_off38_inb ⟨kq, hkq⟩)).toLoadRect X_arg0 (Shape.Idx.first (numel1_S1x1.symm ▸ Nat.one_pos)))) (k1_hw18L : ∀ (kq : ℕ) (hkq : kq < k1_t1_loop.trips), k1_chk18 (arg0.view.readAt (Elt Ideal) (Rect.unit (s := S512x4) (k1_off40 ⟨kq, hkq⟩) S1x1.size (k1_off40_inb ⟨kq, hkq⟩)).toLoadRect X_arg0 (Shape.Idx.first (numel1_S1x1.symm ▸ Nat.one_pos)))) (k1_hw19L : ∀ (kq : ℕ) (hkq : kq < k1_t1_loop.trips), k1_chk19 (arg0.view.readAt (Elt Ideal) (Rect.unit (s := S512x4) (k1_off42 ⟨kq, hkq⟩) S1x1.size (k1_off42_inb ⟨kq, hkq⟩)).toLoadRect X_arg0 (Shape.Idx.first (numel1_S1x1.symm ▸ Nat.one_pos)))) (k1_hw20L : ∀ (kq : ℕ) (hkq : kq < k1_t1_loop.trips), k1_chk20 (arg0.view.readAt (Elt Ideal) (Rect.unit (s := S512x4) (k1_off44 ⟨kq, hkq⟩) S1x1.size (k1_off44_inb ⟨kq, hkq⟩)).toLoadRect X_arg0 (Shape.Idx.first (numel1_S1x1.symm ▸ Nat.one_pos)))) (k1_hw21L : ∀ (kq : ℕ) (hkq : kq < k1_t1_loop.trips), k1_chk21 (arg0.view.readAt (Elt Ideal) (Rect.unit (s := S512x4) (k1_off47 ⟨kq, hkq⟩) S1x1.size (k1_off47_inb ⟨kq, hkq⟩)).toLoadRect X_arg0 (Shape.Idx.first (numel1_S1x1.symm ▸ Nat.one_pos)))) (k1_hw22L : ∀ (kq : ℕ) (hkq : kq < k1_t1_loop.trips), k1_chk22 (arg0.view.readAt (Elt Ideal) (Rect.unit (s := S512x4) (k1_off49 ⟨kq, hkq⟩) S1x1.size (k1_off49_inb ⟨kq, hkq⟩)).toLoadRect X_arg0 (Shape.Idx.first (numel1_S1x1.symm ▸ Nat.one_pos)))) (k1_hw23L : ∀ (kq : ℕ) (hkq : kq < k1_t1_loop.trips), k1_chk23 (arg0.view.readAt (Elt Ideal) (Rect.unit (s := S512x4) (k1_off51 ⟨kq, hkq⟩) S1x1.size (k1_off51_inb ⟨kq, hkq⟩)).toLoadRect X_arg0 (Shape.Idx.first (numel1_S1x1.symm ▸ Nat.one_pos)))) (k1_hw24L : ∀ (kq : ℕ) (hkq : kq < k1_t1_loop.trips), k1_chk24 (arg0.view.readAt (Elt Ideal) (Rect.unit (s := S512x4) (k1_off53 ⟨kq, hkq⟩) S1x1.size (k1_off53_inb ⟨kq, hkq⟩)).toLoadRect X_arg0 (Shape.Idx.first (numel1_S1x1.symm ▸ Nat.one_pos)))) (k1_hw25L : ∀ (kq : ℕ) (hkq : kq < k1_t1_loop.trips), k1_chk25 (arg0.view.readAt (Elt Ideal) (Rect.unit (s := S512x4) (k1_off56 ⟨kq, hkq⟩) S1x1.size (k1_off56_inb ⟨kq, hkq⟩)).toLoadRect X_arg0 (Shape.Idx.first (numel1_S1x1.symm ▸ Nat.one_pos)))) (k1_hw26L : ∀ (kq : ℕ) (hkq : kq < k1_t1_loop.trips), k1_chk26 (arg0.view.readAt (Elt Ideal) (Rect.unit (s := S512x4) (k1_off58 ⟨kq, hkq⟩) S1x1.size (k1_off58_inb ⟨kq, hkq⟩)).toLoadRect X_arg0 (Shape.Idx.first (numel1_S1x1.symm ▸ Nat.one_pos)))) (k1_hw27L : ∀ (kq : ℕ) (hkq : kq < k1_t1_loop.trips), k1_chk27 (arg0.view.readAt (Elt Ideal) (Rect.unit (s := S512x4) (k1_off60 ⟨kq, hkq⟩) S1x1.size (k1_off60_inb ⟨kq, hkq⟩)).toLoadRect X_arg0 (Shape.Idx.first (numel1_S1x1.symm ▸ Nat.one_pos)))) (k1_hw28L : ∀ (kq : ℕ) (hkq : kq < k1_t1_loop.trips), k1_chk28 (arg0.view.readAt (Elt Ideal) (Rect.unit (s := S512x4) (k1_off62 ⟨kq, hkq⟩) S1x1.size (k1_off62_inb ⟨kq, hkq⟩)).toLoadRect X_arg0 (Shape.Idx.first (numel1_S1x1.symm ▸ Nat.one_pos)))) (k1_hw29L : ∀ (kq : ℕ) (hkq : kq < k1_t1_loop.trips), k1_chk29 (arg0.view.readAt (Elt Ideal) (Rect.unit (s := S512x4) (k1_off65 ⟨kq, hkq⟩) S1x1.size (k1_off65_inb ⟨kq, hkq⟩)).toLoadRect X_arg0 (Shape.Idx.first (numel1_S1x1.symm ▸ Nat.one_pos)))) (k1_hw30L : ∀ (kq : ℕ) (hkq : kq < k1_t1_loop.trips), k1_chk30 (arg0.view.readAt (Elt Ideal) (Rect.unit (s := S512x4) (k1_off67 ⟨kq, hkq⟩) S1x1.size (k1_off67_inb ⟨kq, hkq⟩)).toLoadRect X_arg0 (Shape.Idx.first (numel1_S1x1.symm ▸ Nat.one_pos)))) (k1_hw31L : ∀ (kq : ℕ) (hkq : kq < k1_t1_loop.trips), k1_chk31 (arg0.view.readAt (Elt Ideal) (Rect.unit (s := S512x4) (k1_off69 ⟨kq, hkq⟩) S1x1.size (k1_off69_inb ⟨kq, hkq⟩)).toLoadRect X_arg0 (Shape.Idx.first (numel1_S1x1.symm ▸ Nat.one_pos)))) (k1_hw32L : ∀ (kq : ℕ) (hkq : kq < k1_t1_loop.trips), k1_chk32 (arg0.view.readAt (Elt Ideal) (Rect.unit (s := S512x4) (k1_off71 ⟨kq, hkq⟩) S1x1.size (k1_off71_inb ⟨kq, hkq⟩)).toLoadRect X_arg0 (Shape.Idx.first (numel1_S1x1.symm ▸ Nat.one_pos))))
    {Z1 : FVec Ideal S2048x64 .f32} (h1 : arg1.view.read (Elt Ideal) X_arg1 = Z1) {Z9 : FVec Ideal S18176x64 .f32} (h9 : arg9.view.read (Elt Ideal) X_arg9 = Z9)
    {page : Fin 512 → Fin 4 → Fin 71} (hp : ∀ b j, (arg0.view.read (Elt Ideal) X_arg0 (ix2 b j) : BitVec 32).toNat = (page b j).val)
    (r0 : ∀ i, Finite.IsReal (v0 i)) (r4 : ∀ i, Finite.IsReal (v4 i)) (r1 : ∀ i, Finite.IsReal (Z1 i)) (r9 : ∀ i, Finite.IsReal (Z9 i)) :
    ∀ n : ℕ, n ≤ k1_t1_loop.trips → View.PiecesOf (Val := Elt Ideal) (e := .f32) (twoArr Z1 Z9 page v0 v1 v2 v4) (pb_k1_t1 (F := Ideal) 𝒱 c bd arg0 harg0 arg1 harg1 arg2 harg2 arg3 harg3 arg4 harg4 arg5 harg5 arg6 harg6 arg7 harg7 arg8 harg8 arg9 harg9 v0 v1 v2 v4 X_arg0 X_arg1 X_arg9 k1_hw1L k1_hw2L k1_hw3L k1_hw4L k1_hw5L k1_hw6L k1_hw7L k1_hw8L k1_hw9L k1_hw10L k1_hw11L k1_hw12L k1_hw13L k1_hw14L k1_hw15L k1_hw16L k1_hw17L k1_hw18L k1_hw19L k1_hw20L k1_hw21L k1_hw22L k1_hw23L k1_hw24L k1_hw25L k1_hw26L k1_hw27L k1_hw28L k1_hw29L k1_hw30L k1_hw31L k1_hw32L n)
  | 0, _ => by
    rw [pb_k1_t1.eq_1]; exact trivial
  | n + 1, hn => by
    rw [pb_k1_t1_succ (F := Ideal) 𝒱 c bd arg0 harg0 arg1 harg1 arg2 harg2 arg3 harg3 arg4 harg4 arg5 harg5 arg6 harg6 arg7 harg7 arg8 harg8 arg9 harg9 v0 v1 v2 v4 X_arg0 X_arg1 X_arg9 k1_hw1L k1_hw2L k1_hw3L k1_hw4L k1_hw5L k1_hw6L k1_hw7L k1_hw8L k1_hw9L k1_hw10L k1_hw11L k1_hw12L k1_hw13L k1_hw14L k1_hw15L k1_hw16L k1_hw17L k1_hw18L k1_hw19L k1_hw20L k1_hw21L k1_hw22L k1_hw23L k1_hw24L k1_hw25L k1_hw26L k1_hw27L k1_hw28L k1_hw29L k1_hw30L k1_hw31L k1_hw32L ⟨n, hn⟩,
      trip_at 𝒱 c bd arg0 harg0 arg1 harg1 arg2 harg2 arg3 harg3 arg4 harg4 arg5 harg5 arg6 harg6 arg7 harg7 arg8 harg8 arg9 harg9 v0 v1 v2 v4 X_arg0 X_arg1 X_arg9 ⟨n, hn⟩ _ _ _ _ _ _ _ _ _ _ _ _ _ _ _ _ _ _ _ _ _ _ _ _ _ _ _ _ _ _ _ _ h1 h9 hp]
    exact ⟨fun x => block Z1 Z9 page v0 v1 v2 v4 r0 r4 r1 r9 ⟨n, hn⟩ x, pieces_of 𝒱 c bd arg0 harg0 arg1 harg1 arg2 harg2 arg3 harg3 arg4 harg4 arg5 harg5 arg6 harg6 arg7 harg7 arg8 harg8 arg9 harg9 v0 v1 v2 v4 X_arg0 X_arg1 X_arg9 k1_hw1L k1_hw2L k1_hw3L k1_hw4L k1_hw5L k1_hw6L k1_hw7L k1_hw8L k1_hw9L k1_hw10L k1_hw11L k1_hw12L k1_hw13L k1_hw14L k1_hw15L k1_hw16L k1_hw17L k1_hw18L k1_hw19L k1_hw20L k1_hw21L k1_hw22L k1_hw23L k1_hw24L k1_hw25L k1_hw26L k1_hw27L k1_hw28L k1_hw29L k1_hw30L k1_hw31L k1_hw32L h1 h9 hp r0 r4 r1 r9 n (Nat.le_of_succ_le hn)⟩

theorem whole_load {S : Shape} {e : EltTy} {sp : Space} {arg : Memref sig .tc sp S e} (h : arg.IsWhole) (x : Vec Ideal S e)
    {off : Fin S.rank → Nat} (inb : ∀ a, off a + S.size a ≤ S.size a) (h0 : ∀ a, off a = 0) :
    arg.view.readAt (Elt Ideal) (Rect.unit off S.size inb).toLoadRect (h.unread x) = x := by
  rw [View.readAt_eq_ld, h.read_unread]
  exact View.ld_unit_lit inb x h0

set_option maxHeartbeats 1000000 in
/-- What the second call leaves in its result. -/
theorem out_read (c : Dev nD) (arg0 : Memref sig .tc .smem S512x4 .i32) (harg0 : arg0.IsWhole) (arg1 : Memref sig .tc .vmem S2048x64 .f32) (harg1 : arg1.IsWhole) (arg2 : Memref sig .tc .vmem S18176x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S2048x64 .f32) (harg8 : arg8.IsWhole) (arg9 : Memref sig .tc .vmem S18176x64 .f32) (harg9 : arg9.IsWhole)
    (x0 : Vec Ideal S512x4 .i32) (x1 : FVec Ideal S2048x64 .f32) (x2 : FVec Ideal S18176x64 .f32) (x3 : FVec Ideal S64x64 .f32) (x4 : FVec Ideal S1x64 .f32) (x5 : FVec Ideal S64x64 .f32) (x6 : FVec Ideal S1x64 .f32) (x7 : FVec Ideal S64x64 .f32) (hx : ∀ i, (x0 i : BitVec 32).toNat < 71)
    {page : Fin 512 → Fin 4 → Fin 71} (hp : ∀ b j, (x0 (ix2 b j) : BitVec 32).toNat = (page b j).val)
    (r0 : ∀ i, Finite.IsReal (x3 i)) (r4 : ∀ i, Finite.IsReal (x7 i)) (r1 : ∀ i, Finite.IsReal (x1 i))
    (r9 : ∀ i, Finite.IsReal (k1_pay2 (F := Ideal) x3 x2 x4 i)) :
    out1_8 c arg0 harg0 arg1 harg1 arg2 harg2 arg3 harg3 arg4 harg4 arg5 harg5 arg6 harg6 arg7 harg7 arg8 harg8 arg9 harg9 x0 x1 x2 x3 x4 x5 x6 x7 hx = twoArr x1 (k1_pay2 (F := Ideal) x3 x2 x4) page x3 x5 x6 x7 := by
  funext y
  unfold out1_8
  rw [View.read_writes_junk_apply_eq_canon]
  refine (congrArg (fun l => View.canon l y) (List.append_nil _).symm).trans ?_
  refine View.canon_append_of_piecesOf (twoArr x1 (k1_pay2 (F := Ideal) x3 x2 x4) page x3 x5 x6 x7) [] _ ?_ y (cover1_8 c arg0 harg0 arg1 harg1 arg2 harg2 arg3 harg3 arg4 harg4 arg5 harg5 arg6 harg6 arg7 harg7 arg8 harg8 arg9 harg9 x0 x1 x2 x3 x4 x5 x6 x7 hx y)
  unfold kernelRun1 kernelRun1_A
  dsimp only
  have e3 := whole_load harg3 x3 inb_S64x64_S64x64_0_0 (by decide)
  have e5 := whole_load harg5 x5 inb_S64x64_S64x64_0_0 (by decide)
  have e6 := whole_load harg6 x6 inb_S1x64_S1x64_0_0 (by decide)
  have e7 := whole_load harg7 x7 inb_S64x64_S64x64_0_0 (by decide)
  have h9 : arg9.view.read (Elt Ideal) (arg9.view.writes (Elt Ideal) arg9.view.junk (kernelRun1_A.sl.HS0_1 c arg2 harg2 arg3 harg3 arg4 harg4 x2 x3 x4))
      = k1_pay2 (F := Ideal) x3 x2 x4 := by
    rw [View.read_writes_junk_eq_canon]
    unfold kernelRun1_A.sl.HS0_1
    have e2 := whole_load harg2 x2 inb_S18176x64_S18176x64_0_0 (by decide)
    have e4 := whole_load harg4 x4 inb_S1x64_S1x64_0_0 (by decide)
    rw [e3, e2, e4]
    exact View.canon_cons_unit_lit inb_S18176x64_S18176x64_0_0 _ _ (by decide)
  have h1 : arg1.view.read (Elt Ideal) (harg1.unread x1) = x1 := harg1.read_unread (Val := Elt Ideal) (x1 : Vec Ideal S2048x64 .f32)
  have h0 : ∀ b j, (arg0.view.read (Elt Ideal) (harg0.unread x0) (ix2 b j) : BitVec 32).toNat = (page b j).val := fun b j => by
    rw [harg0.read_unread]; exact hp b j
  rw [e3, e5, e6, e7]
  exact pieces_of Variants.none c none arg0 harg0 arg1 harg1 arg2 harg2 arg3 harg3 arg4 harg4 arg5 harg5 arg6 harg6 arg7 harg7 arg8 harg8 arg9 harg9
    x3 x5 x6 x7 (harg0.unread x0) (harg1.unread x1) _ (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _)) (fun _ _ => chk_of_lt _ (word harg0 hx _ _))
    h1 h9 h0 r0 r4 r1 r9 k1_t1_loop.trips le_rfl

end Cert.TwoLoop

end

end
-- ==== Proof.OneStack.lean ====
/- The first result of the kernel: the four arrays of the first call stacked, entry by entry, and the words of the choices. -/
module

public import proofs.«01_k».proof.Proof.OneValue
public import proofs.«01_k».proof.Proof.OneRead

@[expose] public section

set_option maxRecDepth 16384

noncomputable section

namespace Cert.OneStack

open Idealize.ShloMosaic Idealize.ShloMosaic.TcCoe Cert.KernelIdeal Cert.KernelIdeal.Whole Cert.Pick Cert.OneSel Cert.OneValue Cert.OneRead
open Cert.KernelIdeal.Gen hiding V0 V1 V2 V3 V4 V5

abbrev cur3 {p q r : ℕ} (X : FVec Ideal ⟨3, ![p, q, r]⟩ .f32) : Fin p → Fin q → Fin r → EReal := fun i j k => X (ix3 i j k)

/-- The four nearest means of each token. -/
def chosen (T : Fin 512 → Fin 64 → EReal) (B : Fin 71 → Fin 256 → Fin 64 → EReal) (j : Fin 4) (b : Fin 512) (k : Fin 64) : EReal :=
  Spec.mean B (sel (Spec.dist T B b) j) k

section
variable (x0 : Vec Ideal S512x64 .f32) (x1 : Vec Ideal S71x256x64 .f32) (x2 : Vec Ideal S64x64 .f32) (x3 : Vec Ideal S1x64 .f32) (x4 : Vec Ideal S64x64 .f32) (x5 : Vec Ideal S1x64 .f32) (x6 : Vec Ideal S64x64 .f32)

theorem mean_read (c : Fin 71) (k : Fin 64) : k0_pay1 x1 (ix2 c k) = Spec.mean (cur3 x1) c k := by
  unfold k0_pay1
  pointwise
  rfl

theorem dists_read (b : Fin 512) : dists x0 x1 b = Spec.dist (cur2 x0) (cur3 x1) b := by
  funext c
  show k0_pay4 x0 x1 (ix2 b c) = _
  unfold k0_pay4 k0_pay1
  pointwise
  rfl

theorem near_0 (b : Fin 512) (d : Fin 64) : k0_pay53 x0 x1 x2 x3 x4 x5 x6 (ix2 b d) = chosen (cur2 x0) (cur3 x1) 0 b d := by
  have h := near0 (k0_pay51 x0 x1 x2 x3 x4 x5 x6) (k0_pay52 x0 x1 x2 x3 x4 x5 x6) (first_word x0 x1 x2 x3 x4 x5 x6) (k0_pay48 x0 x1 x2 x3 x4 x5 x6) b d
  rw [row51, dists_read] at h
  refine Eq.trans h ?_
  unfold k0_pay48
  rw [ld1]
  exact mean_read x1 _ d
theorem near_1 (b : Fin 512) (d : Fin 64) : k0_pay55 x0 x1 x2 x3 x4 x5 x6 (ix2 b d) = chosen (cur2 x0) (cur3 x1) 1 b d := by
  have h := near1 (k0_pay51 x0 x1 x2 x3 x4 x5 x6) (k0_pay52 x0 x1 x2 x3 x4 x5 x6) (first_word x0 x1 x2 x3 x4 x5 x6) (k0_pay48 x0 x1 x2 x3 x4 x5 x6) b d
  rw [row51, dists_read] at h
  refine Eq.trans h ?_
  unfold k0_pay48
  rw [ld1]
  exact mean_read x1 _ d
theorem near_2 (b : Fin 512) (d : Fin 64) : k0_pay57 x0 x1 x2 x3 x4 x5 x6 (ix2 b d) = chosen (cur2 x0) (cur3 x1) 2 b d := by
  have h := near2 (k0_pay51 x0 x1 x2 x3 x4 x5 x6) (k0_pay52 x0 x1 x2 x3 x4 x5 x6) (first_word x0 x1 x2 x3 x4 x5 x6) (k0_pay48 x0 x1 x2 x3 x4 x5 x6) b d
  rw [row51, dists_read] at h
  refine Eq.trans h ?_
  unfold k0_pay48
  rw [ld1]
  exact mean_read x1 _ d
theorem near_3 (b : Fin 512) (d : Fin 64) : k0_pay58 x0 x1 x2 x3 x4 x5 x6 (ix2 b d) = chosen (cur2 x0) (cur3 x1) 3 b d := by
  have h := near3 (k0_pay51 x0 x1 x2 x3 x4 x5 x6) (k0_pay52 x0 x1 x2 x3 x4 x5 x6) (first_word x0 x1 x2 x3 x4 x5 x6) (k0_pay48 x0 x1 x2 x3 x4 x5 x6) b d
  rw [row51, dists_read] at h
  refine Eq.trans h ?_
  unfold k0_pay48
  rw [ld1]
  exact mean_read x1 _ d

theorem near4_read : near4 (k0_pay53 x0 x1 x2 x3 x4 x5 x6) (k0_pay55 x0 x1 x2 x3 x4 x5 x6) (k0_pay57 x0 x1 x2 x3 x4 x5 x6) (k0_pay58 x0 x1 x2 x3 x4 x5 x6)
    = chosen (cur2 x0) (cur3 x1) := by
  funext j b d
  rcases (by decide : ∀ j : Fin 4, j = 0 ∨ j = 1 ∨ j = 2 ∨ j = 3) j with rfl | rfl | rfl | rfl
  · exact near_0 x0 x1 x2 x3 x4 x5 x6 b d
  · exact near_1 x0 x1 x2 x3 x4 x5 x6 b d
  · exact near_2 x0 x1 x2 x3 x4 x5 x6 b d
  · exact near_3 x0 x1 x2 x3 x4 x5 x6 b d

theorem pay49_read : k0_pay49 x0 x1 x2 x3 x4 x5 x6 = x3 := by
  unfold k0_pay49 k0_pay2
  rw [ld3]
  funext i
  obtain ⟨b, j, rfl⟩ : ∃ (b : Fin 1) (j : Fin 64), i = ix2 b j := ⟨i 0, i 1, (ix2_eta i).symm⟩
  pointwise
theorem pay50_read : k0_pay50 x0 x1 x2 x3 x4 x5 x6 = x5 := by
  unfold k0_pay50 k0_pay3
  rw [ld3]
  funext i
  obtain ⟨b, j, rfl⟩ : ∃ (b : Fin 1) (j : Fin 64), i = ix2 b j := ⟨i 0, i 1, (ix2_eta i).symm⟩
  pointwise

/-- The first result over the arrays of the first call. -/
abbrev first (j : Fin 4) (b : Fin 512) (d : Fin 64) : EReal :=
  Spec.one (cur2 x0) (chosen (cur2 x0) (cur3 x1)) (cur2 x2) (cur1 x3) (cur2 x4) (cur1 x5) (cur2 x6) j b d

theorem canon_whole (p : Vec Ideal S512x64 .f32) : View.canon [(⟨r0_0, p⟩ : View.Piece (Elt Ideal) S512x64 .f32)] = p :=
  View.canon_cons_unit_lit _ _ _ (by decide)

theorem out7_read (b : Fin 512) (d : Fin 64) : out0_7 x0 x1 x2 x3 x4 x5 x6 (ix2 b d) = first x0 x1 x2 x3 x4 x5 x6 0 b d := by
  unfold out0_7 k0_pay59 k0_pay60 k0_pay61 k0_pay62
  rw [canon_whole, pay49_read, pay50_read, ld0, ld2, ld2, ld2]
  unfold first
  rw [← near4_read x0 x1 x2 x3 x4 x5 x6]
  exact one_0 x0 x2 x3 x4 x5 x6 _ _ _ _ b d
theorem out8_read (b : Fin 512) (d : Fin 64) : out0_8 x0 x1 x2 x3 x4 x5 x6 (ix2 b d) = first x0 x1 x2 x3 x4 x5 x6 1 b d := by
  unfold out0_8 k0_pay63 k0_pay59 k0_pay60 k0_pay61 k0_pay62
  rw [canon_whole, pay49_read, pay50_read, ld0, ld2, ld2, ld2]
  unfold first
  rw [← near4_read x0 x1 x2 x3 x4 x5 x6]
  exact one_1 x0 x2 x3 x4 x5 x6 _ _ _ _ b d
theorem out9_read (b : Fin 512) (d : Fin 64) : out0_9 x0 x1 x2 x3 x4 x5 x6 (ix2 b d) = first x0 x1 x2 x3 x4 x5 x6 2 b d := by
  unfold out0_9 k0_pay63 k0_pay59 k0_pay60 k0_pay61 k0_pay62
  rw [canon_whole, pay49_read, pay50_read, ld0, ld2, ld2, ld2]
  unfold first
  rw [← near4_read x0 x1 x2 x3 x4 x5 x6]
  exact one_2 x0 x2 x3 x4 x5 x6 _ _ _ _ b d
theorem out10_read (b : Fin 512) (d : Fin 64) : out0_10 x0 x1 x2 x3 x4 x5 x6 (ix2 b d) = first x0 x1 x2 x3 x4 x5 x6 3 b d := by
  unfold out0_10 k0_pay63 k0_pay59 k0_pay60 k0_pay61 k0_pay62
  rw [canon_whole, pay49_read, pay50_read, ld0, ld2, ld2, ld2]
  unfold first
  rw [← near4_read x0 x1 x2 x3 x4 x5 x6]
  exact one_3 x0 x2 x3 x4 x5 x6 _ _ _ _ b d

theorem choice_read (b : Fin 512) (j : Fin 4) :
    out0_11 x0 x1 x2 x3 x4 x5 x6 (ix2 b j) = name (sel (Spec.dist (cur2 x0) (cur3 x1) b) j) := by
  rw [choices, dists_read]

end

variable (A B C D : Vec Ideal S512x64 .f32)

theorem stack0 (b : Fin 512) (d : Fin 64) : stack (up A) (up B) (up C) (up D) (ix3 b (0 : Fin 4) d) = A (ix2 b d) := by
  unfold stack
  pointwise
theorem stack1 (b : Fin 512) (d : Fin 64) : stack (up A) (up B) (up C) (up D) (ix3 b (1 : Fin 4) d) = B (ix2 b d) := by
  unfold stack
  pointwise
theorem stack2 (b : Fin 512) (d : Fin 64) : stack (up A) (up B) (up C) (up D) (ix3 b (2 : Fin 4) d) = C (ix2 b d) := by
  unfold stack
  pointwise
theorem stack3 (b : Fin 512) (d : Fin 64) : stack (up A) (up B) (up C) (up D) (ix3 b (3 : Fin 4) d) = D (ix2 b d) := by
  unfold stack
  pointwise

abbrev vec64 (x : FVec Ideal S64 .f32) : Fin 64 → EReal := fun d => x (ix1 d)

theorem bias_read (x : Vec Ideal S64 .f32) : cur1 (bias x) = vec64 x := by
  funext d
  show shapeCast S1x64 x shapeCasts_S64_S1x64 (ix2 (0 : Fin 1) d) = _
  pointwise

variable (m : (ℓ : Loc nD τ sig) → Buf (Elt Ideal) ℓ) (c : Dev nD)

/-- The first result. -/
def firstOf (j : Fin 4) (b : Fin 512) (d : Fin 64) : EReal :=
  Spec.one (cur2 (a0 m c)) (chosen (cur2 (a0 m c)) (cur3 (a1 m c))) (cur2 (a2 m c)) (vec64 (a3 m c)) (cur2 (a4 m c)) (vec64 (a5 m c)) (cur2 (a10 m c)) j b d

theorem stacked_read (b : Fin 512) (j : Fin 4) (d : Fin 64) : stacked m c (ix3 b j d) = firstOf m c j b d := by
  unfold stacked firstOf
  rw [← bias_read (a3 m c), ← bias_read (a5 m c)]
  rcases (by decide : ∀ j : Fin 4, j = 0 ∨ j = 1 ∨ j = 2 ∨ j = 3) j with rfl | rfl | rfl | rfl
  · exact (stack0 _ _ _ _ b d).trans (out7_read _ _ _ _ _ _ _ b d)
  · exact (stack1 _ _ _ _ b d).trans (out8_read _ _ _ _ _ _ _ b d)
  · exact (stack2 _ _ _ _ b d).trans (out9_read _ _ _ _ _ _ _ b d)
  · exact (stack3 _ _ _ _ b d).trans (out10_read _ _ _ _ _ _ _ b d)

theorem one11_read (b : Fin 512) (j : Fin 4) :
    one11 m c (ix2 b j) = name (sel (Spec.dist (cur2 (a0 m c)) (cur3 (a1 m c)) b) j) := choice_read _ _ _ _ _ _ _ b j

end Cert.OneStack

end

end
-- ==== Proof.TwoRead.lean ====
/- The second result of the kernel, entry by entry. -/
module

public import proofs.«01_k».proof.Proof.TwoLoop
public import proofs.«01_k».proof.Proof.OneStack

@[expose] public section

set_option maxRecDepth 16384

noncomputable section

namespace Cert.TwoRead

open Idealize.ShloMosaic Idealize.ShloMosaic.TcCoe Idealize.ShloMosaic.Tactic Idealize.SL.Sem
open Cert.KernelIdeal Cert.KernelIdeal.Whole Cert.Pick Cert.OneSel Cert.OneValue Cert.OneRead Cert.OneStack Cert.Finite
open Cert.KernelIdeal.Gen hiding V0 V1 V2 V3 V4 V5

section
variable (V : (c : Dev nD) → (b : Ref sig .tc) → Buf (Elt Ideal) ((c : Thread nD τ).loc b)) (c : Dev nD)

def t1 : Fin cfg1.N := ⟨0, by decide⟩

theorem blk0 (t : Fin cfg1.N) : (iblk1 V c 0 t : Vec Ideal S512x4 .i32) = V c main_v4_4 := by
  funext y; unfold iblk1
  show V c main_v4_4 _ = _
  congr 1
  funext a
  refine Fin.ext ?_
  exact Pipeline.Window.rect_emb_val_of_index_zero win1_0 t a ((by decide +kernel : ∀ (t : Fin cfg1.N) a, win1_0.index t a = 0) t a) y
theorem blk1 (t : Fin cfg1.N) : (iblk1 V c 1 t : Vec Ideal S2048x64 .f32) = V c main_v10 := by
  funext y; unfold iblk1
  show V c main_v10 _ = _
  congr 1
  funext a
  refine Fin.ext ?_
  exact Pipeline.Window.rect_emb_val_of_index_zero win1_1 t a ((by decide +kernel : ∀ (t : Fin cfg1.N) a, win1_1.index t a = 0) t a) y
theorem blk2 (t : Fin cfg1.N) : (iblk1 V c 2 t : Vec Ideal S18176x64 .f32) = V c main_v11 := by
  funext y; unfold iblk1
  show V c main_v11 _ = _
  congr 1
  funext a
  refine Fin.ext ?_
  exact Pipeline.Window.rect_emb_val_of_index_zero win1_2 t a ((by decide +kernel : ∀ (t : Fin cfg1.N) a, win1_2.index t a = 0) t a) y
theorem blk3 (t : Fin cfg1.N) : (iblk1 V c 3 t : Vec Ideal S64x64 .f32) = V c main_arg6 := by
  funext y; unfold iblk1
  show V c main_arg6 _ = _
  congr 1
  funext a
  refine Fin.ext ?_
  exact Pipeline.Window.rect_emb_val_of_index_zero win1_3 t a ((by decide +kernel : ∀ (t : Fin cfg1.N) a, win1_3.index t a = 0) t a) y
theorem blk4 (t : Fin cfg1.N) : (iblk1 V c 4 t : Vec Ideal S1x64 .f32) = V c main_v2 := by
  funext y; unfold iblk1
  show V c main_v2 _ = _
  congr 1
  funext a
  refine Fin.ext ?_
  exact Pipeline.Window.rect_emb_val_of_index_zero win1_4 t a ((by decide +kernel : ∀ (t : Fin cfg1.N) a, win1_4.index t a = 0) t a) y
theorem blk5 (t : Fin cfg1.N) : (iblk1 V c 5 t : Vec Ideal S64x64 .f32) = V c main_arg8 := by
  funext y; unfold iblk1
  show V c main_arg8 _ = _
  congr 1
  funext a
  refine Fin.ext ?_
  exact Pipeline.Window.rect_emb_val_of_index_zero win1_5 t a ((by decide +kernel : ∀ (t : Fin cfg1.N) a, win1_5.index t a = 0) t a) y
theorem blk6 (t : Fin cfg1.N) : (iblk1 V c 6 t : Vec Ideal S1x64 .f32) = V c main_v3 := by
  funext y; unfold iblk1
  show V c main_v3 _ = _
  congr 1
  funext a
  refine Fin.ext ?_
  exact Pipeline.Window.rect_emb_val_of_index_zero win1_6 t a ((by decide +kernel : ∀ (t : Fin cfg1.N) a, win1_6.index t a = 0) t a) y
theorem blk7 (t : Fin cfg1.N) : (iblk1 V c 7 t : Vec Ideal S64x64 .f32) = V c main_arg11 := by
  funext y; unfold iblk1
  show V c main_arg11 _ = _
  congr 1
  funext a
  refine Fin.ext ?_
  exact Pipeline.Window.rect_emb_val_of_index_zero win1_7 t a ((by decide +kernel : ∀ (t : Fin cfg1.N) a, win1_7.index t a = 0) t a) y

/-- What the second call leaves in its result array. -/
theorem arr8 (hV : InRange V) {page : Fin 512 → Fin 4 → Fin 71} {X0 : Vec Ideal S512x4 .i32} {X1 : FVec Ideal S2048x64 .f32} {X2 : FVec Ideal S18176x64 .f32} {X3 : FVec Ideal S64x64 .f32}
    {X4 : FVec Ideal S1x64 .f32} {X5 : FVec Ideal S64x64 .f32} {X6 : FVec Ideal S1x64 .f32} {X7 : FVec Ideal S64x64 .f32}
    (h0 : V c main_v4_4 = X0) (h1 : V c main_v10 = X1) (h2 : V c main_v11 = X2) (h3 : V c main_arg6 = X3) (h4 : V c main_v2 = X4)
    (h5 : V c main_arg8 = X5) (h6 : V c main_v3 = X6) (h7 : V c main_arg11 = X7)
    (hp : ∀ b j, (X0 (ix2 b j) : BitVec 32).toNat = (page b j).val)
    (r0 : ∀ i, IsReal (X3 i)) (r4 : ∀ i, IsReal (X7 i)) (r1 : ∀ i, IsReal (X1 i)) (r9 : ∀ i, IsReal (k1_pay2 (F := Ideal) X3 X2 X4 i)) :
    (dat1 V hV c).arrAt 8 cfg1.N = TwoLoop.twoArr X1 (k1_pay2 (F := Ideal) X3 X2 X4) page X3 X5 X6 X7 := by
  subst h0 h1 h2 h3 h4 h5 h6 h7
  refine (dat1 V hV c).arrAt_eq_of_after_last 8 t1 (by decide +kernel) _ fun j => ?_
  blk_simp
  rw [after1_8]
  unfold outsAt1
  have key := TwoLoop.out_read c (ms1_0 t1) (hs1_0 t1) (ms1_1 t1) (hs1_1 t1) (ms1_2 t1) (hs1_2 t1) (ms1_3 t1) (hs1_3 t1) (ms1_4 t1) (hs1_4 t1) (ms1_5 t1) (hs1_5 t1) (ms1_6 t1) (hs1_6 t1) (ms1_7 t1) (hs1_7 t1) (ms1_8 t1) (hs1_8 t1) scM1_0 (Memref.isWhole_whole _)
    (iblk1 V c 0 t1) (iblk1 V c 1 t1) (iblk1 V c 2 t1) (iblk1 V c 3 t1) (iblk1 V c 4 t1) (iblk1 V c 5 t1) (iblk1 V c 6 t1) (iblk1 V c 7 t1) (hV.blk c t1) (page := page)
    (fun b j => by rw [blk0]; exact hp b j) (fun i => by rw [blk3]; exact r0 i) (fun i => by rw [blk7]; exact r4 i) (fun i => by rw [blk1]; exact r1 i)
    (fun i => by rw [blk2, blk3, blk4]; exact r9 i)
  rw [key, blk1, blk2, blk3, blk4, blk5, blk6, blk7]
end

theorem pay2_read (W : FVec Ideal S64x64 .f32) (X : FVec Ideal S18176x64 .f32) (b : FVec Ideal S1x64 .f32) (q : Fin 18176) (d : Fin 64) :
    (k1_pay2 (F := Ideal) W X b (ix2 q d) : EReal) = ∑ k, (X (ix2 q k) : EReal) * W (ix2 k d) + b (ix2 (0 : Fin 1) d) := by
  unfold k1_pay2
  rw [shapeCast_self, shapeCast_self, shapeCast_self]
  pointwise

theorem bank_read (X : FVec Ideal S71x256x64 .f32) (p : Fin 71) (s : Fin 256) (k : Fin 64) (h : p.val * 256 + s.val < 18176) :
    (shapeCast S18176x64 X shapeCasts_S71x256x64_S18176x64 (ix2 (⟨p.val * 256 + s.val, h⟩ : Fin 18176) k) : EReal) = X (ix3 p s k) := by
  pointwise

theorem rows_read (X : FVec Ideal S512x4x64 .f32) (b : Fin 512) (j : Fin 4) (k : Fin 64) (h : 4 * b.val + j.val < 2048) :
    (shapeCast S2048x64 X shapeCasts_S512x4x64_S2048x64 (ix2 (⟨4 * b.val + j.val, h⟩ : Fin 2048) k) : EReal) = X (ix3 b j k) := by
  pointwise

theorem back_read (X : FVec Ideal S2048x64 .f32) (b : Fin 512) (j : Fin 4) (k : Fin 64) (h : 4 * b.val + j.val < 2048) :
    (shapeCast S512x4x64 X shapeCasts_S2048x64_S512x4x64 (ix3 b j k) : EReal) = X (ix2 (⟨4 * b.val + j.val, h⟩ : Fin 2048) k) := by
  pointwise
  exact congrArg (fun q => X (ix2 q k)) (Fin.ext (by show b.val * 4 + j.val = 4 * b.val + j.val; omega))

theorem name_toNat (p : Fin 71) : (name p).toNat = p.val := by
  unfold name
  rw [BitVec.toNat_ofNat]
  exact Nat.mod_eq_of_lt (by have := p.isLt; omega)

variable (m : (ℓ : Loc nD τ sig) → Buf (Elt Ideal) ℓ) (c : Dev nD)

/-- The page that choice `j` of token `b` names. -/
def pageOf (b : Fin 512) (j : Fin 4) : Fin 71 := sel (Spec.dist (cur2 (a0 m c)) (cur3 (a1 m c)) b) j

/-- The first result's rows are real, of real tokens. -/
theorem firstOf_real (h0 : ∀ i, IsReal (a0 m c i)) (b : Fin 512) (j : Fin 4) (d : Fin 64) : IsReal (firstOf m c j b d) := by
  unfold firstOf Spec.one
  exact (isReal_one.add (isReal_tanh _)).mul (h0 _)

theorem stacked_real (h0 : ∀ i, IsReal (a0 m c i)) (i : S2048x64.Idx) : IsReal (shapeCast S2048x64 (stacked m c) shapeCasts_S512x4x64_S2048x64 i) := by
  obtain ⟨q, hq⟩ : ∃ q : Fin 2048, q = ⟨(i 0).val, (i 0).isLt⟩ := ⟨_, rfl⟩
  obtain ⟨d, hd⟩ : ∃ d : Fin 64, d = ⟨(i 1).val, (i 1).isLt⟩ := ⟨_, rfl⟩
  have ei : i = ix2 q d := by
    subst hq hd
    funext a
    fin_cases a <;> rfl
  have eq : q = (⟨4 * (⟨q.val / 4, by omega⟩ : Fin 512).val + (⟨q.val % 4, by omega⟩ : Fin 4).val, by show 4 * (q.val / 4) + q.val % 4 < 2048; omega⟩ : Fin 2048) :=
    Fin.ext (by show q.val = 4 * (q.val / 4) + q.val % 4; omega)
  rw [ei, eq, rows_read, stacked_read]
  exact firstOf_real m c h0 _ _ _

theorem pay2_real {W : FVec Ideal S64x64 .f32} {X : FVec Ideal S18176x64 .f32} {b : FVec Ideal S1x64 .f32} (hW : ∀ i, IsReal (W i)) (hX : ∀ i, IsReal (X i))
    (hb : ∀ i, IsReal (b i)) (i : S18176x64.Idx) : IsReal (k1_pay2 (F := Ideal) W X b i) := by
  have ei : i = ix2 (⟨(i 0).val, (i 0).isLt⟩ : Fin 18176) (⟨(i 1).val, (i 1).isLt⟩ : Fin 64) := by
    funext a
    fin_cases a <;> rfl
  rw [ei, pay2_read]
  exact (IsReal.sum fun k => (hX _).mul (hW _)).add (hb _)

/-- The second result's array. -/
def second : FVec Ideal S2048x64 .f32 :=
  TwoLoop.twoArr (shapeCast S2048x64 (stacked m c) shapeCasts_S512x4x64_S2048x64)
    (k1_pay2 (F := Ideal) (a6 m c) (shapeCast S18176x64 (a1 m c) shapeCasts_S71x256x64_S18176x64) (bias (a7 m c))) (pageOf m c) (a6 m c) (a8 m c) (bias (a9 m c)) (a11 m c)

theorem W4_v12 (h0 : ∀ i, IsReal (a0 m c i)) (h1 : ∀ i, IsReal (a1 m c i)) (h6 : ∀ i, IsReal (a6 m c i)) (h7 : ∀ i, IsReal (a7 m c i)) (h11 : ∀ i, IsReal (a11 m c i)) :
    W4 m (inRange m) c (Proc.devRef .tc main_v12) = second m c := by
  refine (W4_arr m (inRange m) c 8).trans ?_
  unfold second
  refine arr8 (V3 m) c (inRange m) (page := pageOf m c) (W3_v4_4 m c) (W3_v10 m c) (W3_v11 m c) (W3_args m c main_arg6 (by decide)) (W3_v2 m c)
    (W3_args m c main_arg8 (by decide)) (W3_v3 m c) (W3_args m c main_arg11 (by decide)) ?_ h6 h11 (stacked_real m c h0) (pay2_real h6 (fun i => h1 _) (fun i => h7 _))
  intro b j
  rw [one11_read]
  exact name_toNat _

/-- The second result, reshaped. -/
theorem W5_v13 (h0 : ∀ i, IsReal (a0 m c i)) (h1 : ∀ i, IsReal (a1 m c i)) (h6 : ∀ i, IsReal (a6 m c i)) (h7 : ∀ i, IsReal (a7 m c i)) (h11 : ∀ i, IsReal (a11 m c i)) :
    W5 m (inRange m) c (Proc.devRef .tc main_v13) = shapeCast S512x4x64 (second m c) shapeCasts_S2048x64_S512x4x64 := by
  rw [← W4_v12 m c h0 h1 h6 h7 h11]
  unfold W5
  after_results_simp
  rfl

/-- The projected page of choice `j` of token `b`, less the projected row. -/
def innerOf (b : Fin 512) (j : Fin 4) (s : Fin 256) (d : Fin 64) : EReal :=
  (∑ k, cur3 (a1 m c) (pageOf m c b j) s k * cur2 (a6 m c) k d + vec64 (a7 m c) d) - ∑ k, firstOf m c j b k * cur2 (a6 m c) k d

theorem second_read (b : Fin 512) (j : Fin 4) (d : Fin 64) :
    (shapeCast S512x4x64 (second m c) shapeCasts_S2048x64_S512x4x64 (ix3 b j d) : EReal)
      = Spec.two (innerOf m c b j) (firstOf m c j b) (cur2 (a8 m c)) (vec64 (a9 m c)) (cur2 (a11 m c)) d := by
  have hlt : 4 * b.val + j.val < 2048 := by omega
  rw [back_read _ b j d hlt]
  show TwoLoop.two _ _ _ _ _ _ _ (⟨4 * b.val + j.val, hlt⟩ : Fin 2048) d = _
  unfold TwoLoop.two
  have eb : (⟨(⟨4 * b.val + j.val, hlt⟩ : Fin 2048).val / 4, by show (4 * b.val + j.val) / 4 < 512; omega⟩ : Fin 512) = b :=
    Fin.ext (by show (4 * b.val + j.val) / 4 = b.val; omega)
  have ej : (⟨(⟨4 * b.val + j.val, hlt⟩ : Fin 2048).val % 4, by show (4 * b.val + j.val) % 4 < 4; omega⟩ : Fin 4) = j :=
    Fin.ext (by show (4 * b.val + j.val) % 4 = j.val; omega)
  have e1 : ∀ k, (shapeCast S2048x64 (stacked m c) shapeCasts_S512x4x64_S2048x64 (ix2 (⟨4 * b.val + j.val, hlt⟩ : Fin 2048) k) : EReal) = firstOf m c j b k := fun k => by
    rw [rows_read, stacked_read]
  have e2 : TwoValue.curBias (bias (a9 m c)) = vec64 (a9 m c) := bias_read (a9 m c)
  have e3 : ∀ d, (bias (a7 m c) (ix2 (0 : Fin 1) d) : EReal) = vec64 (a7 m c) d := fun d => congrFun (bias_read (a7 m c)) d
  simp only [eb, ej, e1, e2, pay2_read, bank_read, e3]
  rfl

end Cert.TwoRead

end

end
-- ==== Proof.Value.lean ====
/- The kernel's two results are the reference's. -/
module

public import proofs.«01_k».proof.Defs
public import proofs.«01_k».proof.Proof.RefThree
public import proofs.«01_k».proof.Proof.TwoRead
public import proofs.«01_k».proof.Proof.Gen.Pre_finite

@[expose] public section

set_option maxRecDepth 16384

noncomputable section

namespace Cert.ValueOf

open Idealize.ShloMosaic Idealize.ShloMosaic.TcCoe Idealize.ShloMosaic.StableHlo Idealize.SL.Sem Cert.Pick Cert.Finite
open Cert.OneValue Cert.OneRead Cert.OneStack Cert.TwoRead
open Cert.KernelIdeal.Whole (W3 W5 runs)

section
variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))
variable (e0 : RefOne.b0 V = a0 m c) (e1 : RefOne.b1 V = a1 m c) (e2 : RefOne.b2 V = a2 m c) (e3 : RefOne.b3 V = a3 m c) (e4 : RefOne.b4 V = a4 m c)
  (e5 : RefOne.b5 V = a5 m c) (e6 : RefOne.b6 V = a6 m c) (e7 : RefOne.b7 V = a7 m c) (e8 : RefOne.b8 V = a8 m c) (e9 : RefOne.b9 V = a9 m c)
  (e10 : RefOne.b10 V = a10 m c) (e11 : RefOne.b11 V = a11 m c)
variable (h0 : ∀ i, IsReal (a0 m c i)) (h1 : ∀ i, IsReal (a1 m c i)) (h6 : ∀ i, IsReal (a6 m c i)) (h7 : ∀ i, IsReal (a7 m c i))
  (h8 : ∀ i, IsReal (a8 m c i)) (h11 : ∀ i, IsReal (a11 m c i))

theorem idx3 (i : Cert.KernelIdeal.S512x4x64.Idx) : ∃ (b : Fin 512) (j : Fin 4) (d : Fin 64), i = ix3 b j d :=
  ⟨⟨(i 0).val, (i 0).isLt⟩, ⟨(i 1).val, (i 1).isLt⟩, ⟨(i 2).val, (i 2).isLt⟩, by funext a; fin_cases a <;> rfl⟩

include e0 e1 e2 e3 e4 e5 e10 h0 h1 in
/-- The first result, at an index. -/
theorem first_at (b : Fin 512) (j : Fin 4) (d : Fin 64) : (Cert.ReferenceIdeal.Value.res_main_v60 V (ix3 b j d) : EReal) = firstOf m c j b d := by
  rw [RefTwo.v60_read V (by rw [e0]; exact h0) (by rw [e1]; exact h1) b j d]
  unfold firstOf chosen RefTwo.N RefOne.picks RefOne.T RefOne.B RefTwo.w2 RefTwo.w1
  rw [e0, e1, e2, e3, e4, e5, e10]

include e0 e1 e2 e3 e4 e5 e10 h0 h1 in
theorem first_eq : stacked m c = Cert.ReferenceIdeal.Value.res_main_v60 V := by
  funext i
  obtain ⟨b, j, d, rfl⟩ := idx3 i
  exact (stacked_read m c b j d).trans (first_at m c V e0 e1 e2 e3 e4 e5 e10 h0 h1 b j d).symm

include e0 e1 e2 e3 e4 e5 e6 e7 e10 h0 h1 h6 h7 in
/-- The reference projects the difference, the kernel the difference of the projections. -/
theorem inner_eq (b : Fin 512) (j : Fin 4) : RefThree.inner V b j = innerOf m c b j := by
  funext s d
  have eB : RefOne.B V = cur3 (a1 m c) := by
    unfold RefOne.B
    rw [e1]
  unfold RefThree.inner innerOf RefThree.o RefOne.picks RefOne.T RefTwo.w2 RefTwo.w1 pageOf
  simp only [first_at m c V e0 e1 e2 e3 e4 e5 e10 h0 h1]
  rw [Algebra.project_sub (fun k => h1 _) (fun k => firstOf_real m c h0 b j k) (fun k => h6 _) (h7 _)]
  rw [eB, e0, e6, e7]

include h0 h1 h6 h7 in
theorem innerOf_real (b : Fin 512) (j : Fin 4) (s : Fin 256) (d : Fin 64) : IsReal (innerOf m c b j s d) := by
  unfold innerOf
  exact ((IsReal.sum fun k => (h1 _).mul (h6 _)).add (h7 _)).sub (IsReal.sum fun k => (firstOf_real m c h0 b j k).mul (h6 _))

include e0 e1 e2 e3 e4 e5 e6 e7 e8 e9 e10 e11 h0 h1 h6 h7 h8 h11 in
theorem second_eq : shapeCast Cert.KernelIdeal.S512x4x64 (second m c) Cert.KernelIdeal.Gen.facts.shapeCasts_S2048x64_S512x4x64 = RefThree.last V := by
  funext i
  obtain ⟨b, j, d, rfl⟩ := idx3 i
  refine (second_read m c b j d).trans ?_
  refine Eq.trans ?_ (RefThree.last_read V (by rw [e0]; exact h0) (by rw [e1]; exact h1) b j d).symm
  rw [inner_eq m c V e0 e1 e2 e3 e4 e5 e6 e7 e10 h0 h1 h6 h7 b j]
  have eo : RefThree.o V b j = firstOf m c j b := funext fun k => first_at m c V e0 e1 e2 e3 e4 e5 e10 h0 h1 b j k
  rw [eo]
  refine (Algebra.two_eq (fun s d => innerOf_real m c h0 h1 h6 h7 b j s d) (fun k d => h11 _) _ (fun k => firstOf_real m c h0 b j k) (fun k d => h8 _) d).symm.trans ?_
  unfold RefTwo.w2 RefTwo.w1
  rw [e8, e9, e11]

end

/-- The two programs, from agreeing arguments of which six are finite, end with equal results. -/
theorem algebraic : Cert.algebraic_KernelIdeal_ReferenceIdeal_pre_finite := by
  intro m g m' g' hpre hm
  have fin : ∀ c : Dev Cert.KernelIdeal.nD, _ := fun c => bits _ _ _ _ _ _ _ _ _ _ _ _ (fun k => k.elim0) (congrFun (hpre c) (fun k => k.elim0))
  refine ⟨fun c => stacked m c, fun c => shapeCast Cert.KernelIdeal.S512x4x64 (second m c) Cert.KernelIdeal.Gen.facts.shapeCasts_S2048x64_S512x4x64, ?_, ?_⟩
  · refine (θ_run Cert.KernelIdeal.defs _ _).mono (fun r h c => ?_) (runs m g (inRange m))
    obtain ⟨f0, f1, f6, f7, f8, f11⟩ := fin c
    obtain ⟨ga, g9, g13⟩ := h.1 c
    exact ⟨g9.trans (W3_v9 m c), g13.trans (W5_v13 m c f0 f1 f6 f7 f11),
      ga _ (by decide), ga _ (by decide), ga _ (by decide), ga _ (by decide), ga _ (by decide), ga _ (by decide),
      ga _ (by decide), ga _ (by decide), ga _ (by decide), ga _ (by decide), ga _ (by decide), ga _ (by decide)⟩
  · refine (θ_run Cert.ReferenceIdeal.defs _ _).mono (fun r h c => ?_) (Cert.ReferenceIdeal.Value.run (F := Ideal) m' g')
    obtain ⟨f0, f1, f6, f7, f8, f11⟩ := fin c
    obtain ⟨q0, q1, q2, q3, q4, q5, q6, q7, q8, q9, q10, q11⟩ := hm c
    obtain ⟨r60, r102, rest⟩ := h c
    have hf := first_eq m c (launchContents m' c) q0 q1 q2 q3 q4 q5 q10 f0 f1
    have hs := second_eq m c (launchContents m' c) q0 q1 q2 q3 q4 q5 q6 q7 q8 q9 q10 q11 f0 f1 f6 f7 f8 f11
    exact ⟨r60.trans hf.symm, r102.trans hs.symm, rest⟩

end Cert.ValueOf

end

end
-- ==== Proof.lean ====
module

public import proofs.«01_k».proof.Defs
public import proofs.«01_k».proof.Proof.Gen.StageOne
public import proofs.«01_k».proof.Proof.Gen.StageOne.Skeleton
public import proofs.«01_k».proof.Proof.Gen.StageOne.Launch
public import proofs.«01_k».proof.Proof.Gen.StageOne.Points
public import proofs.«01_k».proof.Proof.Gen.StageOne.Frame
public import proofs.«01_k».proof.Proof.Gen.StageTwo
public import proofs.«01_k».proof.Proof.Gen.StageTwo.Skeleton
public import proofs.«01_k».proof.Proof.Gen.StageTwo.Loops
public import proofs.«01_k».proof.Proof.Gen.StageTwo.Launch
public import proofs.«01_k».proof.Proof.Gen.StageTwo.Points
public import proofs.«01_k».proof.Proof.Gen.StageTwo.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.StageOneIdeal
public import proofs.«01_k».proof.Proof.Gen.StageOneIdeal.Skeleton
public import proofs.«01_k».proof.Proof.Gen.StageOneIdeal.Launch
public import proofs.«01_k».proof.Proof.Gen.StageOneIdeal.Points
public import proofs.«01_k».proof.Proof.Gen.StageOneIdeal.Frame
public import proofs.«01_k».proof.Proof.Gen.StageTwoIdeal
public import proofs.«01_k».proof.Proof.Gen.StageTwoIdeal.Skeleton
public import proofs.«01_k».proof.Proof.Gen.StageTwoIdeal.Loops
public import proofs.«01_k».proof.Proof.Gen.StageTwoIdeal.Launch
public import proofs.«01_k».proof.Proof.Gen.StageTwoIdeal.Points
public import proofs.«01_k».proof.Proof.Gen.StageTwoIdeal.Frame
public import proofs.«01_k».proof.Proof.Gen.Pre_in_range
public import proofs.«01_k».proof.Proof.Gen.Pre_finite
public import proofs.«01_k».proof.Proof.Pages
public import proofs.«01_k».proof.Proof.PagesIdeal
public import proofs.«01_k».proof.Proof.Quiet
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.StageOne

theorem claim : Cert.Claim := ⟨Cert.StageOne.Gen.facts, Cert.StageTwo.Gen.facts, Cert.KernelIdeal.Gen.facts, Cert.ReferenceIdeal.Gen.facts, Cert.StageOneIdeal.Gen.facts, Cert.StageTwoIdeal.Gen.facts, Cert.Pre_in_range.Gen.facts, Cert.Pre_finite.Gen.facts,
  fun m ρ _ => Cert.StageOne.Gen.frame m ρ,
  fun m ρ h => Cert.StageTwo.Gen.frame m ρ (Cert.Pages.hyps_StageTwo m h),
  Cert.Frames.kernel_unchanged,
  fun m ρ _ => Cert.Frames.kernel_unchanged m ρ trivial,
  Cert.Quiet.reference_unchanged,
  Cert.Quiet.reference_unchanged_finite,
  fun m ρ _ => Cert.StageOneIdeal.Gen.frame m ρ,
  fun m ρ h => Cert.StageTwoIdeal.Gen.frame m ρ (Cert.PagesIdeal.hyps_StageTwoIdeal m h),
  trivial, trivial,
  Cert.ValueOf.algebraic⟩

end Cert.Proof

end
